-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v137) = v0 c
          ∧ r.2.mem ((c.tc : Thread Cert.Reference3Ideal.nD Cert.Reference3Ideal.τ).loc Cert.Reference3Ideal.main_v139) = v1 c
          ∧ r.2.mem ((c.tc : Thread Cert.Reference3Ideal.nD Cert.Reference3Ideal.τ).loc Cert.Reference3Ideal.main_v141) = v2 c
          ∧ r.2.mem ((c.tc : Thread Cert.Reference3Ideal.nD Cert.Reference3Ideal.τ).loc Cert.Reference3Ideal.main_v143) = v3 c
          ∧ r.2.mem ((c.tc : Thread Cert.Reference3Ideal.nD Cert.Reference3Ideal.τ).loc Cert.Reference3Ideal.main_v145) = v4 c
          ∧ r.2.mem ((c.tc : Thread Cert.Reference3Ideal.nD Cert.Reference3Ideal.τ).loc Cert.Reference3Ideal.main_v147) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v96) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S4x64 : Shape := ⟨2, ![4, 64]⟩
abbrev S1x128 : Shape := ⟨2, ![1, 128]⟩
abbrev S8x4x8192x128 : Shape := ⟨4, ![8, 4, 8192, 128]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S8x4x8192x128 : S_.BroadcastsInDim S8x4x8192x128 (![] : Fin 0 → Fin S8x4x8192x128.rank)

variable [Facts]

def fn {F : FTy → Type} [FloatOps F] (main_arg0 : FVec F S4x64 .f32) (main_arg1 : FVec F S1x128 .f32) (main_arg2 : FVec F S8x4x8192x128 .bf16) (main_arg3 : FVec F S8x4x8192x128 .bf16) (main_arg4 : FVec F S8x4x8192x128 .bf16) : IVec S4x64 1 × IVec S8x4x8192x128 1 × IVec S8x4x8192x128 1 × IVec S8x4x8192x128 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S8x4x8192x128 .f32 := (extf .f32 · bitsLt_bf16_f32) main_arg2
  let main_v4 : FVec F S8x4x8192x128 .f32 := Host.absf main_v3
  let main_cst_0 : FVec F S_ .f32 := constant S_ .f32 0x7F800000#32
  let main_v5 : FVec F S8x4x8192x128 .f32 := broadcastInDim S8x4x8192x128 ![] bcast_S_S8x4x8192x128 main_cst_0
  let main_v6 : IVec S8x4x8192x128 1 := cmpf .olt main_v4 main_v5
  let main_v7 : FVec F S8x4x8192x128 .f32 := (extf .f32 · bitsLt_bf16_f32) main_arg3
  let main_v8 : FVec F S8x4x8192x128 .f32 := Host.absf main_v7
  let main_cst_1 : FVec F S_ .f32 := constant S_ .f32 0x7F800000#32
  let main_v9 : FVec F S8x4x8192x128 .f32 := broadcastInDim S8x4x8192x128 ![] bcast_S_S8x4x8192x128 main_cst_1
  let main_v10 : IVec S8x4x8192x128 1 := cmpf .olt main_v8 main_v9
  let main_v11 : FVec F S8x4x8192x128 .f32 := (extf .f32 · bitsLt_bf16_f32) main_arg4
  let main_v12 : FVec F S8x4x8192x128 .f32 := Host.absf main_v11
  let main_cst_2 : FVec F S_ .f32 := constant S_ .f32 0x7F800000#32
  let main_v13 : FVec F S8x4x8192x128 .f32 := broadcastInDim S8x4x8192x128 ![] bcast_S_S8x4x8192x128 main_cst_2
  let main_v14 : IVec S8x4x8192x128 1 := cmpf .olt main_v12 main_v13
  (main_v2, main_v6, main_v10, main_v14)
-- ==== Pre_finite_scores.lean ====
abbrev S8x4x8192x256 : Shape := ⟨4, ![8, 4, 8192, 256]⟩
abbrev S8x4x8192x128 : Shape := ⟨4, ![8, 4, 8192, 128]⟩
abbrev S_ : Shape := ⟨0, ![]⟩

class Facts : Prop where
  bitsLt_bf16_f32 : FTy.bits .bf16 < FTy.bits .f32
  bcast_S_S8x4x8192x256 : S_.BroadcastsInDim S8x4x8192x256 (![] : Fin 0 → Fin S8x4x8192x256.rank)

variable [Facts]

def fn {F : FTy → Type} [FloatOps F] (main_arg0 : FVec F S8x4x8192x256 .bf16) (main_arg1 : FVec F S8x4x8192x256 .bf16) (main_arg2 : FVec F S8x4x8192x128 .bf16) : IVec S8x4x8192x256 1 × IVec S8x4x8192x256 1 :=
  let main_v0 : FVec F S8x4x8192x256 .f32 := (extf .f32 · bitsLt_bf16_f32) main_arg0
  let main_v1 : FVec F S8x4x8192x256 .f32 := Host.absf main_v0
  let main_cst : FVec F S_ .f32 := constant S_ .f32 0x7F800000#32
  let main_v2 : FVec F S8x4x8192x256 .f32 := broadcastInDim S8x4x8192x256 ![] bcast_S_S8x4x8192x256 main_cst
  let main_v3 : IVec S8x4x8192x256 1 := cmpf .olt main_v1 main_v2
  let main_v4 : FVec F S8x4x8192x256 .f32 := (extf .f32 · bitsLt_bf16_f32) main_arg1
  let main_v5 : FVec F S8x4x8192x256 .f32 := Host.absf main_v4
  let main_cst_0 : FVec F S_ .f32 := constant S_ .f32 0x7F800000#32
  let main_v6 : FVec F S8x4x8192x256 .f32 := broadcastInDim S8x4x8192x256 ![] bcast_S_S8x4x8192x256 main_cst_0
  let main_v7 : IVec S8x4x8192x256 1 := cmpf .olt main_v5 main_v6
  (main_v3, main_v7)
-- ==== Kernel.lean ====
abbrev S8x4x8192x256 : Shape := ⟨4, ![8, 4, 8192, 256]⟩
abbrev S8x4x8192x128 : Shape := ⟨4, ![8, 4, 8192, 128]⟩
abbrev S8x8192x512 : Shape := ⟨3, ![8, 8192, 512]⟩
abbrev S1x2x512x256 : Shape := ⟨4, ![1, 2, 512, 256]⟩
abbrev S1x2x8192x256 : Shape := ⟨4, ![1, 2, 8192, 256]⟩
abbrev S1x2x8192x128 : Shape := ⟨4, ![1, 2, 8192, 128]⟩
abbrev S1x512x256 : Shape := ⟨3, ![1, 512, 256]⟩
abbrev S3x512x1024 : Shape := ⟨3, ![3, 512, 1024]⟩
abbrev S1x1x512x256 : Shape := ⟨4, ![1, 1, 512, 256]⟩
abbrev S512x256 : Shape := ⟨2, ![512, 256]⟩
abbrev S1024x128 : Shape := ⟨2, ![1024, 128]⟩
abbrev S1x1x1024x256 : Shape := ⟨4, ![1, 1, 1024, 256]⟩
abbrev S1024x256 : Shape := ⟨2, ![1024, 256]⟩
abbrev S512x1024 : Shape := ⟨2, ![512, 1024]⟩
abbrev S1x512x1024 : Shape := ⟨3, ![1, 512, 1024]⟩
abbrev S512x1 : Shape := ⟨2, ![512, 1]⟩
abbrev S1x1x1024x128 : Shape := ⟨4, ![1, 1, 1024, 128]⟩
abbrev S512 : Shape := ⟨1, ![512]⟩
abbrev S512x128 : Shape := ⟨2, ![512, 128]⟩
abbrev S1x512x128 : Shape := ⟨3, ![1, 512, 128]⟩

abbrev nBuf : Space → Nat
  | .hbm => 4
  | .vmem => 9
  | .smem => 0
  | _ => 0

abbrev bufTy : (tb : Table) → Fin (tcTables nBuf tb) → BufTy
  | .hbm, ⟨0, _⟩ => ⟨S8x4x8192x256, .bf16⟩
  | .hbm, ⟨1, _⟩ => ⟨S8x4x8192x256, .bf16⟩
  | .hbm, ⟨2, _⟩ => ⟨S8x4x8192x128, .bf16⟩
  | .hbm, ⟨3, _⟩ => ⟨S8x8192x512, .bf16⟩
  | .local _ .vmem, ⟨0, _⟩ => ⟨S1x2x512x256, .bf16⟩
  | .local _ .vmem, ⟨1, _⟩ => ⟨S1x2x512x256, .bf16⟩
  | .local _ .vmem, ⟨2, _⟩ => ⟨S1x2x8192x256, .bf16⟩
  | .local _ .vmem, ⟨3, _⟩ => ⟨S1x2x8192x256, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1x512x256, .bf16⟩
  | .local _ .vmem, ⟨7, _⟩ => ⟨S1x512x256, .bf16⟩
  | .local _ .vmem, ⟨8, _⟩ => ⟨S3x512x1024, .f32⟩
  | _, _ => ⟨S8x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4x8192x256 : Shape := ⟨4, ![8, 4, 8192, 256]⟩
abbrev S8x4x8192x128 : Shape := ⟨4, ![8, 4, 8192, 128]⟩
abbrev S8x4x8192x8192 : Shape := ⟨4, ![8, 4, 8192, 8192]⟩
abbrev S_ : Shape := ⟨0, ![]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x8192x4x128 : Shape := ⟨4, ![8, 8192, 4, 128]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4x8192x256, .bf16⟩
  | .hbm, ⟨1, _⟩ => ⟨S8x4x8192x256, .bf16⟩
  | .hbm, ⟨2, _⟩ => ⟨S8x4x8192x128, .bf16⟩
  | .hbm, ⟨3, _⟩ => ⟨S8x4x8192x256, .f32⟩
  | .hbm, ⟨4, _⟩ => ⟨S8x4x8192x256, .f32⟩
  | .hbm, ⟨5, _⟩ => ⟨S8x4x8192x128, .f32⟩
  | .hbm, ⟨6, _⟩ => ⟨S8x4x8192x8192, .f32⟩
  | .hbm, ⟨7, _⟩ => ⟨S_, .f32⟩
  | .hbm, ⟨8, _⟩ => ⟨S_, .f32⟩
  | .hbm, ⟨9, _⟩ => ⟨S8x4x8192x8192, .f32⟩
  | .hbm, ⟨10, _⟩ => ⟨S8x4x8192x8192, .f32⟩
  | .hbm, ⟨11, _⟩ => ⟨S_, .f32⟩
  | .hbm, ⟨12, _⟩ => ⟨S8x4x8192, .f32⟩
  | .hbm, ⟨13, _⟩ => ⟨S_, .f32⟩
  | .hbm, ⟨14, _⟩ => ⟨S8x4x8192, .f32⟩
  | .hbm, ⟨15, _⟩ => ⟨S8x4x8192, .f32⟩
  | .hbm, ⟨16, _⟩ => ⟨S8x4x8192x1, .f32⟩
  | .hbm, ⟨17, _⟩ => ⟨S8x4x8192x8192, .f32⟩
  | .hbm, ⟨18, _⟩ => ⟨S8x4x8192x8192, .f32⟩
  | .hbm, ⟨19, _⟩ => ⟨S8x4x8192x8192, .f32⟩
  | .hbm, ⟨20, _⟩ => ⟨S_, .f32⟩
  | .hbm, ⟨21, _⟩ => ⟨S8x4x8192, .f32⟩
  | .hbm, ⟨22, _⟩ => ⟨S8x4x8192x1, .f32⟩
  | .hbm, ⟨23, _⟩ => ⟨S8x4x8192x8192, .f32⟩
  | .hbm, ⟨24, _⟩ => ⟨S8x4x8192x8192, .f32⟩
  | .hbm, ⟨25, _⟩ => ⟨S8x4x128x8192, .f32⟩
  | .hbm, ⟨26, _⟩ => ⟨S8x8192x4x128, .f32⟩
  | .hbm, ⟨27, _⟩ => ⟨S8x8192x512, .f32⟩
  | .hbm, ⟨28, _⟩ => ⟨S8x8192x512, .bf16⟩
  | _, _ => ⟨S8x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S4x64 : Shape := ⟨2, ![4, 64]⟩
abbrev S1x128 : Shape := ⟨2, ![1, 128]⟩
abbrev S8x4x8192x128 : Shape := ⟨4, ![8, 4, 8192, 128]⟩
abbrev S8x8192x512 : Shape := ⟨3, ![8, 8192, 512]⟩
abbrev S1x2x512x128 : Shape := ⟨4, ![1, 2, 512, 128]⟩
abbrev S1x2x8192x128 : Shape := ⟨4, ![1, 2, 8192, 128]⟩
abbrev S1x512x256 : Shape := ⟨3, ![1, 512, 256]⟩
abbrev S3x512x1024 : Shape := ⟨3, ![3, 512, 1024]⟩
abbrev S1x1x512x128 : Shape := ⟨4, ![1, 1, 512, 128]⟩
abbrev S512x128 : Shape := ⟨2, ![512, 128]⟩
abbrev S1024x128 : Shape := ⟨2, ![1024, 128]⟩
abbrev S1x1x1024x128 : Shape := ⟨4, ![1, 1, 1024, 128]⟩
abbrev S512x1024 : Shape := ⟨2, ![512, 1024]⟩
abbrev S1x512x1024 : Shape := ⟨3, ![1, 512, 1024]⟩
abbrev S512x1 : Shape := ⟨2, ![512, 1]⟩
abbrev S512x256 : Shape := ⟨2, ![512, 256]⟩
abbrev S1024x256 : Shape := ⟨2, ![1024, 256]⟩
abbrev S512 : Shape := ⟨1, ![512]⟩
abbrev S1x64 : Shape := ⟨2, ![1, 64]⟩
abbrev S1 : Shape := ⟨1, ![1]⟩
abbrev S1x1 : Shape := ⟨2, ![1, 1]⟩
abbrev S1x512x128 : Shape := ⟨3, ![1, 512, 128]⟩

abbrev nBuf : Space → Nat
  | .hbm => 6
  | .vmem => 11
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S8x4x8192x128, .bf16⟩
  | .hbm, ⟨3, _⟩ => ⟨S8x4x8192x128, .bf16⟩
  | .hbm, ⟨4, _⟩ => ⟨S8x4x8192x128, .bf16⟩
  | .hbm, ⟨5, _⟩ => ⟨S8x8192x512, .bf16⟩
  | .local _ .vmem, ⟨0, _⟩ => ⟨S4x64, .f32⟩
  | .local _ .vmem, ⟨1, _⟩ => ⟨S1x128, .f32⟩
  | .local _ .vmem, ⟨2, _⟩ => ⟨S1x2x512x128, .bf16⟩
  | .local _ .vmem, ⟨3, _⟩ => ⟨S1x2x512x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1x2x8192x128, .bf16⟩
  | .local _ .vmem, ⟨7, _⟩ => ⟨S1x2x8192x128, .bf16⟩
  | .local _ .vmem, ⟨8, _⟩ => ⟨S1x512x256, .bf16⟩
  | .local _ .vmem, ⟨9, _⟩ => ⟨S1x512x256, .bf16⟩
  | .local _ .vmem, ⟨10, _⟩ => ⟨S3x512x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x64 : Shape := ⟨2, ![4, 64]⟩
abbrev S1x128 : Shape := ⟨2, ![1, 128]⟩
abbrev S8x4x8192x128 : Shape := ⟨4, ![8, 4, 8192, 128]⟩
abbrev S1x64 : Shape := ⟨2, ![1, 64]⟩
abbrev S64 : Shape := ⟨1, ![64]⟩
abbrev S_ : Shape := ⟨0, ![]⟩
abbrev S8x4x8192x64 : Shape := ⟨4, ![8, 4, 8192, 64]⟩
abbrev S8x4x8192x8192 : Shape := ⟨4, ![8, 4, 8192, 8192]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S128 : Shape := ⟨1, ![128]⟩
abbrev S1x1x1x128 : Shape := ⟨4, ![1, 1, 1, 128]⟩
abbrev S8x8192x512 : Shape := ⟨3, ![8, 8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S8x4x8192x128, .bf16⟩
  | .hbm, ⟨3, _⟩ => ⟨S8x4x8192x128, .bf16⟩
  | .hbm, ⟨4, _⟩ => ⟨S8x4x8192x128, .bf16⟩
  | .hbm, ⟨5, _⟩ => ⟨S8x4x8192x128, .f32⟩
  | .hbm, ⟨6, _⟩ => ⟨S8x4x8192x128, .f32⟩
  | .hbm, ⟨7, _⟩ => ⟨S8x4x8192x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x8192x64, .f32⟩
  | .hbm, ⟨30, _⟩ => ⟨S8x4x8192x64, .f32⟩
  | .hbm, ⟨31, _⟩ => ⟨S8x4x8192x8192, .f32⟩
  | .hbm, ⟨32, _⟩ => ⟨S8x4x8192x8192, .f32⟩
  | .hbm, ⟨33, _⟩ => ⟨S8x4x8192x8192, .f32⟩
  | .hbm, ⟨34, _⟩ => ⟨S8x4x8192x64, .f32⟩
  | .hbm, ⟨35, _⟩ => ⟨S8x4x8192x64, .f32⟩
  | .hbm, ⟨36, _⟩ => ⟨S8x4x8192x8192, .f32⟩
  | .hbm, ⟨37, _⟩ => ⟨S8x4x8192x8192, .f32⟩
  | .hbm, ⟨38, _⟩ => ⟨S8x4x8192x8192, .f32⟩
  | .hbm, ⟨39, _⟩ => ⟨S_, .f32⟩
  | .hbm, ⟨40, _⟩ => ⟨S8x4x8192, .f32⟩
  | .hbm, ⟨41, _⟩ => ⟨S_, .f32⟩
  | .hbm, ⟨42, _⟩ => ⟨S8x4x8192, .f32⟩
  | .hbm, ⟨43, _⟩ => ⟨S8x4x8192, .f32⟩
  | .hbm, ⟨44, _⟩ => ⟨S8x4x8192x1, .f32⟩
  | .hbm, ⟨45, _⟩ => ⟨S8x4x8192x8192, .f32⟩
  | .hbm, ⟨46, _⟩ => ⟨S8x4x8192x8192, .f32⟩
  | .hbm, ⟨47, _⟩ => ⟨S8x4x8192x8192, .f32⟩
  | .hbm, ⟨48, _⟩ => ⟨S_, .f32⟩
  | .hbm, ⟨49, _⟩ => ⟨S8x4x8192, .f32⟩
  | .hbm, ⟨50, _⟩ => ⟨S8x4x8192x1, .f32⟩
  | .hbm, ⟨51, _⟩ => ⟨S8x4x8192x8192, .f32⟩
  | .hbm, ⟨52, _⟩ => ⟨S8x4x8192x8192, .f32⟩
  | .hbm, ⟨53, _⟩ => ⟨S_, .f32⟩
  | .hbm, ⟨54, _⟩ => ⟨S8x4x8192, .f32⟩
  | .hbm, ⟨55, _⟩ => ⟨S_, .f32⟩
  | .hbm, ⟨56, _⟩ => ⟨S8x4x8192, .f32⟩
  | .hbm, ⟨57, _⟩ => ⟨S8x4x8192, .f32⟩
  | .hbm, ⟨58, _⟩ => ⟨S8x4x8192x1, .f32⟩
  | .hbm, ⟨59, _⟩ => ⟨S8x4x8192x8192, .f32⟩
  | .hbm, ⟨60, _⟩ => ⟨S8x4x8192x8192, .f32⟩
  | .hbm, ⟨61, _⟩ => ⟨S8x4x8192x8192, .f32⟩
  | .hbm, ⟨62, _⟩ => ⟨S_, .f32⟩
  | .hbm, ⟨63, _⟩ => ⟨S8x4x8192, .f32⟩
  | .hbm, ⟨64, _⟩ => ⟨S8x4x8192x1, .f32⟩
  | .hbm, ⟨65, _⟩ => ⟨S8x4x8192x8192, .f32⟩
  | .hbm, ⟨66, _⟩ => ⟨S8x4x8192x8192, .f32⟩
  | .hbm, ⟨67, _⟩ => ⟨S8x4x8192x8192, .f32⟩
  | .hbm, ⟨68, _⟩ => ⟨S8x4x8192x8192, .f32⟩
  | .hbm, ⟨69, _⟩ => ⟨S8x4x8192x8192, .f32⟩
  | .hbm, ⟨70, _⟩ => ⟨S8x4x128x8192, .f32⟩
  | .hbm, ⟨71, _⟩ => ⟨S8x8192x4x128, .f32⟩
  | .hbm, ⟨72, _⟩ => ⟨S8x8192x4x128, .f32⟩
  | .hbm, ⟨73, _⟩ => ⟨S_, .f32⟩
  | .hbm, ⟨74, _⟩ => ⟨S8x8192x4, .f32⟩
  | .hbm, ⟨75, _⟩ => ⟨S8x8192x4x1, .f32⟩
  | .hbm, ⟨76, _⟩ => ⟨S_, .f32⟩
  | .hbm, ⟨77, _⟩ => ⟨S8x8192x4x1, .f32⟩
  | .hbm, ⟨78, _⟩ => ⟨S8x8192x4x1, .f32⟩
  | .hbm, ⟨79, _⟩ => ⟨S_, .f32⟩
  | .hbm, ⟨80, _⟩ => ⟨S8x8192x4x1, .f32⟩
  | .hbm, ⟨81, _⟩ => ⟨S8x8192x4x1, .f32⟩
  | .hbm, ⟨82, _⟩ => ⟨S8x8192x4x1, .f32⟩
  | .hbm, ⟨83, _⟩ => ⟨S8x8192x4x128, .f32⟩
  | .hbm, ⟨84, _⟩ => ⟨S8x8192x4x128, .f32⟩
  | .hbm, ⟨85, _⟩ => ⟨S128, .f32⟩
  | .hbm, ⟨86, _⟩ => ⟨S1x1x1x128, .f32⟩
  | .hbm, ⟨87, _⟩ => ⟨S8x8192x4x128, .f32⟩
  | .hbm, ⟨88, _⟩ => ⟨S8x8192x4x128, .f32⟩
  | .hbm, ⟨89, _⟩ => ⟨S_, .f32⟩
  | .hbm, ⟨90, _⟩ => ⟨S8x8192x4x128, .f32⟩
  | .hbm, ⟨91, _⟩ => ⟨S8x8192x4x128, .f32⟩
  | .hbm, ⟨92, _⟩ => ⟨S8x8192x512, .f32⟩
  | .hbm, ⟨93, _⟩ => ⟨S8x8192x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x6x1024 : Shape := ⟨3, ![8, 6, 1024]⟩
abbrev S1x1024 : Shape := ⟨2, ![1, 1024]⟩
abbrev S1024x2112 : Shape := ⟨2, ![1024, 2112]⟩
abbrev S1x256 : Shape := ⟨2, ![1, 256]⟩
abbrev S256x768 : Shape := ⟨2, ![256, 768]⟩
abbrev S256x1024 : Shape := ⟨2, ![256, 1024]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024x512 : Shape := ⟨2, ![1024, 512]⟩
abbrev S1024x1536 : Shape := ⟨2, ![1024, 1536]⟩
abbrev S1024x64 : Shape := ⟨2, ![1024, 64]⟩
abbrev S_ : Shape := ⟨0, ![]⟩
abbrev S1024x2176 : Shape := ⟨2, ![1024, 2176]⟩
abbrev S256x4x192 : Shape := ⟨3, ![256, 4, 192]⟩
abbrev S256x4x64 : Shape := ⟨3, ![256, 4, 64]⟩
abbrev S256x4x128 : Shape := ⟨3, ![256, 4, 128]⟩
abbrev S256x512 : Shape := ⟨2, ![256, 512]⟩
abbrev S256x4x256 : Shape := ⟨3, ![256, 4, 256]⟩
abbrev S8x4x8192x256 : Shape := ⟨4, ![8, 4, 8192, 256]⟩
abbrev S8x4x8192x128 : Shape := ⟨4, ![8, 4, 8192, 128]⟩
abbrev S1x512x1024 : Shape := ⟨3, ![1, 512, 1024]⟩
abbrev S1x6x1024 : Shape := ⟨3, ![1, 6, 1024]⟩
abbrev S512x128 : Shape := ⟨2, ![512, 128]⟩
abbrev S1x4x512x256 : Shape := ⟨4, ![1, 4, 512, 256]⟩
abbrev S1x4x512x128 : Shape := ⟨4, ![1, 4, 512, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2176 : Shape := ⟨2, ![512, 2176]⟩
abbrev S512x256 : Shape := ⟨2, ![512, 256]⟩
abbrev S1x1x512x128 : Shape := ⟨4, ![1, 1, 512, 128]⟩

abbrev nBuf : Space → Nat
  | .hbm => 49
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1x1024, .f32⟩
  | .hbm, ⟨3, _⟩ => ⟨S1024x2112, .f32⟩
  | .hbm, ⟨4, _⟩ => ⟨S1x256, .f32⟩
  | .hbm, ⟨5, _⟩ => ⟨S256x768, .f32⟩
  | .hbm, ⟨6, _⟩ => ⟨S1x256, .f32⟩
  | .hbm, ⟨7, _⟩ => ⟨S256x1024, .f32⟩
  | .hbm, ⟨8, _⟩ => ⟨S8192x32, .f32⟩
  | .hbm, ⟨9, _⟩ => ⟨S8192x32, .f32⟩
  | .hbm, ⟨10, _⟩ => ⟨S8192x64, .f32⟩
  | .hbm, ⟨11, _⟩ => ⟨S1x8192x1x64, .f32⟩
  | .hbm, ⟨12, _⟩ => ⟨S1x8192x2x64, .f32⟩
  | .hbm, ⟨13, _⟩ => ⟨S8192x128, .f32⟩
  | .hbm, ⟨14, _⟩ => ⟨S8192x32, .f32⟩
  | .hbm, ⟨15, _⟩ => ⟨S8192x64, .f32⟩
  | .hbm, ⟨16, _⟩ => ⟨S1x8192x1x64, .f32⟩
  | .hbm, ⟨17, _⟩ => ⟨S1x8192x2x64, .f32⟩
  | .hbm, ⟨18, _⟩ => ⟨S8192x128, .f32⟩
  | .hbm, ⟨19, _⟩ => ⟨S1024x512, .f32⟩
  | .hbm, ⟨20, _⟩ => ⟨S1024x1536, .f32⟩
  | .hbm, ⟨21, _⟩ => ⟨S1024x64, .f32⟩
  | .hbm, ⟨22, _⟩ => ⟨S_, .f32⟩
  | .hbm, ⟨23, _⟩ => ⟨S1024x64, .f32⟩
  | .hbm, ⟨24, _⟩ => ⟨S1024x2176, .f32⟩
  | .hbm, ⟨25, _⟩ => ⟨S1024x2176, .bf16⟩
  | .hbm, ⟨26, _⟩ => ⟨S256x4x192, .f32⟩
  | .hbm, ⟨27, _⟩ => ⟨S256x4x64, .f32⟩
  | .hbm, ⟨28, _⟩ => ⟨S_, .i32⟩
  | .hbm, ⟨29, _⟩ => ⟨S_, .f32⟩
  | .hbm, ⟨30, _⟩ => ⟨S256x4x128, .f32⟩
  | .hbm, ⟨31, _⟩ => ⟨S256x4x128, .f32⟩
  | .hbm, ⟨32, _⟩ => ⟨S256x512, .f32⟩
  | .hbm, ⟨33, _⟩ => ⟨S256x512, .f32⟩
  | .hbm, ⟨34, _⟩ => ⟨S256x1024, .f32⟩
  | .hbm, ⟨35, _⟩ => ⟨S256x1024, .bf16⟩
  | .hbm, ⟨36, _⟩ => ⟨S256x4x256, .f32⟩
  | .hbm, ⟨37, _⟩ => ⟨S256x4x128, .f32⟩
  | .hbm, ⟨38, _⟩ => ⟨S256x512, .f32⟩
  | .hbm, ⟨39, _⟩ => ⟨S256x4x128, .f32⟩
  | .hbm, ⟨40, _⟩ => ⟨S256x512, .f32⟩
  | .hbm, ⟨41, _⟩ => ⟨S256x1024, .f32⟩
  | .hbm, ⟨42, _⟩ => ⟨S256x1024, .bf16⟩
  | .hbm, ⟨43, _⟩ => ⟨S8x4x8192x256, .bf16⟩
  | .hbm, ⟨44, _⟩ => ⟨S8x4x8192x256, .bf16⟩
  | .hbm, ⟨45, _⟩ => ⟨S8x4x8192x128, .bf16⟩
  | .hbm, ⟨46, _⟩ => ⟨S8x4x8192x128, .bf16⟩
  | .hbm, ⟨47, _⟩ => ⟨S8x4x8192x128, .bf16⟩
  | .hbm, ⟨48, _⟩ => ⟨S8x4x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2176, .bf16⟩
  | .local _ .vmem, ⟨6, _⟩ => ⟨S1x256, .f32⟩
  | .local _ .vmem, ⟨7, _⟩ => ⟨S256x1024, .bf16⟩
  | .local _ .vmem, ⟨8, _⟩ => ⟨S1x256, .f32⟩
  | .local _ .vmem, ⟨9, _⟩ => ⟨S256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x4x512x256, .bf16⟩
  | .local _ .vmem, ⟨15, _⟩ => ⟨S1x4x512x256, .bf16⟩
  | .local _ .vmem, ⟨16, _⟩ => ⟨S1x4x512x256, .bf16⟩
  | .local _ .vmem, ⟨17, _⟩ => ⟨S1x4x512x256, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x4x512x128, .bf16⟩
  | .local _ .vmem, ⟨25, _⟩ => ⟨S1x4x512x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x8192x1024 : Shape := ⟨3, ![8, 8192, 1024]⟩
abbrev S8x6x1024 : Shape := ⟨3, ![8, 6, 1024]⟩
abbrev S1x1024 : Shape := ⟨2, ![1, 1024]⟩
abbrev S1024x2112 : Shape := ⟨2, ![1024, 2112]⟩
abbrev S1x256 : Shape := ⟨2, ![1, 256]⟩
abbrev S256x768 : Shape := ⟨2, ![256, 768]⟩
abbrev S256x1024 : Shape := ⟨2, ![256, 1024]⟩
abbrev S8192x32 : Shape := ⟨2, ![8192, 32]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2112 : Shape := ⟨3, ![8, 8192, 2112]⟩
abbrev S8x8192x256 : Shape := ⟨3, ![8, 8192, 256]⟩
abbrev S8x8192x64 : Shape := ⟨3, ![8, 8192, 64]⟩
abbrev S8x8192x512 : Shape := ⟨3, ![8, 8192, 512]⟩
abbrev S1x1x256 : Shape := ⟨3, ![1, 1, 256]⟩
abbrev S8x8192x768 : Shape := ⟨3, ![8, 8192, 768]⟩
abbrev S8x8192x4x192 : Shape := ⟨4, ![8, 8192, 4, 192]⟩
abbrev S8x8192x4x128 : Shape := ⟨4, ![8, 8192, 4, 128]⟩
abbrev S8x8192x4x64 : Shape := ⟨4, ![8, 8192, 4, 64]⟩
abbrev S1x8192x1x32 : Shape := ⟨4, ![1, 8192, 1, 32]⟩
abbrev S8x8192x4x32 : Shape := ⟨4, ![8, 8192, 4, 32]⟩
abbrev S8x8192x4x256 : Shape := ⟨4, ![8, 8192, 4, 256]⟩
abbrev S8x8192x1x64 : Shape := ⟨4, ![8, 8192, 1, 64]⟩
abbrev S8x8192x1x32 : Shape := ⟨4, ![8, 8192, 1, 32]⟩
abbrev S8x8192x4x2x64 : Shape := ⟨5, ![8, 8192, 4, 2, 64]⟩
abbrev S1x8192x1x1x32 : Shape := ⟨5, ![1, 8192, 1, 1, 32]⟩
abbrev S8x8192x4x2x32 : Shape := ⟨5, ![8, 8192, 4, 2, 32]⟩
abbrev S8x4x8192x256 : Shape := ⟨4, ![8, 4, 8192, 256]⟩
abbrev S8x4x8192x128 : Shape := ⟨4, ![8, 4, 8192, 128]⟩

abbrev nBuf : Space → Nat
  | .hbm => 171
  | .vmem => 0
  | .smem => 0
  | _ => 0

abbrev hbmTy0_0 (i : Nat) : BufTy := match i % 128 with
  | 0 => ⟨S8x8192x1024, .f32⟩
  | 1 => ⟨S8x6x1024, .f32⟩
  | 2 => ⟨S1x1024, .f32⟩
  | 3 => ⟨S1024x2112, .f32⟩
  | 4 => ⟨S1x256, .f32⟩
  | 5 => ⟨S256x768, .f32⟩
  | 6 => ⟨S1x256, .f32⟩
  | 7 => ⟨S256x1024, .f32⟩
  | 8 => ⟨S8192x32, .f32⟩
  | 9 => ⟨S8192x32, .f32⟩
  | 10 => ⟨S8x1x1024, .f32⟩
  | 11 => ⟨S8x1x1024, .f32⟩
  | 12 => ⟨S8x8192x1024, .f32⟩
  | 13 => ⟨S_, .f32⟩
  | 14 => ⟨S8x8192, .f32⟩
  | 15 => ⟨S8x8192x1, .f32⟩
  | 16 => ⟨S_, .f32⟩
  | 17 => ⟨S8x8192x1, .f32⟩
  | 18 => ⟨S8x8192x1, .f32⟩
  | 19 => ⟨S_, .f32⟩
  | 20 => ⟨S8x8192x1, .f32⟩
  | 21 => ⟨S8x8192x1, .f32⟩
  | 22 => ⟨S8x8192x1, .f32⟩
  | 23 => ⟨S8x8192x1024, .f32⟩
  | 24 => ⟨S8x8192x1024, .f32⟩
  | 25 => ⟨S1x1x1024, .f32⟩
  | 26 => ⟨S8x8192x1024, .f32⟩
  | 27 => ⟨S8x8192x1024, .f32⟩
  | 28 => ⟨S_, .f32⟩
  | 29 => ⟨S8x1x1024, .f32⟩
  | 30 => ⟨S8x1x1024, .f32⟩
  | 31 => ⟨S8x8192x1024, .f32⟩
  | 32 => ⟨S8x8192x1024, .f32⟩
  | 33 => ⟨S8x8192x1024, .f32⟩
  | 34 => ⟨S8x8192x1024, .f32⟩
  | 35 => ⟨S8x8192x2112, .f32⟩
  | 36 => ⟨S8x8192x256, .f32⟩
  | 37 => ⟨S8x8192x256, .f32⟩
  | 38 => ⟨S8x8192x64, .f32⟩
  | 39 => ⟨S8x8192x512, .f32⟩
  | 40 => ⟨S8x8192x512, .f32⟩
  | 41 => ⟨S8x8192x512, .f32⟩
  | 42 => ⟨S8x8192x256, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S_, .f32⟩
  | 50 => ⟨S8x8192x1, .f32⟩
  | 51 => ⟨S8x8192x1, .f32⟩
  | 52 => ⟨S8x8192x1, .f32⟩
  | 53 => ⟨S8x8192x256, .f32⟩
  | 54 => ⟨S8x8192x256, .f32⟩
  | 55 => ⟨S1x1x256, .f32⟩
  | 56 => ⟨S8x8192x256, .f32⟩
  | 57 => ⟨S8x8192x256, .f32⟩
  | 58 => ⟨S8x8192x768, .f32⟩
  | 59 => ⟨S8x8192x4x192, .f32⟩
  | 60 => ⟨S8x8192x4x128, .f32⟩
  | 61 => ⟨S8x8192x4x64, .f32⟩
  | 62 => ⟨S1x8192x1x32, .f32⟩
  | 63 => ⟨S1x8192x1x32, .f32⟩
  | 64 => ⟨S8x8192x4x32, .f32⟩
  | 65 => ⟨S8x8192x4x32, .f32⟩
  | 66 => ⟨S8x8192x4x32, .f32⟩
  | 67 => ⟨S8x8192x4x32, .f32⟩
  | 68 => ⟨S8x8192x4x32, .f32⟩
  | 69 => ⟨S8x8192x4x32, .f32⟩
  | 70 => ⟨S8x8192x4x32, .f32⟩
  | 71 => ⟨S8x8192x4x32, .f32⟩
  | 72 => ⟨S8x8192x4x32, .f32⟩
  | 73 => ⟨S8x8192x4x32, .f32⟩
  | 74 => ⟨S8x8192x4x32, .f32⟩
  | 75 => ⟨S8x8192x4x32, .f32⟩
  | 76 => ⟨S8x8192x4x64, .f32⟩
  | 77 => ⟨S8x8192x256, .f32⟩
  | 78 => ⟨S_, .f32⟩
  | 79 => ⟨S8x8192, .f32⟩
  | 80 => ⟨S8x8192x1, .f32⟩
  | 81 => ⟨S_, .f32⟩
  | 82 => ⟨S8x8192x1, .f32⟩
  | 83 => ⟨S8x8192x1, .f32⟩
  | 84 => ⟨S_, .f32⟩
  | 85 => ⟨S8x8192x1, .f32⟩
  | 86 => ⟨S8x8192x1, .f32⟩
  | 87 => ⟨S8x8192x1, .f32⟩
  | 88 => ⟨S8x8192x256, .f32⟩
  | 89 => ⟨S8x8192x256, .f32⟩
  | 90 => ⟨S1x1x256, .f32⟩
  | 91 => ⟨S8x8192x256, .f32⟩
  | 92 => ⟨S8x8192x256, .f32⟩
  | 93 => ⟨S8x8192x1024, .f32⟩
  | 94 => ⟨S8x8192x4x256, .f32⟩
  | 95 => ⟨S8x8192x4x128, .f32⟩
  | 96 => ⟨S8x8192x4x128, .f32⟩
  | 97 => ⟨S8x8192x1x64, .f32⟩
  | 98 => ⟨S1x8192x1x32, .f32⟩
  | 99 => ⟨S1x8192x1x32, .f32⟩
  | 100 => ⟨S8x8192x1x32, .f32⟩
  | 101 => ⟨S8x8192x1x32, .f32⟩
  | 102 => ⟨S8x8192x1x32, .f32⟩
  | 103 => ⟨S8x8192x1x32, .f32⟩
  | 104 => ⟨S8x8192x1x32, .f32⟩
  | 105 => ⟨S8x8192x1x32, .f32⟩
  | 106 => ⟨S8x8192x1x32, .f32⟩
  | 107 => ⟨S8x8192x1x32, .f32⟩
  | 108 => ⟨S8x8192x1x32, .f32⟩
  | 109 => ⟨S8x8192x1x32, .f32⟩
  | 110 => ⟨S8x8192x1x32, .f32⟩
  | 111 => ⟨S8x8192x1x32, .f32⟩
  | 112 => ⟨S8x8192x1x64, .f32⟩
  | 113 => ⟨S8x8192x4x64, .f32⟩
  | 114 => ⟨S8x8192x4x2x64, .f32⟩
  | 115 => ⟨S1x8192x1x1x32, .f32⟩
  | 116 => ⟨S1x8192x1x1x32, .f32⟩
  | 117 => ⟨S8x8192x4x2x32, .f32⟩
  | 118 => ⟨S8x8192x4x2x32, .f32⟩
  | 119 => ⟨S8x8192x4x2x32, .f32⟩
  | 120 => ⟨S8x8192x4x2x32, .f32⟩
  | 121 => ⟨S8x8192x4x2x32, .f32⟩
  | 122 => ⟨S8x8192x4x2x32, .f32⟩
  | 123 => ⟨S8x8192x4x2x32, .f32⟩
  | 124 => ⟨S8x8192x4x2x32, .f32⟩
  | 125 => ⟨S8x8192x4x2x32, .f32⟩
  | 126 => ⟨S8x8192x4x2x32, .f32⟩
  | 127 => ⟨S8x8192x4x2x32, .f32⟩
  | _ => ⟨S8x8192x1024, .f32⟩

abbrev hbmTy0_1 (i : Nat) : BufTy := match i % 128 with
  | 0 => ⟨S8x8192x4x2x32, .f32⟩
  | 1 => ⟨S8x8192x4x2x64, .f32⟩
  | 2 => ⟨S8x8192x4x128, .f32⟩
  | 3 => ⟨S8x8192x4x2x64, .f32⟩
  | 4 => ⟨S1x8192x1x1x32, .f32⟩
  | 5 => ⟨S1x8192x1x1x32, .f32⟩
  | 6 => ⟨S8x8192x4x2x32, .f32⟩
  | 7 => ⟨S8x8192x4x2x32, .f32⟩
  | 8 => ⟨S8x8192x4x2x32, .f32⟩
  | 9 => ⟨S8x8192x4x2x32, .f32⟩
  | 10 => ⟨S8x8192x4x2x32, .f32⟩
  | 11 => ⟨S8x8192x4x2x32, .f32⟩
  | 12 => ⟨S8x8192x4x2x32, .f32⟩
  | 13 => ⟨S8x8192x4x2x32, .f32⟩
  | 14 => ⟨S8x8192x4x2x32, .f32⟩
  | 15 => ⟨S8x8192x4x2x32, .f32⟩
  | 16 => ⟨S8x8192x4x2x32, .f32⟩
  | 17 => ⟨S8x8192x4x2x32, .f32⟩
  | 18 => ⟨S8x8192x4x2x64, .f32⟩
  | 19 => ⟨S8x8192x4x128, .f32⟩
  | 20 => ⟨S8x8192x4x128, .f32⟩
  | 21 => ⟨S_, .f32⟩
  | 22 => ⟨S8x8192x4x64, .f32⟩
  | 23 => ⟨S8x8192x4x256, .f32⟩
  | 24 => ⟨S_, .f32⟩
  | 25 => ⟨S8x8192x4x256, .f32⟩
  | 26 => ⟨S8x8192x4x256, .f32⟩
  | 27 => ⟨S8x8192x4x256, .f32⟩
  | 28 => ⟨S_, .f32⟩
  | 29 => ⟨S8x8192x4x128, .f32⟩
  | 30 => ⟨S8x8192x4x128, .f32⟩
  | 31 => ⟨S8x4x8192x256, .f32⟩
  | 32 => ⟨S8x4x8192x256, .bf16⟩
  | 33 => ⟨S8x4x8192x256, .f32⟩
  | 34 => ⟨S8x4x8192x256, .bf16⟩
  | 35 => ⟨S8x4x8192x128, .f32⟩
  | 36 => ⟨S8x4x8192x128, .bf16⟩
  | 37 => ⟨S8x4x8192x128, .f32⟩
  | 38 => ⟨S8x4x8192x128, .bf16⟩
  | 39 => ⟨S8x4x8192x128, .f32⟩
  | 40 => ⟨S8x4x8192x128, .bf16⟩
  | 41 => ⟨S8x4x8192x128, .f32⟩
  | 42 => ⟨S8x4x8192x128, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_9 : Ref sig .tc := ⟨.hbm, 149, rfl⟩
abbrev main_v129 : Ref sig .tc := ⟨.hbm, 150, rfl⟩
abbrev main_v130 : Ref sig .tc := ⟨.hbm, 151, rfl⟩
abbrev main_cst_10 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_11 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x8192x1024 : Shape := ⟨3, ![8, 8192, 1024]⟩
abbrev S8x8192x512 : Shape := ⟨3, ![8, 8192, 512]⟩
abbrev S8x6x1024 : Shape := ⟨3, ![8, 6, 1024]⟩
abbrev S1024x1024 : Shape := ⟨2, ![1024, 1024]⟩
abbrev S1x1024 : Shape := ⟨2, ![1, 1024]⟩
abbrev S40x1024 : Shape := ⟨2, ![40, 1024]⟩
abbrev S40x1 : Shape := ⟨2, ![40, 1]⟩
abbrev S524288x128 : Shape := ⟨2, ![524288, 128]⟩
abbrev S128x4x512 : Shape := ⟨3, ![128, 4, 512]⟩
abbrev S128x2x512 : Shape := ⟨3, ![128, 2, 512]⟩
abbrev S32x128 : Shape := ⟨2, ![32, 128]⟩
abbrev S1x512x1024 : Shape := ⟨3, ![1, 512, 1024]⟩
abbrev S1x512x512 : Shape := ⟨3, ![1, 512, 512]⟩
abbrev S1x6x1024 : Shape := ⟨3, ![1, 6, 1024]⟩
abbrev S4096x128 : Shape := ⟨2, ![4096, 128]⟩
abbrev S1x4x512 : Shape := ⟨3, ![1, 4, 512]⟩
abbrev S1x2x512 : Shape := ⟨3, ![1, 2, 512]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S40x512 : Shape := ⟨2, ![40, 512]⟩
abbrev S32x512 : Shape := ⟨2, ![32, 512]⟩
abbrev S4x512 : Shape := ⟨2, ![4, 512]⟩
abbrev S1x512 : Shape := ⟨2, ![1, 512]⟩
abbrev S32x1 : Shape := ⟨2, ![32, 1]⟩
abbrev S32 : Shape := ⟨1, ![32]⟩
abbrev S2x512 : Shape := ⟨2, ![2, 512]⟩

abbrev nBuf : Space → Nat
  | .hbm => 13
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x6x1024, .f32⟩
  | .hbm, ⟨4, _⟩ => ⟨S1024x1024, .bf16⟩
  | .hbm, ⟨5, _⟩ => ⟨S1x1024, .f32⟩
  | .hbm, ⟨6, _⟩ => ⟨S40x1024, .f32⟩
  | .hbm, ⟨7, _⟩ => ⟨S40x1, .f32⟩
  | .hbm, ⟨8, _⟩ => ⟨S8x8192x1024, .f32⟩
  | .hbm, ⟨9, _⟩ => ⟨S524288x128, .f32⟩
  | .hbm, ⟨10, _⟩ => ⟨S128x4x512, .i32⟩
  | .hbm, ⟨11, _⟩ => ⟨S128x2x512, .f32⟩
  | .hbm, ⟨12, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S40x1024, .f32⟩
  | .local _ .vmem, ⟨11, _⟩ => ⟨S40x1, .f32⟩
  | .local _ .vmem, ⟨12, _⟩ => ⟨S1x512x1024, .f32⟩
  | .local _ .vmem, ⟨13, _⟩ => ⟨S1x512x1024, .f32⟩
  | .local _ .vmem, ⟨14, _⟩ => ⟨S4096x128, .f32⟩
  | .local _ .vmem, ⟨15, _⟩ => ⟨S4096x128, .f32⟩
  | .local _ .vmem, ⟨16, _⟩ => ⟨S1x4x512, .i32⟩
  | .local _ .vmem, ⟨17, _⟩ => ⟨S1x4x512, .i32⟩
  | .local _ .vmem, ⟨18, _⟩ => ⟨S1x2x512, .f32⟩
  | .local _ .vmem, ⟨19, _⟩ => ⟨S1x2x512, .f32⟩
  | .local _ .vmem, ⟨20, _⟩ => ⟨S32x128, .f32⟩
  | .local _ .vmem, ⟨21, _⟩ => ⟨S32x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S40x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S40x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference5Ideal.lean ====
abbrev S8x8192x1024 : Shape := ⟨3, ![8, 8192, 1024]⟩
abbrev S8x8192x512 : Shape := ⟨3, ![8, 8192, 512]⟩
abbrev S8x6x1024 : Shape := ⟨3, ![8, 6, 1024]⟩
abbrev S1024x1024 : Shape := ⟨2, ![1024, 1024]⟩
abbrev S1x1024 : Shape := ⟨2, ![1, 1024]⟩
abbrev S40x1024 : Shape := ⟨2, ![40, 1024]⟩
abbrev S40x1 : Shape := ⟨2, ![40, 1]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x40 : Shape := ⟨2, ![1024, 40]⟩
abbrev S8x8192x40 : Shape := ⟨3, ![8, 8192, 40]⟩
abbrev S40 : Shape := ⟨1, ![40]⟩
abbrev S1x1x40 : Shape := ⟨3, ![1, 1, 40]⟩
abbrev S8x8192x32 : Shape := ⟨3, ![8, 8192, 32]⟩
abbrev S8x8192x4 : Shape := ⟨3, ![8, 8192, 4]⟩
abbrev S8x8192x2 : Shape := ⟨3, ![8, 8192, 2]⟩
abbrev S524288x128 : Shape := ⟨2, ![524288, 128]⟩
abbrev S128x512x2 : Shape := ⟨3, ![128, 512, 2]⟩
abbrev S128x2x512 : Shape := ⟨3, ![128, 2, 512]⟩

abbrev nBuf : Space → Nat
  | .hbm => 136
  | .vmem => 0
  | .smem => 0
  | _ => 0

abbrev hbmTy0_0 (i : Nat) : BufTy := match i % 128 with
  | 0 => ⟨S8x8192x1024, .f32⟩
  | 1 => ⟨S8x8192x512, .bf16⟩
  | 2 => ⟨S8x8192x512, .bf16⟩
  | 3 => ⟨S8x6x1024, .f32⟩
  | 4 => ⟨S1024x1024, .bf16⟩
  | 5 => ⟨S1x1024, .f32⟩
  | 6 => ⟨S40x1024, .f32⟩
  | 7 => ⟨S40x1, .f32⟩
  | 8 => ⟨S8x1x1024, .f32⟩
  | 9 => ⟨S8x1x1024, .f32⟩
  | 10 => ⟨S8x1x1024, .f32⟩
  | 11 => ⟨S8x8192x1024, .bf16⟩
  | 12 => ⟨S8x8192x1024, .f32⟩
  | 13 => ⟨S1024x1024, .f32⟩
  | 14 => ⟨S8x8192x1024, .f32⟩
  | 15 => ⟨S8x8192x1024, .f32⟩
  | 16 => ⟨S8x8192x1024, .f32⟩
  | 17 => ⟨S8x8192x1024, .f32⟩
  | 18 => ⟨S8x8192x1024, .f32⟩
  | 19 => ⟨S_, .f32⟩
  | 20 => ⟨S8x8192, .f32⟩
  | 21 => ⟨S8x8192x1, .f32⟩
  | 22 => ⟨S_, .f32⟩
  | 23 => ⟨S8x8192x1, .f32⟩
  | 24 => ⟨S8x8192x1, .f32⟩
  | 25 => ⟨S_, .f32⟩
  | 26 => ⟨S8x8192x1, .f32⟩
  | 27 => ⟨S8x8192x1, .f32⟩
  | 28 => ⟨S8x8192x1, .f32⟩
  | 29 => ⟨S8x8192x1024, .f32⟩
  | 30 => ⟨S8x8192x1024, .f32⟩
  | 31 => ⟨S1x1x1024, .f32⟩
  | 32 => ⟨S8x8192x1024, .f32⟩
  | 33 => ⟨S8x8192x1024, .f32⟩
  | 34 => ⟨S_, .f32⟩
  | 35 => ⟨S8x1x1024, .f32⟩
  | 36 => ⟨S8x1x1024, .f32⟩
  | 37 => ⟨S8x8192x1024, .f32⟩
  | 38 => ⟨S8x8192x1024, .f32⟩
  | 39 => ⟨S8x8192x1024, .f32⟩
  | 40 => ⟨S8x8192x1024, .f32⟩
  | 41 => ⟨S1024x40, .f32⟩
  | 42 => ⟨S8x8192x40, .f32⟩
  | 43 => ⟨S40, .f32⟩
  | 44 => ⟨S1x1x40, .f32⟩
  | 45 => ⟨S8x8192x40, .f32⟩
  | 46 => ⟨S8x8192x40, .f32⟩
  | 47 => ⟨S8x8192x32, .f32⟩
  | 48 => ⟨S8x8192x4, .f32⟩
  | 49 => ⟨S8x8192x4, .i32⟩
  | 50 => ⟨S8x8192x4, .f32⟩
  | 51 => ⟨S_, .f32⟩
  | 52 => ⟨S8x8192, .f32⟩
  | 53 => ⟨S8x8192x1, .f32⟩
  | 54 => ⟨S8x8192x4, .f32⟩
  | 55 => ⟨S8x8192x4, .i1⟩
  | 56 => ⟨S_, .f32⟩
  | 57 => ⟨S_, .f32⟩
  | 58 => ⟨S8x8192x4, .f32⟩
  | 59 => ⟨S8x8192x4, .f32⟩
  | 60 => ⟨S_, .f32⟩
  | 61 => ⟨S8x8192, .f32⟩
  | 62 => ⟨S8x8192x1, .f32⟩
  | 63 => ⟨S8x8192x4, .f32⟩
  | 64 => ⟨S8x8192x4, .f32⟩
  | 65 => ⟨S8x8192x4, .f32⟩
  | 66 => ⟨S_, .f32⟩
  | 67 => ⟨S8x8192, .f32⟩
  | 68 => ⟨S8x8192x1, .f32⟩
  | 69 => ⟨S_, .f32⟩
  | 70 => ⟨S8x8192x1, .f32⟩
  | 71 => ⟨S8x8192x1, .f32⟩
  | 72 => ⟨S8x8192x32, .i32⟩
  | 73 => ⟨S_, .i32⟩
  | 74 => ⟨S8x8192x32, .i32⟩
  | 75 => ⟨S8x8192x32, .i32⟩
  | 76 => ⟨S8x8192x32, .f32⟩
  | 77 => ⟨S8x8192x32, .f32⟩
  | 78 => ⟨S8x8192x32, .i1⟩
  | 79 => ⟨S_, .f32⟩
  | 80 => ⟨S_, .f32⟩
  | 81 => ⟨S8x8192x32, .f32⟩
  | 82 => ⟨S8x8192x32, .f32⟩
  | 83 => ⟨S8x8192x32, .i32⟩
  | 84 => ⟨S8x8192x32, .f32⟩
  | 85 => ⟨S_, .f32⟩
  | 86 => ⟨S8x8192, .f32⟩
  | 87 => ⟨S8x8192x1, .f32⟩
  | 88 => ⟨S8x8192x32, .f32⟩
  | 89 => ⟨S8x8192x32, .i1⟩
  | 90 => ⟨S_, .f32⟩
  | 91 => ⟨S_, .f32⟩
  | 92 => ⟨S8x8192x32, .f32⟩
  | 93 => ⟨S8x8192x32, .f32⟩
  | 94 => ⟨S_, .f32⟩
  | 95 => ⟨S8x8192, .f32⟩
  | 96 => ⟨S8x8192x1, .f32⟩
  | 97 => ⟨S8x8192x32, .f32⟩
  | 98 => ⟨S8x8192x32, .f32⟩
  | 99 => ⟨S8x8192x32, .i1⟩
  | 100 => ⟨S_, .f32⟩
  | 101 => ⟨S_, .f32⟩
  | 102 => ⟨S8x8192x32, .f32⟩
  | 103 => ⟨S8x8192x32, .f32⟩
  | 104 => ⟨S8x8192x32, .i32⟩
  | 105 => ⟨S8x8192x32, .f32⟩
  | 106 => ⟨S_, .f32⟩
  | 107 => ⟨S8x8192, .f32⟩
  | 108 => ⟨S8x8192x1, .f32⟩
  | 109 => ⟨S8x8192x32, .f32⟩
  | 110 => ⟨S8x8192x32, .i1⟩
  | 111 => ⟨S_, .f32⟩
  | 112 => ⟨S_, .f32⟩
  | 113 => ⟨S8x8192x32, .f32⟩
  | 114 => ⟨S8x8192x32, .f32⟩
  | 115 => ⟨S_, .f32⟩
  | 116 => ⟨S8x8192, .f32⟩
  | 117 => ⟨S8x8192x1, .f32⟩
  | 118 => ⟨S8x8192x1, .f32⟩
  | 119 => ⟨S8x8192x1, .f32⟩
  | 120 => ⟨S_, .f32⟩
  | 121 => ⟨S8x8192x1, .f32⟩
  | 122 => ⟨S8x8192x1, .f32⟩
  | 123 => ⟨S_, .f32⟩
  | 124 => ⟨S8x8192x1, .f32⟩
  | 125 => ⟨S8x8192x1, .f32⟩
  | 126 => ⟨S_, .f32⟩
  | 127 => ⟨S8x8192x1, .f32⟩
  | _ => ⟨S8x8192x1024, .f32⟩

abbrev hbmTy0_1 (i : Nat) : BufTy := match i % 128 with
  | 0 => ⟨S8x8192x1, .f32⟩
  | 1 => ⟨S8x8192x1, .f32⟩
  | 2 => ⟨S8x8192x2, .f32⟩
  | 3 => ⟨S8x8192x2, .f32⟩
  | 4 => ⟨S8x8192x2, .f32⟩
  | 5 => ⟨S524288x128, .f32⟩
  | 6 => ⟨S128x512x2, .f32⟩
  | 7 => ⟨S128x2x512, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_call2_v0 : Ref sig .tc := ⟨.hbm, 91, rfl⟩
abbrev main_call2_v1 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_call3_v0 : Ref sig .tc := ⟨.hbm, 101, rfl⟩
abbrev main_call3_v1 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]
-- ==== Proof.Online.lean ====
/-
  The online softmax over the extended reals: a running maximum and sums rescaled by it, chunk after chunk, are the
  maximum and the weighted sums of all scores seen; their quotient is the softmax-weighted sum. Nothing here is about a
  particular program.
-/
module

public import Idealize.ShloMosaic.PureOps.Ideal

@[expose] public section

noncomputable section

namespace Cert.Online

open Idealize.ShloMosaic

variable {ι κ : Type} [DecidableEq ι]

/-- The largest of the scores of `T`, minus infinity where there is none. -/
def peak (s : ι → ℝ) (T : Finset ι) : EReal := T.sup fun j => (s j : EReal)

/-- The sum over `T` of the weights `w`, each times two to its score less the largest score. -/
def wsum (s : ι → ℝ) (w : ι → EReal) (T : Finset ι) : EReal :=
  ∑ j ∈ T, Ideal.exp2 ((s j : EReal) - peak s T) * w j

/-- The largest score of a nonempty set is real. -/
theorem peak_real (s : ι → ℝ) {T : Finset ι} (hT : T.Nonempty) : ∃ r : ℝ, peak s T = (r : EReal) := by
  obtain ⟨j, _, hj⟩ := Finset.exists_mem_eq_sup T hT fun j => (s j : EReal)
  exact ⟨s j, hj⟩

/-- A nonnegative real factor goes into a finite sum of extended reals. -/
theorem coe_mul_sum {a : ℝ} (ha : 0 ≤ a) (T : Finset ι) (f : ι → EReal) :
    (a : EReal) * ∑ j ∈ T, f j = ∑ j ∈ T, (a : EReal) * f j := by
  induction T using Finset.induction_on with
  | empty => simp
  | insert j T hj ih =>
    rw [Finset.sum_insert hj, Finset.sum_insert hj,
      EReal.left_distrib_of_nonneg_of_ne_top (by exact_mod_cast ha) (EReal.coe_ne_top a), ih]

/-- A finite sum of reals, taken as an extended real, is the sum of its terms taken so. -/
theorem coe_sum (T : Finset ι) (f : ι → ℝ) : ((∑ j ∈ T, f j : ℝ) : EReal) = ∑ j ∈ T, (f j : EReal) := by
  induction T using Finset.induction_on with
  | empty => simp
  | insert j T hj ih => rw [Finset.sum_insert hj, Finset.sum_insert hj, EReal.coe_add, ih]

/-- Two to a difference of reals, as a real. -/
theorem exp2_sub (a b : ℝ) : Ideal.exp2 ((a : EReal) - (b : EReal)) = (((2 : ℝ) ^ (a - b) : ℝ) : EReal) := by
  rw [← EReal.coe_sub, Ideal.exp2_coe]; rfl

/-- The maximum so far and a further chunk's maximum give the maximum of both. -/
theorem peak_union (s : ι → ℝ) (T C : Finset ι) : max (peak s T) (peak s C) = peak s (T ∪ C) :=
  (Finset.sup_union).symm

/-- One step of the recurrence: the sums so far, rescaled to the new maximum, and the chunk's own sum give the sums of
    both. -/
theorem wsum_union (s : ι → ℝ) (w : ι → EReal) {T C : Finset ι} (hd : Disjoint T C) :
    Ideal.exp2 (peak s T - peak s (T ∪ C)) * wsum s w T
      + ∑ j ∈ C, Ideal.exp2 ((s j : EReal) - peak s (T ∪ C)) * w j = wsum s w (T ∪ C) := by
  rw [wsum, wsum, Finset.sum_union hd]
  congr 1
  rcases T.eq_empty_or_nonempty with rfl | hT
  · simp
  · obtain ⟨a, ha⟩ := peak_real s hT
    obtain ⟨b, hb⟩ := peak_real s (hT.mono (Finset.subset_union_left (s₂ := C)))
    rw [ha, hb, exp2_sub, coe_mul_sum (Real.rpow_nonneg (by norm_num) _)]
    refine Finset.sum_congr rfl fun j _ => ?_
    rw [exp2_sub, exp2_sub, ← mul_assoc, ← EReal.coe_mul, ← Real.rpow_add (by norm_num)]
    congr 3
    ring

/-- The softmax weight of the score `s j` among all. -/
def prob [Fintype ι] (s : ι → ℝ) (j : ι) : ℝ :=
  Real.exp (s j * Real.log 2) / ∑ k, Real.exp (s k * Real.log 2)

/-- The weighted sum over the sum of the weights is the sum of the values by their softmax weights. -/
theorem wsum_div [Fintype ι] [Nonempty ι] (s : ι → ℝ) (v : ι → EReal) :
    Ideal.div (wsum s v Finset.univ) (wsum s (fun _ => 1) Finset.univ) = ∑ j, v j * (prob s j : EReal) := by
  obtain ⟨M, hM⟩ := peak_real s (Finset.univ_nonempty (α := ι))
  have hpos : 0 < ∑ k, (2 : ℝ) ^ (s k - M) :=
    Finset.sum_pos (fun k _ => Real.rpow_pos_of_pos (by norm_num) _) Finset.univ_nonempty
  have hden : wsum s (fun _ => 1) Finset.univ = ((∑ k, (2 : ℝ) ^ (s k - M) : ℝ) : EReal) := by
    rw [wsum, hM, coe_sum]
    exact Finset.sum_congr rfl fun k _ => by rw [exp2_sub, mul_one]
  rw [hden, Ideal.div_coe hpos.ne', wsum, hM, mul_comm, coe_mul_sum (by positivity)]
  refine Finset.sum_congr rfl fun j _ => ?_
  rw [exp2_sub, ← mul_assoc, ← EReal.coe_mul, mul_comm (v j)]
  congr 2
  have h2 : ∀ k, (2 : ℝ) ^ (s k - M) = Real.exp (s k * Real.log 2) * (Real.exp (M * Real.log 2))⁻¹ := fun k => by
    rw [Real.rpow_def_of_pos (by norm_num), ← Real.exp_neg, ← Real.exp_add]
    congr 1; ring
  simp only [h2, ← Finset.sum_mul, prob]
  have h3 : Real.exp (M * Real.log 2) ≠ 0 := (Real.exp_pos _).ne'
  have h4 : ∑ k, Real.exp (s k * Real.log 2) ≠ 0 :=
    (Finset.sum_pos (fun k _ => Real.exp_pos _) Finset.univ_nonempty).ne'
  generalize (∑ k, Real.exp (s k * Real.log 2)) = S at h4 ⊢
  field_simp

/-- The reference's spelling of a softmax weight: the exponential of the score times `log 2` less the largest such, over
    the sum of these. -/
theorem prob_eq [Fintype ι] [Nonempty ι] (s : ι → ℝ) (M : ℝ) (j : ι) :
    Ideal.div (Ideal.exp ((s j : EReal) * (Real.log 2 : ℝ) - (M : EReal)))
        (∑ k, Ideal.exp ((s k : EReal) * (Real.log 2 : ℝ) - (M : EReal))) = (prob s j : EReal) := by
  have he : ∀ k, Ideal.exp ((s k : EReal) * (Real.log 2 : ℝ) - (M : EReal))
      = ((Real.exp (s k * Real.log 2) * (Real.exp M)⁻¹ : ℝ) : EReal) := fun k => by
    rw [← EReal.coe_mul, ← EReal.coe_sub, Ideal.exp_coe, ← Real.exp_neg, ← Real.exp_add, sub_eq_add_neg]
  simp only [he]
  rw [← coe_sum, ← Finset.sum_mul]
  have h3 : Real.exp M ≠ 0 := (Real.exp_pos _).ne'
  have h4 : 0 < ∑ k, Real.exp (s k * Real.log 2) := Finset.sum_pos (fun k _ => Real.exp_pos _) Finset.univ_nonempty
  rw [Ideal.div_coe (mul_pos h4 (by positivity)).ne', ← EReal.coe_mul, prob]
  congr 1
  replace h4 := h4.ne'
  generalize (∑ k, Real.exp (s k * Real.log 2)) = S at h4 ⊢
  field_simp

end Cert.Online
-- ==== Proof.Step.lean ====
/-
  One chunk of the attention loop as a function on vectors, and what it does to a row: a running maximum and weighted
  sums over the keys seen become those over the keys seen and the chunk.
-/
module

public import proofs.«01_k».proof.Proof.Gen.KernelIdeal.Skeleton
public import proofs.«01_k».proof.Proof.Online
public import Idealize.ShloMosaic.Lib.Pointwise

@[expose] public section

set_option maxRecDepth 16384

noncomputable section

namespace Cert.Step

open Idealize.ShloMosaic
open Cert.KernelIdeal Cert.KernelIdeal.Gen Cert.Online

/-- A chunk's scores, as the score buffer holds them, from the queries and the chunk's keys. -/
abbrev ScoreVec := FVec Ideal S1x512x1024 .f32

/-- The running maximum of each row. -/
abbrev MaxVec := FVec Ideal S512x1 .f32

/-- The running sums of each row: 128 of the values, 128 of ones. -/
abbrev AccVec := FVec Ideal S512x256 .f32

/-- A chunk's values. -/
abbrev ValVec := FVec Ideal S1x1x1024x128 .bf16

/-- The maximum of each row after a chunk. -/
def newMax (s : ScoreVec) (m : MaxVec) : MaxVec :=
  maximumf m (shapeCast S512x1 (multiReduction .maximumf [1] S512 (shapeCast S512x1024 s shapeCasts_S1x512x1024_S512x1024)
    0xFF800000#32 reduces_S512x1024_S512 (.inl rfl) rfl) shapeCasts_S512_S512x1)

/-- The chunk's values with the columns of ones beside them. -/
def withOnes (v : ValVec) : FVec Ideal S1024x256 .bf16 :=
  concatenate S1024x256 1 [⟨S1024x128, shapeCast S1024x128 v shapeCasts_S1x1x1024x128_S1024x128⟩, ⟨S1024x128, k0_pay4⟩]
    concatenates_S1024x128_S1024x128_S1024x256_d1

/-- The sums of each row after a chunk. -/
def newAcc (s : ScoreVec) (v : ValVec) (m : MaxVec) (acc : AccVec) : AccVec :=
  addf (mulf (broadcastTo S512x256 (exp2 (subf m (newMax s m))) broadcasts_S512x1_S512x256) acc)
    (matmul dot_S512x1024_S1024x256_S512x256_1_0_0_1_n_n none
      (truncf .bf16 (exp2 (subf (shapeCast S512x1024 s shapeCasts_S1x512x1024_S512x1024)
        (broadcastTo S512x1024 (newMax s m) broadcasts_S512x1_S512x1024))) bitsLt_bf16_f32)
      (withOnes v) (constant S512x256 .f32 0x00000000#32))

/-- The maximum and the sums after a list of chunks, from minus infinity and zero. -/
def run : List (ScoreVec × ValVec) → MaxVec × AccVec
  | [] => (k0_pay7, k0_pay8)
  | (s, v) :: L => (newMax s (run L).1, newAcc s v (run L).1 (run L).2)

/-- The pattern of minus infinity denotes it. -/
theorem ofBits_neg_inf : Ideal.ofBits FTy.f32 4286578688#32 = ⊥ := by
  simp [Ideal.ofBits, Ideal.ieee]

/-- A row's new maximum is the larger of its old one and the chunk's largest score. -/
theorem newMax_apply (s : ScoreVec) (m : MaxVec) (r : Fin 512) :
    newMax s m (ix2 r 0) = max (m (ix2 r 0)) (Finset.univ.sup fun k : Fin 1024 => s (ix3 0 r k)) := by
  pointwise [newMax]
  rw [ofBits_neg_inf]
  rfl

/-- A row's new sum is its old one rescaled and the chunk's values by the powers of two of their scores less the new
    maximum. -/
theorem newAcc_apply (s : ScoreVec) (v : ValVec) (m : MaxVec) (acc : AccVec) (r : Fin 512) (l : Fin 256) :
    newAcc s v m acc (ix2 r l) = Ideal.exp2 (m (ix2 r 0) - newMax s m (ix2 r 0)) * acc (ix2 r l)
      + ∑ k : Fin 1024, Ideal.exp2 (s (ix3 0 r k) - newMax s m (ix2 r 0)) * withOnes v (ix2 k l) := by
  pointwise [newAcc]
  rfl

/-- The first 128 columns are the values. -/
theorem withOnes_left (v : ValVec) (k : Fin 1024) (l : Fin 128) :
    withOnes v (ix2 k ⟨l.val, by omega⟩) = v (ix4 0 0 k l) := by
  pointwise [withOnes]

/-- The other 128 columns are ones. -/
theorem withOnes_right (v : ValVec) (k : Fin 1024) (l : Fin 128) :
    withOnes v (ix2 k ⟨128 + l.val, by omega⟩) = 1 := by
  pointwise [withOnes, k0_pay4]

/-! ## The keys seen, chunk by chunk -/

/-- The keys of the first `c` chunks. -/
def seen (c : ℕ) : Finset (Fin 8192) := Finset.univ.filter fun j => j.val < 1024 * c

/-- Key `k` of chunk `c`. -/
def key (c : Fin 8) : Fin 1024 ↪ Fin 8192 where
  toFun k := ⟨1024 * c.val + k.val, by omega⟩
  inj' a b h := Fin.ext (by have := congrArg Fin.val h; dsimp only at this; omega)

/-- A key is seen after `c` chunks when it lies below `1024 * c`. -/
theorem mem_seen (c : ℕ) (j : Fin 8192) : j ∈ seen c ↔ j.val < 1024 * c := by simp [seen]

/-- No key is seen before the first chunk. -/
theorem seen_zero : seen 0 = ∅ := by ext j; simp [mem_seen]

/-- Every key is seen after eight chunks. -/
theorem seen_eight : seen 8 = Finset.univ := by ext j; simp [mem_seen]

/-- One chunk more. -/
theorem seen_succ (c : Fin 8) : seen (c.val + 1) = seen c.val ∪ Finset.univ.map (key c) := by
  ext j
  simp only [mem_seen, Finset.mem_union, Finset.mem_map, Finset.mem_univ, true_and]
  constructor
  · intro h
    rcases lt_or_ge j.val (1024 * c.val) with h' | h'
    · exact .inl h'
    · exact .inr ⟨⟨j.val - 1024 * c.val, by omega⟩, Fin.ext (by show 1024 * c.val + (j.val - 1024 * c.val) = j.val; omega)⟩
  · rintro (h | ⟨k, rfl⟩)
    · omega
    · show 1024 * c.val + k.val < _; omega

/-- The keys of a chunk are not among those seen before it. -/
theorem disjoint_seen (c : Fin 8) : Disjoint (seen c.val) (Finset.univ.map (key c)) := by
  rw [Finset.disjoint_left]
  intro j hj h
  simp only [mem_seen, Finset.mem_map, Finset.mem_univ, true_and] at hj h
  obtain ⟨k, rfl⟩ := h
  have : 1024 * c.val + k.val < 1024 * c.val := hj
  omega

/-- After `c` chunks the state holds, of each row with scores `σ r` and of values `w`, the maximum, the sums of the
    values and the sums of the weights of the keys seen. -/
structure Holds (σ : Fin 512 → Fin 8192 → ℝ) (w : Fin 8192 → Fin 128 → EReal) (c : ℕ) (st : MaxVec × AccVec) : Prop where
  max_eq : ∀ r, st.1 (ix2 r 0) = peak (σ r) (seen c)
  num_eq : ∀ r (l : Fin 128), st.2 (ix2 r ⟨l.val, by omega⟩) = wsum (σ r) (fun j => w j l) (seen c)
  den_eq : ∀ r (l : Fin 128), st.2 (ix2 r ⟨128 + l.val, by omega⟩) = wsum (σ r) (fun _ => 1) (seen c)

/-- The invariant holds of the empty run. -/
theorem holds_zero (σ w) : Holds σ w 0 (run []) where
  max_eq r := by
    show k0_pay7 (F := Ideal) (ix2 r 0) = _
    pointwise [k0_pay7]
    rw [seen_zero]
    rw [ofBits_neg_inf]
    rfl
  num_eq r l := by
    show k0_pay8 (F := Ideal) (ix2 r ⟨l.val, by omega⟩) = _
    pointwise [k0_pay8]
    rw [seen_zero, wsum, Finset.sum_empty]
  den_eq r l := by
    show k0_pay8 (F := Ideal) (ix2 r ⟨128 + l.val, by omega⟩) = _
    pointwise [k0_pay8]
    rw [seen_zero, wsum, Finset.sum_empty]

/-- One chunk: with its scores and values those of the next 1024 keys, the state after it holds one chunk more. -/
theorem Holds.step {σ : Fin 512 → Fin 8192 → ℝ} {w : Fin 8192 → Fin 128 → EReal} (c : Fin 8)
    {L : List (ScoreVec × ValVec)} (h : Holds σ w c.val (run L)) (s : ScoreVec) (v : ValVec)
    (hs : ∀ r k, s (ix3 0 r k) = (σ r (key c k) : EReal)) (hv : ∀ k l, v (ix4 0 0 k l) = w (key c k) l) :
    Holds σ w (c.val + 1) (run ((s, v) :: L)) := by
  have hm : ∀ r, newMax s (run L).1 (ix2 r 0) = peak (σ r) (seen c.val ∪ Finset.univ.map (key c)) := fun r => by
    rw [newMax_apply, h.max_eq, ← peak_union]
    congr 1
    rw [peak, Finset.sup_map]
    exact Finset.sup_congr rfl fun k _ => hs r k
  refine ⟨fun r => ?_, fun r l => ?_, fun r l => ?_⟩
  · rw [seen_succ]; exact hm r
  · show newAcc s v (run L).1 (run L).2 _ = _
    rw [newAcc_apply, hm, h.num_eq, h.max_eq, seen_succ, ← wsum_union _ _ (disjoint_seen c), Finset.sum_map]
    congr 1
    exact Finset.sum_congr rfl fun k _ => by rw [withOnes_left, hs, hv]
  · show newAcc s v (run L).1 (run L).2 _ = _
    rw [newAcc_apply, hm, h.den_eq, h.max_eq, seen_succ, ← wsum_union _ _ (disjoint_seen c), Finset.sum_map]
    congr 1
    exact Finset.sum_congr rfl fun k _ => by rw [withOnes_right, hs]

/-- Eight chunks, each with the scores and the values of its keys. -/
theorem holds_eight {σ : Fin 512 → Fin 8192 → ℝ} {w : Fin 8192 → Fin 128 → EReal} (f : Fin 8 → ScoreVec × ValVec)
    (hs : ∀ c r k, (f c).1 (ix3 0 r k) = (σ r (key c k) : EReal)) (hv : ∀ c k l, (f c).2 (ix4 0 0 k l) = w (key c k) l) :
    Holds σ w 8 (run [f 7, f 6, f 5, f 4, f 3, f 2, f 1, f 0]) :=
  have h0 := holds_zero σ w
  have h1 := Holds.step 0 h0 _ _ (hs 0) (hv 0)
  have h2 := Holds.step 1 h1 _ _ (hs 1) (hv 1)
  have h3 := Holds.step 2 h2 _ _ (hs 2) (hv 2)
  have h4 := Holds.step 3 h3 _ _ (hs 3) (hv 3)
  have h5 := Holds.step 4 h4 _ _ (hs 4) (hv 4)
  have h6 := Holds.step 5 h5 _ _ (hs 5) (hv 5)
  have h7 := Holds.step 6 h6 _ _ (hs 6) (hv 6)
  Holds.step 7 h7 _ _ (hs 7) (hv 7)

/-- After all eight chunks, a row's quotient of sums is the sum of the values by their softmax weights. -/
theorem Holds.quotient {σ : Fin 512 → Fin 8192 → ℝ} {w : Fin 8192 → Fin 128 → EReal} {st : MaxVec × AccVec}
    (h : Holds σ w 8 st) (r : Fin 512) (l : Fin 128) :
    Ideal.div (st.2 (ix2 r ⟨l.val, by omega⟩)) (st.2 (ix2 r ⟨128 + l.val, by omega⟩))
      = ∑ j, w j l * (prob (σ r) j : EReal) := by
  rw [h.num_eq, h.den_eq, seen_eight, wsum_div]

end Cert.Step
-- ==== Proof.MlaBlock.lean ====
/-
  What the first attention's body leaves in its output block: for each head of the block and each row, the values by the
  softmax weights of the row's scores.
-/
module

public import proofs.«01_k».proof.Proof.Gen.KernelIdeal.Value
public import proofs.«01_k».proof.Proof.Step
public import Idealize.ShloMosaic.Lib.WholeRead
public import Idealize.ShloMosaic.Lib.Pipeline.ReadBack

@[expose] public section

set_option maxRecDepth 16384

noncomputable section

namespace Cert.Mla

open Idealize.ShloMosaic Idealize.ShloMosaic.TcCoe
open Cert.KernelIdeal Cert.KernelIdeal.Gen Cert.Online Cert.Step
open Cert.KernelIdeal.Gen.kernelRun0_A

/-- A head's sums divided, as they are stored. -/
def finish (acc : AccVec) : FVec Ideal S1x512x128 .bf16 :=
  shapeCast S1x512x128 (truncf .bf16 (divf (extractStridedSlice S512x128 ![0, 0] acc slices_S512x256_o0_0_S512x128)
    (extractStridedSlice S512x128 ![0, 128] acc slices_S512x256_o0_128_S512x128)) bitsLt_bf16_f32)
    shapeCasts_S512x128_S1x512x128

/-- An entry of the finished block: the weighted sum of a lane over the sum of weights. -/
theorem finish_apply (acc : AccVec) (r : Fin 512) (l : Fin 128) :
    finish acc (ix3 0 r l) = Ideal.div (acc (ix2 r ⟨l.val, by omega⟩)) (acc (ix2 r ⟨128 + l.val, by omega⟩)) := by
  pointwise [finish]

section Run

variable (c : Dev nD) (i : grid0.Coords)
  (arg3 : Memref sig .tc .vmem S1x2x512x256 .bf16) (harg3 : arg3.IsWhole)
  (arg4 : Memref sig .tc .vmem S1x2x8192x256 .bf16) (harg4 : arg4.IsWhole)
  (arg5 : Memref sig .tc .vmem S1x2x8192x128 .bf16) (harg5 : arg5.IsWhole)
  (arg6 : Memref sig .tc .vmem S1x512x256 .bf16) (harg6 : arg6.IsWhole)
  (arg7 : Memref sig .tc .vmem S3x512x1024 .f32) (harg7 : arg7.IsWhole)
  (x0 : Vec Ideal S1x2x512x256 .bf16) (x1 : Vec Ideal S1x2x8192x256 .bf16) (x2 : Vec Ideal S1x2x8192x128 .bf16)

/-- The queries of head `h` of the block. -/
def qOf (h : Fin 2) : FVec Ideal S1x1x512x256 .bf16 := fun y => x0 (ix4 0 h (y 2) (y 3))

/-- The keys of chunk `n` of head `h`. -/
def kOf (h : Fin 2) (n : Fin 8) : FVec Ideal S1x1x1024x256 .bf16 := fun y => x1 (ix4 0 h (key n (y 2)) (y 3))

/-- The values of chunk `n` of head `h`. -/
def vOf (h : Fin 2) (n : Fin 8) : FVec Ideal S1x1x1024x128 .bf16 := fun y => x2 (ix4 0 h (key n (y 2)) (y 3))

/-- A chunk's scores and values. -/
def chunk (h : Fin 2) (n : Fin 8) : ScoreVec × ValVec := (k0_pay5 (qOf x0 h) (kOf x1 h n), vOf x2 h n)

/-- The state after the eight chunks of head `h`. -/
def final (h : Fin 2) : MaxVec × AccVec :=
  run [chunk x0 x1 x2 h 7, chunk x0 x1 x2 h 6, chunk x0 x1 x2 h 5, chunk x0 x1 x2 h 4, chunk x0 x1 x2 h 3,
    chunk x0 x1 x2 h 2, chunk x0 x1 x2 h 1, chunk x0 x1 x2 h 0]

/-- The values a load of 1024 keys from key `n` of head `h` of the block reads. -/
abbrev vLd (h n : ℕ) (inb : ∀ a, (![0, h, n, 0] : Fin 4 → ℕ) a + S1x1x1024x128.size a ≤ S1x2x8192x128.size a) : ValVec :=
  View.readAt (Elt Ideal) arg5.view (Rect.unit (s := S1x2x8192x128) ![0, h, n, 0] S1x1x1024x128.size inb).toLoadRect
    (harg5.unread x2)

/-- What the body stores for the first head, over the score buffer's contents at each chunk. -/
theorem left_eq : k0_pay75 (F := Ideal) (sl.r_18 c arg3 harg3 arg4 harg4 arg5 harg5 arg7 x0 x1 x2) = finish
    (run [(sl.v196 c arg3 harg3 arg4 harg4 arg7 x0 x1, vLd arg5 harg5 x2 0 7168 inb_S1x2x8192x128_S1x1x1024x128_0_0_7168_0),
      (sl.v172 c arg3 harg3 arg4 harg4 arg7 x0 x1, vLd arg5 harg5 x2 0 6144 inb_S1x2x8192x128_S1x1x1024x128_0_0_6144_0),
      (sl.v148 c arg3 harg3 arg4 harg4 arg7 x0 x1, vLd arg5 harg5 x2 0 5120 inb_S1x2x8192x128_S1x1x1024x128_0_0_5120_0),
      (sl.v124 c arg3 harg3 arg4 harg4 arg7 x0 x1, vLd arg5 harg5 x2 0 4096 inb_S1x2x8192x128_S1x1x1024x128_0_0_4096_0),
      (sl.v100 c arg3 harg3 arg4 harg4 arg7 x0 x1, vLd arg5 harg5 x2 0 3072 inb_S1x2x8192x128_S1x1x1024x128_0_0_3072_0),
      (sl.v76 c arg3 harg3 arg4 harg4 arg7 x0 x1, vLd arg5 harg5 x2 0 2048 inb_S1x2x8192x128_S1x1x1024x128_0_0_2048_0),
      (sl.v52 c arg3 harg3 arg4 harg4 arg7 x0 x1, vLd arg5 harg5 x2 0 1024 inb_S1x2x8192x128_S1x1x1024x128_0_0_1024_0),
      (sl.v28 c arg3 harg3 arg4 harg4 arg7 x0 x1, vLd arg5 harg5 x2 0 0 inb_S1x2x8192x128_S1x1x1024x128_0_0_0_0)]).2 := rfl

/-- What the body stores for the second head, likewise. -/
theorem right_eq : k0_pay1 (F := Ideal) (sl.r_36 c arg3 harg3 arg4 harg4 arg5 harg5 arg7 x0 x1 x2)
    (sl.r_37 c arg3 harg3 arg4 harg4 arg5 harg5 arg7 x0 x1 x2) = finish
    (run [(sl.v378 c arg3 harg3 arg4 harg4 arg7 x0 x1, vLd arg5 harg5 x2 1 7168 inb_S1x2x8192x128_S1x1x1024x128_0_1_7168_0),
      (sl.v360 c arg3 harg3 arg4 harg4 arg7 x0 x1, vLd arg5 harg5 x2 1 6144 inb_S1x2x8192x128_S1x1x1024x128_0_1_6144_0),
      (sl.v342 c arg3 harg3 arg4 harg4 arg7 x0 x1, vLd arg5 harg5 x2 1 5120 inb_S1x2x8192x128_S1x1x1024x128_0_1_5120_0),
      (sl.v318 c arg3 harg3 arg4 harg4 arg7 x0 x1, vLd arg5 harg5 x2 1 4096 inb_S1x2x8192x128_S1x1x1024x128_0_1_4096_0),
      (sl.v294 c arg3 harg3 arg4 harg4 arg7 x0 x1, vLd arg5 harg5 x2 1 3072 inb_S1x2x8192x128_S1x1x1024x128_0_1_3072_0),
      (sl.v270 c arg3 harg3 arg4 harg4 arg7 x0 x1, vLd arg5 harg5 x2 1 2048 inb_S1x2x8192x128_S1x1x1024x128_0_1_2048_0),
      (sl.v246 c arg3 harg3 arg4 harg4 arg7 x0 x1, vLd arg5 harg5 x2 1 1024 inb_S1x2x8192x128_S1x1x1024x128_0_1_1024_0),
      (sl.v222 c arg3 harg3 arg4 harg4 arg7 x0 x1, vLd arg5 harg5 x2 1 0 inb_S1x2x8192x128_S1x1x1024x128_0_1_0_0)]).2 := rfl

/-- The queries a load of head `h` of the block reads. -/
abbrev qLd (h : ℕ) (inb : ∀ a, (![0, h, 0, 0] : Fin 4 → ℕ) a + S1x1x512x256.size a ≤ S1x2x512x256.size a) :
    FVec Ideal S1x1x512x256 .bf16 :=
  View.readAt (Elt Ideal) arg3.view (Rect.unit (s := S1x2x512x256) ![0, h, 0, 0] S1x1x512x256.size inb).toLoadRect
    (harg3.unread x0)

/-- The keys a load of 1024 keys from key `n` of head `h` of the block reads. -/
abbrev kLd (h n : ℕ) (inb : ∀ a, (![0, h, n, 0] : Fin 4 → ℕ) a + S1x1x1024x256.size a ≤ S1x2x8192x256.size a) :
    FVec Ideal S1x1x1024x256 .bf16 :=
  View.readAt (Elt Ideal) arg4.view (Rect.unit (s := S1x2x8192x256) ![0, h, n, 0] S1x1x1024x256.size inb).toLoadRect
    (harg4.unread x1)

/-- The load of a head of the query block is that head. -/
theorem qLd_eq (h : Fin 2) (inb) : qLd arg3 harg3 x0 h.val inb = qOf x0 h := by
  funext y
  refine (Memref.IsWhole.readAt_unread _ _ _ _).trans ?_
  unfold qOf
  congr 1
  funext a; apply Fin.ext
  match a with
  | 0 => show 0 + 1 * (y 0).val = 0; have h0 : (y 0).val < 1 := (y 0).isLt; omega
  | 1 => show h.val + 1 * (y 1).val = h.val; have h0 : (y 1).val < 1 := (y 1).isLt; omega
  | 2 => show 0 + 1 * (y 2).val = (y 2).val; omega
  | 3 => show 0 + 1 * (y 3).val = (y 3).val; omega

/-- The load of a chunk of a head of the keys is that chunk. -/
theorem kLd_eq (h : Fin 2) (n : Fin 8) (inb) : kLd arg4 harg4 x1 h.val (1024 * n.val) inb = kOf x1 h n := by
  funext y
  refine (Memref.IsWhole.readAt_unread _ _ _ _).trans ?_
  unfold kOf
  congr 1
  funext a; apply Fin.ext
  match a with
  | 0 => show 0 + 1 * (y 0).val = 0; have h0 : (y 0).val < 1 := (y 0).isLt; omega
  | 1 => show h.val + 1 * (y 1).val = h.val; have h0 : (y 1).val < 1 := (y 1).isLt; omega
  | 2 => show 1024 * n.val + 1 * (y 2).val = 1024 * n.val + (y 2).val; omega
  | 3 => show 0 + 1 * (y 3).val = (y 3).val; omega

/-- The load of a chunk of a head of the values is that chunk. -/
theorem vLd_eq (h : Fin 2) (n : Fin 8) (inb) : vLd arg5 harg5 x2 h.val (1024 * n.val) inb = vOf x2 h n := by
  funext y
  refine (Memref.IsWhole.readAt_unread _ _ _ _).trans ?_
  unfold vOf
  congr 1
  funext a; apply Fin.ext
  match a with
  | 0 => show 0 + 1 * (y 0).val = 0; have h0 : (y 0).val < 1 := (y 0).isLt; omega
  | 1 => show h.val + 1 * (y 1).val = h.val; have h0 : (y 1).val < 1 := (y 1).isLt; omega
  | 2 => show 1024 * n.val + 1 * (y 2).val = 1024 * n.val + (y 2).val; omega
  | 3 => show 0 + 1 * (y 3).val = (y 3).val; omega

/-- A head of the query block lies within the block. -/
theorem inbQ (h : Fin 2) : ∀ a, (![0, h.val, 0, 0] : Fin 4 → ℕ) a + S1x1x512x256.size a ≤ S1x2x512x256.size a := by
  revert h; decide

/-- A chunk of a head of the keys lies within the block. -/
theorem inbK (h : Fin 2) (n : Fin 8) :
    ∀ a, (![0, h.val, 1024 * n.val, 0] : Fin 4 → ℕ) a + S1x1x1024x256.size a ≤ S1x2x8192x256.size a := by
  revert h n; decide

/-- A chunk of a head of the values lies within the block. -/
theorem inbV (h : Fin 2) (n : Fin 8) :
    ∀ a, (![0, h.val, 1024 * n.val, 0] : Fin 4 → ℕ) a + S1x1x1024x128.size a ≤ S1x2x8192x128.size a := by
  revert h n; decide

/-- A chunk's scores and values, as the body's loads give them. -/
def chunkLd (h : Fin 2) (n : Fin 8) : ScoreVec × ValVec :=
  (k0_pay5 (qLd arg3 harg3 x0 h.val (inbQ h)) (kLd arg4 harg4 x1 h.val (1024 * n.val) (inbK h n)),
    vLd arg5 harg5 x2 h.val (1024 * n.val) (inbV h n))

/-- They are the chunk's. -/
theorem chunkLd_eq (h : Fin 2) (n : Fin 8) :
    chunkLd arg3 harg3 arg4 harg4 arg5 harg5 x0 x1 x2 h n = chunk x0 x1 x2 h n := by
  rw [chunkLd, qLd_eq, kLd_eq, vLd_eq]; rfl

/-- The left half of the result block is the first head, all eight chunks folded and finished. -/
theorem left_final : k0_pay75 (F := Ideal) (sl.r_18 c arg3 harg3 arg4 harg4 arg5 harg5 arg7 x0 x1 x2)
    = finish (final x0 x1 x2 0).2 := by
  rw [left_eq]
  simp (disch := decide) only [sl.v28, sl.v52, sl.v76, sl.v100, sl.v124, sl.v148, sl.v172, sl.v196, sl.v222, sl.v246, sl.v270, sl.v294, sl.v318, sl.v342, sl.v360, sl.v378, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, ↓View.readCov_cons_toLoadRect, ↓View.readCov_skip]
  simp only [final, ← chunkLd_eq arg3 harg3 arg4 harg4 arg5 harg5]
  rfl

/-- The right half of the result block is the second head, all eight chunks folded and finished. -/
theorem right_final : k0_pay1 (F := Ideal) (sl.r_36 c arg3 harg3 arg4 harg4 arg5 harg5 arg7 x0 x1 x2)
    (sl.r_37 c arg3 harg3 arg4 harg4 arg5 harg5 arg7 x0 x1 x2) = finish (final x0 x1 x2 1).2 := by
  rw [right_eq]
  simp (disch := decide) only [sl.v28, sl.v52, sl.v76, sl.v100, sl.v124, sl.v148, sl.v172, sl.v196, sl.v222, sl.v246, sl.v270, sl.v294, sl.v318, sl.v342, sl.v360, sl.v378, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, ↓View.readCov_cons_toLoadRect, ↓View.readCov_skip]
  simp only [final, ← chunkLd_eq arg3 harg3 arg4 harg4 arg5 harg5]
  rfl

/-- The output block: of each head's 128 columns the quotient of the sums of its state. -/
def outBlk : Vec Ideal S1x512x256 .bf16 := fun y =>
  have h1 : (y 1).val < 512 := (y 1).isLt
  have h2 : (y 2).val < 256 := (y 2).isLt
  finish (final x0 x1 x2 ⟨(y 2).val / 128, by omega⟩).2 (ix3 0 ⟨(y 1).val, h1⟩ ⟨(y 2).val % 128, by omega⟩)

/-- An entry of the result block: its head, all chunks folded and finished. -/
theorem outBlk_apply (h : Fin 2) (r : Fin 512) (l : Fin 128) :
    outBlk x0 x1 x2 (ix3 0 r ⟨128 * h.val + l.val, by omega⟩) = finish (final x0 x1 x2 h).2 (ix3 0 r l) := by
  have e1 : (⟨(128 * h.val + l.val) / 128, by omega⟩ : Fin 2) = h := Fin.ext (by show (128 * h.val + l.val) / 128 = h.val; omega)
  have e2 : (⟨(128 * h.val + l.val) % 128, by omega⟩ : Fin 128) = l := Fin.ext (by show (128 * h.val + l.val) % 128 = l.val; omega)
  show finish (final x0 x1 x2 ⟨(128 * h.val + l.val) / 128, _⟩).2 (ix3 0 r ⟨(128 * h.val + l.val) % 128, _⟩) = _
  rw [e1, e2]

/-- The piece stored for head `h` is the block's columns of that head. -/
theorem piece_eq (h : Fin 2) (inb : ∀ a, (![0, 0, 128 * h.val] : Fin 3 → ℕ) a + S1x512x128.size a ≤ S1x512x256.size a)
    (x : S1x512x128.Idx) :
    finish (final x0 x1 x2 h).2 x = outBlk x0 x1 x2 ((Rect.unit (s := S1x512x256) ![0, 0, 128 * h.val] S1x512x128.size inb).emb x) := by
  have e : (Rect.unit (s := S1x512x256) ![0, 0, 128 * h.val] S1x512x128.size inb).emb x
      = ix3 0 (x 1) ⟨128 * h.val + (x 2).val, by have h2 : (x 2).val < 128 := (x 2).isLt; omega⟩ := by
    funext a; apply Fin.ext
    match a with
    | 0 => show 0 + 1 * (x 0).val = 0; have h0 : (x 0).val < 1 := (x 0).isLt; omega
    | 1 => show 0 + 1 * (x 1).val = (x 1).val; omega
    | 2 => show 128 * h.val + 1 * (x 2).val = 128 * h.val + (x 2).val; omega
  rw [e]
  refine Eq.trans ?_ (outBlk_apply x0 x1 x2 h (x 1) (x 2)).symm
  congr 1
  funext a
  match a with
  | 0 => exact Fin.ext (by show (x 0).val = 0; have h0 : (x 0).val < 1 := (x 0).isLt; omega)
  | 1 => rfl
  | 2 => rfl

/-- What the run leaves in the output's staging buffer is that block. -/
theorem out_eq : out0_A_3 c i arg3 harg3 arg4 harg4 arg5 harg5 arg6 harg6 arg7 harg7 x0 x1 x2 = outBlk x0 x1 x2 := by
  funext y
  rw [out0_A_3, View.read_writes_junk_eq_canon]
  refine View.canon_apply_of_pieces _ _ ?_ y (cover0_A_3 _ _ _ _ _ _ _ _ _ _ _ _ _ _ _ y)
  delta kernelRun0_A
  dsimp only
  intro p hp
  simp only [List.mem_cons, List.not_mem_nil, or_false] at hp
  rcases hp with rfl | rfl
  · intro x
    dsimp only
    rw [right_final]
    exact piece_eq x0 x1 x2 1 _ x
  · intro x
    dsimp only
    rw [left_final]
    exact piece_eq x0 x1 x2 0 _ x

/-- A chunk's scores are the products of the row's query and the chunk's keys. -/
theorem score_apply (q : FVec Ideal S1x1x512x256 .bf16) (k : FVec Ideal S1x1x1024x256 .bf16) (r : Fin 512) (n : Fin 1024) :
    (k0_pay5 (F := Ideal) q k (ix3 0 r n) : EReal) = ∑ d : Fin 256, (q (ix4 0 0 r d) : EReal) * (k (ix4 0 0 n d) : EReal) := by
  pointwise [k0_pay5, k0_pay2]

/-- Where the products of queries and keys are the reals `σ`, the block holds the values by the softmax weights of `σ`. -/
theorem outBlk_softmax (σ : Fin 2 → Fin 512 → Fin 8192 → ℝ)
    (hσ : ∀ h r j, ∑ d : Fin 256, x0 (ix4 0 h r d) * x1 (ix4 0 h j d) = (σ h r j : EReal))
    (h : Fin 2) (r : Fin 512) (l : Fin 128) :
    outBlk x0 x1 x2 (ix3 0 r ⟨128 * h.val + l.val, by omega⟩) = ∑ j, x2 (ix4 0 h j l) * (prob (σ h r) j : EReal) := by
  rw [outBlk_apply, finish_apply]
  have H : Holds (σ h) (fun j l => x2 (ix4 0 h j l)) 8 (final x0 x1 x2 h) :=
    holds_eight (chunk x0 x1 x2 h)
      (fun n r k => (score_apply (qOf x0 h) (kOf x1 h n) r k).trans (hσ h r (key n k)))
      (fun n k l => rfl)
  exact H.quotient r l

end Run

end Cert.Mla
-- ==== Proof.MlaValue.lean ====
/- The result array of the first kernel as one function of its argument arrays. -/
module

public import proofs.«01_k».proof.Proof.Gen.KernelIdeal.Value
public import proofs.«01_k».proof.Proof.MlaBlock

@[expose] public section

noncomputable section

namespace Cert.Mla

open Cert.KernelIdeal Cert.KernelIdeal.Gen Idealize.ShloMosaic Idealize.ShloMosaic.TcCoe Idealize.SL.Sem
open Cert.Online

/-- The index maps of the query window. -/
theorem index0 : ∀ t : Fin cfg0.N, win0_0.index t (0 : Fin 4) = t.val / 32 ∧ win0_0.index t (1 : Fin 4) = t.val / 16 % 2
    ∧ win0_0.index t (2 : Fin 4) = t.val % 16 ∧ win0_0.index t (3 : Fin 4) = 0 :=
  (by decide +kernel : ∀ t : Fin grid0.N, _)

/-- The index maps of the key window. -/
theorem index1 : ∀ t : Fin cfg0.N, win0_1.index t (0 : Fin 4) = t.val / 32 ∧ win0_1.index t (1 : Fin 4) = t.val / 16 % 2
    ∧ win0_1.index t (2 : Fin 4) = 0 ∧ win0_1.index t (3 : Fin 4) = 0 :=
  (by decide +kernel : ∀ t : Fin grid0.N, _)

/-- The index maps of the value window. -/
theorem index2 : ∀ t : Fin cfg0.N, win0_2.index t (0 : Fin 4) = t.val / 32 ∧ win0_2.index t (1 : Fin 4) = t.val / 16 % 2
    ∧ win0_2.index t (2 : Fin 4) = 0 ∧ win0_2.index t (3 : Fin 4) = 0 :=
  (by decide +kernel : ∀ t : Fin grid0.N, _)

/-- The index maps of the result window. -/
theorem index3 : ∀ t : Fin cfg0.N, win0_3.index t (0 : Fin 3) = t.val / 32 ∧ win0_3.index t (1 : Fin 3) = t.val % 16
    ∧ win0_3.index t (2 : Fin 3) = t.val / 16 % 2 :=
  (by decide +kernel : ∀ t : Fin grid0.N, _)

/-- A grid point is below 256. -/
theorem point_lt (t : Fin cfg0.N) : t.val < 256 := lt_of_lt_of_eq t.isLt N_0

/-- The 512 queries `n` of the two heads `g` of batch `b`. -/
def qBlk (Q : Vec Ideal S8x4x8192x256 .bf16) (b : Fin 8) (g : Fin 2) (n : Fin 16) : Vec Ideal S1x2x512x256 .bf16 := fun y =>
  Q (ix4 b ⟨2 * g.val + (y 1).val, by have h : (y 1).val < 2 := (y 1).isLt; omega⟩
    ⟨512 * n.val + (y 2).val, by have h : (y 2).val < 512 := (y 2).isLt; omega⟩ (y 3))

/-- The keys of the two heads `g` of batch `b`. -/
def kBlk (K : Vec Ideal S8x4x8192x256 .bf16) (b : Fin 8) (g : Fin 2) : Vec Ideal S1x2x8192x256 .bf16 := fun y =>
  K (ix4 b ⟨2 * g.val + (y 1).val, by have h : (y 1).val < 2 := (y 1).isLt; omega⟩ (y 2) (y 3))

/-- The values of the two heads `g` of batch `b`. -/
def vBlk (V : Vec Ideal S8x4x8192x128 .bf16) (b : Fin 8) (g : Fin 2) : Vec Ideal S1x2x8192x128 .bf16 := fun y =>
  V (ix4 b ⟨2 * g.val + (y 1).val, by have h : (y 1).val < 2 := (y 1).isLt; omega⟩ (y 2) (y 3))

/-- The result array: at each index the entry of the block of that index. -/
def whole (Q K : Vec Ideal S8x4x8192x256 .bf16) (V : Vec Ideal S8x4x8192x128 .bf16) : Vec Ideal S8x8192x512 .bf16 := fun i =>
  have h1 : (i 1).val < 8192 := (i 1).isLt
  have h2 : (i 2).val < 512 := (i 2).isLt
  outBlk (qBlk Q (i 0) ⟨(i 2).val / 256, by omega⟩ ⟨(i 1).val / 512, by omega⟩) (kBlk K (i 0) ⟨(i 2).val / 256, by omega⟩)
    (vBlk V (i 0) ⟨(i 2).val / 256, by omega⟩) (ix3 0 ⟨(i 1).val % 512, by omega⟩ ⟨(i 2).val % 256, by omega⟩)

variable (m : (ℓ : Loc nD τ sig) → Buf (Elt Ideal) ℓ) (ρ : Dev nD → PrngReg)

/-- The batch of a grid point. -/
abbrev ptB (t : Fin cfg0.N) : Fin 8 := ⟨t.val / 32, by have := point_lt t; omega⟩
/-- The head pair of a grid point. -/
abbrev ptG (t : Fin cfg0.N) : Fin 2 := ⟨t.val / 16 % 2, by omega⟩
/-- The query block of a grid point. -/
abbrev ptN (t : Fin cfg0.N) : Fin 16 := ⟨t.val % 16, by omega⟩

/-- The query block read at a grid point. -/
theorem iblk0_eq (c : Dev nD) (t : Fin cfg0.N) : iblk m c 0 t = qBlk (V m c main_arg0) (ptB t) (ptG t) (ptN t) := by
  obtain ⟨e0, e1, e2, e3⟩ := index0 t
  funext y
  show V m c main_arg0 (((cfg0.win 0).blk t).view.emb y) = V m c main_arg0 (ix4 _ _ _ _)
  congr 1
  funext a; apply Fin.ext
  match a with
  | ⟨0, _⟩ => show win0_0.index t (0 : Fin 4) * 1 + 1 * (y 0).val = t.val / 32; have h : (y 0).val < 1 := (y 0).isLt; omega
  | ⟨1, _⟩ => show win0_0.index t (1 : Fin 4) * 2 + 1 * (y 1).val = 2 * (t.val / 16 % 2) + (y 1).val; omega
  | ⟨2, _⟩ => show win0_0.index t (2 : Fin 4) * 512 + 1 * (y 2).val = 512 * (t.val % 16) + (y 2).val; omega
  | ⟨3, _⟩ => show win0_0.index t (3 : Fin 4) * 256 + 1 * (y 3).val = (y 3).val; omega

/-- The key block read at a grid point. -/
theorem iblk1_eq (c : Dev nD) (t : Fin cfg0.N) : iblk m c 1 t = kBlk (V m c main_arg1) (ptB t) (ptG t) := by
  obtain ⟨e0, e1, e2, e3⟩ := index1 t
  funext y
  show V m c main_arg1 (((cfg0.win 1).blk t).view.emb y) = V m c main_arg1 (ix4 _ _ _ _)
  congr 1
  funext a; apply Fin.ext
  match a with
  | ⟨0, _⟩ => show win0_1.index t (0 : Fin 4) * 1 + 1 * (y 0).val = t.val / 32; have h : (y 0).val < 1 := (y 0).isLt; omega
  | ⟨1, _⟩ => show win0_1.index t (1 : Fin 4) * 2 + 1 * (y 1).val = 2 * (t.val / 16 % 2) + (y 1).val; omega
  | ⟨2, _⟩ => show win0_1.index t (2 : Fin 4) * 8192 + 1 * (y 2).val = (y 2).val; omega
  | ⟨3, _⟩ => show win0_1.index t (3 : Fin 4) * 256 + 1 * (y 3).val = (y 3).val; omega

/-- The value block read at a grid point. -/
theorem iblk2_eq (c : Dev nD) (t : Fin cfg0.N) : iblk m c 2 t = vBlk (V m c main_arg2) (ptB t) (ptG t) := by
  obtain ⟨e0, e1, e2, e3⟩ := index2 t
  funext y
  show V m c main_arg2 (((cfg0.win 2).blk t).view.emb y) = V m c main_arg2 (ix4 _ _ _ _)
  congr 1
  funext a; apply Fin.ext
  match a with
  | ⟨0, _⟩ => show win0_2.index t (0 : Fin 4) * 1 + 1 * (y 0).val = t.val / 32; have h : (y 0).val < 1 := (y 0).isLt; omega
  | ⟨1, _⟩ => show win0_2.index t (1 : Fin 4) * 2 + 1 * (y 1).val = 2 * (t.val / 16 % 2) + (y 1).val; omega
  | ⟨2, _⟩ => show win0_2.index t (2 : Fin 4) * 8192 + 1 * (y 2).val = (y 2).val; omega
  | ⟨3, _⟩ => show win0_2.index t (3 : Fin 4) * 128 + 1 * (y 3).val = (y 3).val; omega

/-- An index of a result block in the result array. -/
theorem emb3 (t : Fin cfg0.N) (y : S1x512x256.Idx) : ((cfg0.win 3).blk t).view.emb y
    = ix3 (ptB t) ⟨512 * (t.val % 16) + (y 1).val, by have h : (y 1).val < 512 := (y 1).isLt; omega⟩
      ⟨256 * (t.val / 16 % 2) + (y 2).val, by have h : (y 2).val < 256 := (y 2).isLt; omega⟩ := by
  obtain ⟨e0, e1, e2⟩ := index3 t
  funext a; apply Fin.ext
  match a with
  | ⟨0, _⟩ => show win0_3.index t (0 : Fin 3) * 1 + 1 * (y 0).val = t.val / 32; have h : (y 0).val < 1 := (y 0).isLt; omega
  | ⟨1, _⟩ => show win0_3.index t (1 : Fin 3) * 512 + 1 * (y 1).val = 512 * (t.val % 16) + (y 1).val; omega
  | ⟨2, _⟩ => show win0_3.index t (2 : Fin 3) * 256 + 1 * (y 2).val = 256 * (t.val / 16 % 2) + (y 2).val; omega

/-- The result array at an index of the block of a grid point. -/
theorem whole_blk (Q K : Vec Ideal S8x4x8192x256 .bf16) (V : Vec Ideal S8x4x8192x128 .bf16) (b : Fin 8) (g : Fin 2) (n : Fin 16)
    (r : Fin 512) (l : Fin 256) :
    whole Q K V (ix3 b ⟨512 * n.val + r.val, by omega⟩ ⟨256 * g.val + l.val, by omega⟩)
      = outBlk (qBlk Q b g n) (kBlk K b g) (vBlk V b g) (ix3 0 r l) := by
  have e1 : (⟨(256 * g.val + l.val) / 256, by omega⟩ : Fin 2) = g := Fin.ext (by show (256 * g.val + l.val) / 256 = g.val; omega)
  have e2 : (⟨(256 * g.val + l.val) % 256, by omega⟩ : Fin 256) = l := Fin.ext (by show (256 * g.val + l.val) % 256 = l.val; omega)
  have e3 : (⟨(512 * n.val + r.val) / 512, by omega⟩ : Fin 16) = n := Fin.ext (by show (512 * n.val + r.val) / 512 = n.val; omega)
  have e4 : (⟨(512 * n.val + r.val) % 512, by omega⟩ : Fin 512) = r := Fin.ext (by show (512 * n.val + r.val) % 512 = r.val; omega)
  show outBlk (qBlk Q b ⟨(256 * g.val + l.val) / 256, _⟩ ⟨(512 * n.val + r.val) / 512, _⟩) (kBlk K b ⟨(256 * g.val + l.val) / 256, _⟩)
    (vBlk V b ⟨(256 * g.val + l.val) / 256, _⟩) (ix3 0 ⟨(512 * n.val + r.val) % 512, _⟩ ⟨(256 * g.val + l.val) % 256, _⟩) = _
  rw [e1, e2, e3, e4]

/-- What a grid point writes back is its block of the result array. -/
theorem flushed_eq (c : Dev nD) (t : Fin cfg0.N) : (dats m 0 c).flushed 3 t
    = ((cfg0.win 3).blk t).view.read (Elt Ideal) (whole (V m c main_arg0) (V m c main_arg1) (V m c main_arg2)) := by
  rw [Value.flushed3_A, out_eq, iblk0_eq, iblk1_eq, iblk2_eq]
  funext y
  show outBlk _ _ _ y = whole _ _ _ (((cfg0.win 3).blk t).view.emb y)
  rw [emb3]
  refine Eq.trans ?_ (whole_blk _ _ _ (ptB t) (ptG t) (ptN t) (y 1) (y 2)).symm
  congr 1
  funext a
  match a with
  | ⟨0, _⟩ => exact Fin.ext (by show (y 0).val = 0; have h : (y 0).val < 1 := (y 0).isLt; omega)
  | ⟨1, _⟩ => rfl
  | ⟨2, _⟩ => rfl

/-- Every index of the result array lies in the block of some grid point. -/
theorem covered (i : S8x8192x512.Idx) :
    ∃ t : Fin cfg0.N, (cfg0.win 3).flush t = true ∧ i ∈ ((cfg0.win 3).blk t).view.set := by
  have h0 : (i 0).val < 8 := (i 0).isLt
  have h1 : (i 1).val < 8192 := (i 1).isLt
  have h2 : (i 2).val < 512 := (i 2).isLt
  let t : Fin cfg0.N := ⟨32 * (i 0).val + 16 * ((i 2).val / 256) + (i 1).val / 512, by show _ < grid0.N; rw [N_0]; omega⟩
  refine ⟨t, flush0_3 _, ?_⟩
  have h := ((cfg0.win 3).blk t).view.emb_mem_set
    (ix3 0 ⟨(i 1).val % 512, by omega⟩ ⟨(i 2).val % 256, by omega⟩ : S1x512x256.Idx)
  rw [emb3] at h
  have e : (ix3 (ptB t) ⟨512 * (t.val % 16) + (i 1).val % 512, by omega⟩ ⟨256 * (t.val / 16 % 2) + (i 2).val % 256, by omega⟩ : S8x8192x512.Idx) = i := by
    have ht : t.val = 32 * (i 0).val + 16 * ((i 2).val / 256) + (i 1).val / 512 := rfl
    funext a; apply Fin.ext
    match a with
    | ⟨0, _⟩ => show t.val / 32 = (i 0).val; omega
    | ⟨1, _⟩ => show 512 * (t.val % 16) + (i 1).val % 512 = (i 1).val; omega
    | ⟨2, _⟩ => show 256 * (t.val / 16 % 2) + (i 2).val % 256 = (i 2).val; omega
  exact Eq.mp (congrArg (· ∈ ((cfg0.win 3).blk t).view.set) e) h

/-- The result array after the run. -/
theorem final_array (c : Dev nD) : (dats m 0 c).arrAt 3 cfg0.N
    = whole (m ((c : Thread nD τ).loc main_arg0)) (m ((c : Thread nD τ).loc main_arg1)) (m ((c : Thread nD τ).loc main_arg2)) :=
  (dats m 0 c).arrAt_eq_of_cover 3 (whole (V m c main_arg0) (V m c main_arg1) (V m c main_arg2)) (fun t _ => flushed_eq m c t) covered

/-- The run of the program, with its result array named. -/
theorem run_whole : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_array m c), (h c).2⟩) (Value.run_blocks m ρ)

/-- The result array at batch `b`, query `n * 512 + r`, head `2 g + h` and column `l`: the values by the softmax weights. -/
theorem whole_apply (Q K : Vec Ideal S8x4x8192x256 .bf16) (V : Vec Ideal S8x4x8192x128 .bf16)
    (σ : Fin 8 → Fin 4 → Fin 8192 → Fin 8192 → ℝ)
    (hσ : ∀ b h r j, ∑ d : Fin 256, (Q (ix4 b h r d) : EReal) * (K (ix4 b h j d) : EReal) = (σ b h r j : EReal))
    (b : Fin 8) (h : Fin 4) (q : Fin 8192) (l : Fin 128) :
    (whole Q K V (ix3 b q ⟨128 * h.val + l.val, by omega⟩) : EReal) = ∑ j, (V (ix4 b h j l) : EReal) * (prob (σ b h q) j : EReal) := by
  have hh := h.isLt
  have hq := q.isLt
  have hl := l.isLt
  obtain ⟨g, hg⟩ : ∃ g : Fin 2, g.val = h.val / 2 := ⟨⟨h.val / 2, by omega⟩, rfl⟩
  obtain ⟨p, hp⟩ : ∃ p : Fin 2, p.val = h.val % 2 := ⟨⟨h.val % 2, by omega⟩, rfl⟩
  obtain ⟨n, hn⟩ : ∃ n : Fin 16, n.val = q.val / 512 := ⟨⟨q.val / 512, by omega⟩, rfl⟩
  obtain ⟨r, hr⟩ : ∃ r : Fin 512, r.val = q.val % 512 := ⟨⟨q.val % 512, by omega⟩, rfl⟩
  have eh : h = ⟨2 * g.val + p.val, by omega⟩ := Fin.ext (by show h.val = 2 * g.val + p.val; omega)
  have eq : q = ⟨512 * n.val + r.val, by omega⟩ := Fin.ext (by show q.val = 512 * n.val + r.val; omega)
  have el : (⟨128 * h.val + l.val, by omega⟩ : Fin 512) = ⟨256 * g.val + (128 * p.val + l.val), by omega⟩ :=
    Fin.ext (by show 128 * h.val + l.val = 256 * g.val + (128 * p.val + l.val); omega)
  have e : (ix3 b q ⟨128 * h.val + l.val, by omega⟩ : S8x8192x512.Idx)
      = ix3 b ⟨512 * n.val + r.val, by omega⟩ ⟨256 * g.val + (128 * p.val + l.val), by omega⟩ := congrArg₂ (ix3 b) eq el
  refine (congrArg (whole Q K V) e).trans ?_
  refine (whole_blk Q K V b g n r ⟨128 * p.val + l.val, by omega⟩).trans ?_
  refine (outBlk_softmax (qBlk Q b g n) (kBlk K b g) (vBlk V b g)
    (fun p r j => σ b ⟨2 * g.val + p.val, by omega⟩ ⟨512 * n.val + r.val, by omega⟩ j)
    (fun p r j => hσ b ⟨2 * g.val + p.val, by omega⟩ ⟨512 * n.val + r.val, by omega⟩ j) p r l).trans ?_
  refine Finset.sum_congr rfl fun j _ => ?_
  show (V (ix4 b ⟨2 * g.val + p.val, _⟩ j l) : EReal)
    * (prob (σ b ⟨2 * g.val + p.val, _⟩ ⟨512 * n.val + r.val, _⟩) j : EReal) = _
  rw [← eh, ← eq]

end Cert.Mla

end
-- ==== Proof.Soft.lean ====
/- The softmax of the references, read at an index. -/
module

public import proofs.«01_k».proof.Proof.Gen.ReferenceIdeal.Run
public import proofs.«01_k».proof.Proof.Online
public import Idealize.ShloMosaic.Lib.Pointwise

@[expose] public section

set_option maxRecDepth 16384

noncomputable section

namespace Cert.Soft

open Idealize.ShloMosaic
open Cert.ReferenceIdeal Cert.ReferenceIdeal.Gen Cert.Online

/-- Scores of every query against every key. -/
abbrev Scores := FVec Ideal S8x4x8192x8192 .f32

/-- The largest score of each row. -/
def rowMax (S : Scores) : FVec Ideal S8x4x8192 .f32 :=
  maximumf (broadcastInDim S8x4x8192 ![] bcast_S_S8x4x8192 (constant S_ .f32 0xFF800000#32))
    (Host.reduce FloatOps.maximumf S (constant S_ .f32 0xFF800000#32) reducesTo_S8x4x8192x8192_S8x4x8192_d3 h_S_)

/-- The exponentials of the scores less the row's largest. -/
def expo (S : Scores) : Scores :=
  Host.exp (subf S (broadcastInDim S8x4x8192x8192 ![0, 1, 2, 3] bcast_S8x4x8192x1_S8x4x8192x8192_0_1_2_3
    (broadcastInDim S8x4x8192x1 ![0, 1, 2] bcast_S8x4x8192_S8x4x8192x1_0_1_2 (rowMax S))))

/-- The exponentials over their row's sum. -/
def soft (S : Scores) : Scores :=
  Host.divf (expo S) (broadcastInDim S8x4x8192x8192 ![0, 1, 2, 3] bcast_S8x4x8192x1_S8x4x8192x8192_0_1_2_3
    (broadcastInDim S8x4x8192x1 ![0, 1, 2] bcast_S8x4x8192_S8x4x8192x1_0_1_2
      (Host.reduceAdd (expo S) (constant S_ .f32 0x00000000#32) reducesTo_S8x4x8192x8192_S8x4x8192_d3 h_S_)))

/-- Products of queries and keys times the logarithm of two. -/
def scaled (D : Scores) : Scores :=
  mulf D (broadcastInDim S8x4x8192x8192 ![] bcast_S_S8x4x8192x8192 (Host.log (constant S_ .f32 0x40000000#32)))

/-- The pattern of minus infinity. -/
theorem ofBits_bot : Ideal.ofBits FTy.f32 4286578688#32 = ⊥ := by simp [Ideal.ofBits, Ideal.ieee]

/-- The pattern of two. -/
theorem ofBits_two : Ideal.ofBits FTy.f32 1073741824#32 = ((2 : ℝ) : EReal) := by
  simp [Ideal.ofBits, Ideal.ieee]
  norm_num
  rw [← EReal.coe_mul]
  norm_num

/-- A fold of maxima from the least element is the supremum. -/
theorem fold_max {n : ℕ} (f : Fin n → EReal) : Finset.univ.fold max ⊥ f = Finset.univ.sup f := rfl

/-- The largest entries along the last axis of four, as the references' softmax takes them. -/
theorem reduce_max_sup {n0 n1 n2 n3 : ℕ} (S : FVec Ideal (⟨4, ![n0, n1, n2, n3]⟩ : Shape) .f32)
    (hb : (⟨0, ![]⟩ : Shape).BroadcastsInDim (⟨3, ![n0, n1, n2]⟩ : Shape) (![] : Fin 0 → Fin 3))
    (h : (⟨4, ![n0, n1, n2, n3]⟩ : Shape).ReducesTo [3] (⟨3, ![n0, n1, n2]⟩ : Shape)) (hu : 0 < (⟨0, ![]⟩ : Shape).numel)
    (x : Fin n0) (y : Fin n1) (z : Fin n2) :
    (maximumf (broadcastInDim (⟨3, ![n0, n1, n2]⟩ : Shape) ![] hb (constant (⟨0, ![]⟩ : Shape) .f32 0xFF800000#32))
      (Host.reduce FloatOps.maximumf S (constant (⟨0, ![]⟩ : Shape) .f32 0xFF800000#32) h hu) (ix3 x y z) : EReal)
      = Finset.univ.sup fun k : Fin n3 => (S (ix4 x y z k) : EReal) := by
  pointwise
  rw [ofBits_bot, fold_max]
  exact max_bot_left _

/-- The largest score at an index. -/
theorem rowMax_apply (S : Scores) (b : Fin 8) (h : Fin 4) (r : Fin 8192) :
    (rowMax S (ix3 b h r) : EReal) = Finset.univ.sup fun j : Fin 8192 => (S (ix4 b h r j) : EReal) :=
  reduce_max_sup (n0 := 8) (n1 := 4) (n2 := 8192) (n3 := 8192) S bcast_S_S8x4x8192 reducesTo_S8x4x8192x8192_S8x4x8192_d3 h_S_ b h r

/-- An exponential at an index. -/
theorem expo_apply (S : Scores) (b : Fin 8) (h : Fin 4) (r j : Fin 8192) :
    (expo S (ix4 b h r j) : EReal) = Ideal.exp (S (ix4 b h r j) - rowMax S (ix3 b h r)) := by
  pointwise [expo]

/-- A quotient at an index. -/
theorem soft_apply (S : Scores) (b : Fin 8) (h : Fin 4) (r j : Fin 8192) :
    (soft S (ix4 b h r j) : EReal) = Ideal.div (expo S (ix4 b h r j)) (∑ k : Fin 8192, (expo S (ix4 b h r k) : EReal)) := by
  pointwise [soft]

/-- A scaled score at an index. -/
theorem scaled_apply (D : Scores) (b : Fin 8) (h : Fin 4) (r j : Fin 8192) :
    (scaled D (ix4 b h r j) : EReal) = D (ix4 b h r j) * (Real.log 2 : ℝ) := by
  pointwise [scaled]
  rw [ofBits_two, Ideal.log_coe, if_neg (by norm_num)]

/-- The softmax of real scores. -/
theorem soft_real (D : Scores) (σ : Fin 8 → Fin 4 → Fin 8192 → Fin 8192 → ℝ)
    (hD : ∀ b h r j, (D (ix4 b h r j) : EReal) = (σ b h r j : EReal)) (b : Fin 8) (h : Fin 4) (r j : Fin 8192) :
    (soft (scaled D) (ix4 b h r j) : EReal) = (prob (σ b h r) j : EReal) := by
  obtain ⟨M, hM⟩ : ∃ M : ℝ, (rowMax (scaled D) (ix3 b h r) : EReal) = (M : EReal) := by
    obtain ⟨M, hM⟩ := peak_real (fun j => σ b h r j * Real.log 2) (Finset.univ_nonempty (α := Fin 8192))
    refine ⟨M, (rowMax_apply _ b h r).trans (Eq.trans ?_ hM)⟩
    exact Finset.sup_congr rfl fun j _ => by rw [scaled_apply, hD, ← EReal.coe_mul]
  have he : ∀ k, (expo (scaled D) (ix4 b h r k) : EReal) = Ideal.exp ((σ b h r k : EReal) * (Real.log 2 : ℝ) - (M : EReal)) := fun k => by
    rw [expo_apply, scaled_apply, hD, hM]
  rw [soft_apply, he, Finset.sum_congr rfl fun k _ => he k]
  exact prob_eq (σ b h r) M j

end Cert.Soft

end
-- ==== Proof.MlaRef.lean ====
/- The first reference's result, read at an index. -/
module

public import proofs.«01_k».proof.Proof.Soft

@[expose] public section

set_option maxRecDepth 16384

noncomputable section

namespace Cert.MlaRef

open Idealize.ShloMosaic Idealize.ShloMosaic.TcCoe Idealize.SL.Sem
open Cert.ReferenceIdeal Cert.ReferenceIdeal.Gen Cert.Online Cert.Soft

/-- The products of queries and keys. -/
def dots (Q K : FVec Ideal S8x4x8192x256 .bf16) : Scores :=
  Host.dotGeneral (φ₁ := .f32) (φ₂ := .f32) dot_S8x4x8192x256_S8x4x8192x256_S8x4x8192x8192_3_3_2_2_01_01 none
    (extf .f32 Q bitsLt_bf16_f32) (extf .f32 K bitsLt_bf16_f32)

/-- The values by weights `P`, heads side by side. -/
def mixed (V : FVec Ideal S8x4x8192x128 .bf16) (P : Scores) : FVec Ideal S8x8192x512 .bf16 :=
  truncf .bf16 (shapeCast S8x8192x512 (transpose S8x8192x4x128 [0, 3, 1, 2]
    (Host.dotGeneral (φ₁ := .f32) (φ₂ := .f32) dot_S8x4x8192x128_S8x4x8192x8192_S8x4x128x8192_2_3_3_2_01_01 none
      (extf .f32 V bitsLt_bf16_f32) P) transposes_S8x4x128x8192_S8x8192x4x128_0_3_1_2) shapeCasts_S8x8192x4x128_S8x8192x512)
    bitsLt_bf16_f32

/-- The first reference's result. -/
def out (Q K : FVec Ideal S8x4x8192x256 .bf16) (V : FVec Ideal S8x4x8192x128 .bf16) : FVec Ideal S8x8192x512 .bf16 :=
  mixed V (soft (scaled (dots Q K)))

/-- A product at an index. -/
theorem dots_apply (Q K : FVec Ideal S8x4x8192x256 .bf16) (b : Fin 8) (h : Fin 4) (r j : Fin 8192) :
    (dots Q K (ix4 b h r j) : EReal) = ∑ d : Fin 256, (Q (ix4 b h r d) : EReal) * (K (ix4 b h j d) : EReal) := by
  pointwise [dots]

/-- A mixture at an index. -/
theorem mixed_apply (V : FVec Ideal S8x4x8192x128 .bf16) (P : Scores) (b : Fin 8) (h : Fin 4) (r : Fin 8192) (l : Fin 128) :
    (mixed V P (ix3 b r ⟨128 * h.val + l.val, by omega⟩) : EReal)
      = ∑ j : Fin 8192, (V (ix4 b h j l) : EReal) * (P (ix4 b h r j) : EReal) := by
  pointwise [mixed]

/-- The first reference's result at an index: the values by the softmax weights. -/
theorem out_apply (Q K : FVec Ideal S8x4x8192x256 .bf16) (V : FVec Ideal S8x4x8192x128 .bf16)
    (σ : Fin 8 → Fin 4 → Fin 8192 → Fin 8192 → ℝ)
    (hσ : ∀ b h r j, ∑ d : Fin 256, (Q (ix4 b h r d) : EReal) * (K (ix4 b h j d) : EReal) = (σ b h r j : EReal))
    (b : Fin 8) (h : Fin 4) (r : Fin 8192) (l : Fin 128) :
    (out Q K V (ix3 b r ⟨128 * h.val + l.val, by omega⟩) : EReal) = ∑ j, (V (ix4 b h j l) : EReal) * (prob (σ b h r) j : EReal) := by
  refine (mixed_apply V _ b h r l).trans (Finset.sum_congr rfl fun j _ => ?_)
  rw [soft_real (dots Q K) σ fun b h r j => (dots_apply Q K b h r j).trans (hσ b h r j)]

variable (m : (ℓ : Loc nD τ sig) → Buf (Elt Ideal) ℓ) (ρ : Dev nD → PrngReg)

/-- The run of the first reference, with its result array named. -/
theorem run_out : θ_run defs (onTc (τ := τ) (main (F := Ideal))) ⟨m, fun _ => 0, ρ⟩ fun r => ∀ c : Dev nD,
      r.2.mem ((c.tc : Thread nD τ).loc main_v21)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.MlaRef

end
-- ==== Proof.Finite.lean ====
/- Finite extended reals, as the preconditions state them. -/
module

public import proofs.«01_k».proof.Defs
public import proofs.«01_k».proof.Proof.Gen.Pre_finite_scores
public import proofs.«01_k».proof.Proof.Gen.Pre_finite_inputs
public import proofs.«01_k».proof.Proof.Online
public import Idealize.ShloMosaic.Lib.Pointwise

@[expose] public section

noncomputable section

namespace Cert.Finite

open Idealize.ShloMosaic

/-- The pattern of infinity. -/
theorem ofBits_top : Ideal.ofBits FTy.f32 2139095040#32 = ⊤ := by simp [Ideal.ofBits, Ideal.ieee]

/-- A number whose absolute value is below infinity is real. -/
theorem real_of_lt {x : EReal} (h : Ideal.cmp .olt (max x (-x)) (Ideal.ofBits FTy.f32 2139095040#32) = 1#1) :
    ∃ r : ℝ, x = (r : EReal) := by
  rw [ofBits_top] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at hlt
  have hb : x ≠ ⊥ := fun e => by rw [e] at hlt; simp at hlt
  exact ⟨x.toReal, (EReal.coe_toReal hlt.1.ne hb).symm⟩

/-- Sums of products of reals are real. -/
theorem real_dot {n : ℕ} {f g : Fin n → EReal} (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [Cert.Online.coe_sum]
  exact Finset.sum_congr rfl fun k _ => by rw [ha, hb, EReal.coe_mul]

attribute [local instance] Cert.Pre_finite_scores.Gen.facts Cert.Pre_finite_inputs.Gen.facts

/-- The first precondition's arrays are real. -/
theorem scores_real {Q K V}
    (h : (Cert.Pre_finite_scores.fn (F := Ideal) Q K V).1 = (fun _ => 1#1) ∧ (Cert.Pre_finite_scores.fn (F := Ideal) Q K V).2 = (fun _ => 1#1)) :
    (∀ i, ∃ r : ℝ, (Q i : EReal) = (r : EReal)) ∧ ∀ i, ∃ r : ℝ, (K i : EReal) = (r : EReal) :=
  ⟨fun i => real_of_lt (congrFun h.1 i), fun i => real_of_lt (congrFun h.2 i)⟩

/-- The second precondition's arrays are real. -/
theorem inputs_real {L G Q K V}
    (h : (Cert.Pre_finite_inputs.fn (F := Ideal) L G Q K V).1 = (fun _ => 1#1)
      ∧ (Cert.Pre_finite_inputs.fn (F := Ideal) L G Q K V).2.1 = (fun _ => 1#1)
      ∧ (Cert.Pre_finite_inputs.fn (F := Ideal) L G Q K V).2.2.1 = (fun _ => 1#1)
      ∧ (Cert.Pre_finite_inputs.fn (F := Ideal) L G Q K V).2.2.2 = (fun _ => 1#1)) :
    (∀ i, ∃ r : ℝ, (L i : EReal) = (r : EReal)) ∧ (∀ i, ∃ r : ℝ, (Q i : EReal) = (r : EReal))
      ∧ (∀ i, ∃ r : ℝ, (K i : EReal) = (r : EReal)) ∧ ∀ i, ∃ r : ℝ, (V i : EReal) = (r : EReal) :=
  ⟨fun i => real_of_lt (congrFun h.1 i), fun i => real_of_lt (congrFun h.2.1 i), fun i => real_of_lt (congrFun h.2.2.1 i),
    fun i => real_of_lt (congrFun h.2.2.2 i)⟩

end Cert.Finite

end
-- ==== Proof.MlaClaim.lean ====
/- The first kernel's result is the first reference's. -/
module

public import proofs.«01_k».proof.Proof.MlaValue
public import proofs.«01_k».proof.Proof.MlaRef
public import proofs.«01_k».proof.Proof.Finite
public import Idealize.ShloMosaic.Lib.Quiescent

@[expose] public section

noncomputable section

namespace Cert.MlaClaim

open Idealize.ShloMosaic Idealize.ShloMosaic.TcCoe Idealize.SL.Sem
open Cert.KernelIdeal

attribute [local instance] Cert.Pre_finite_scores.Gen.facts

/-- The two result arrays agree where queries and keys are real. -/
theorem agree (Q K : FVec Ideal S8x4x8192x256 .bf16) (V : FVec Ideal S8x4x8192x128 .bf16)
    (hQ : ∀ i, ∃ r : ℝ, (Q i : EReal) = (r : EReal)) (hK : ∀ i, ∃ r : ℝ, (K i : EReal) = (r : EReal)) :
    Cert.MlaRef.out Q K V = Cert.Mla.whole Q K V := by
  have hσ : ∀ (b : Fin 8) (h : Fin 4) (r j : Fin 8192), ∃ s : ℝ,
      ∑ d : Fin 256, (Q (ix4 b h r d) : EReal) * (K (ix4 b h j d) : EReal) = (s : EReal) :=
    fun b h r j => Cert.Finite.real_dot (fun d => hQ _) (fun d => hK _)
  choose σ hσ using hσ
  funext i
  have h2 : (i 2).val < 512 := (i 2).isLt
  have e : i = ix3 (i 0) (i 1) ⟨128 * (⟨(i 2).val / 128, by omega⟩ : Fin 4).val + (⟨(i 2).val % 128, by omega⟩ : Fin 128).val,
      by show 128 * ((i 2).val / 128) + (i 2).val % 128 < 512; omega⟩ := by
    funext a; apply Fin.ext
    match a with
    | ⟨0, _⟩ => rfl
    | ⟨1, _⟩ => rfl
    | ⟨2, _⟩ => show (i 2).val = 128 * ((i 2).val / 128) + (i 2).val % 128; omega
  rw [e]
  exact (Cert.MlaRef.out_apply Q K V σ hσ _ _ _ _).trans (Cert.Mla.whole_apply Q K V σ hσ _ _ _ _).symm

/-- The first reference runs, leaves its arguments and no counter above zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.MlaRef.run_out m ρ)

/-- The same where the precondition holds. -/
theorem frame_ref_pre : Cert.quiescent_ReferenceIdeal_pre_finite_scores := fun m ρ _ =>
  (θ_run Cert.ReferenceIdeal.defs _ _).mono (fun r h => ⟨fun c => (h c).2, sem_eq_zero_of_no_sems (by decide) r.2⟩)
    (Cert.MlaRef.run_out m ρ)

/-- The first kernel's result is the first reference's, where queries and keys are finite. -/
theorem algebraic : Cert.algebraic_KernelIdeal_ReferenceIdeal_pre_finite_scores := by
  intro m ρ m' ρ' hpre hagree
  refine ⟨fun c => Cert.Mla.whole (m ((c.tc : Thread nD τ).loc main_arg0)) (m ((c.tc : Thread nD τ).loc main_arg1))
    (m ((c.tc : Thread nD τ).loc main_arg2)), Cert.Mla.run_whole m ρ, ?_⟩
  refine (θ_run Cert.ReferenceIdeal.defs _ _).mono (fun _ h c => ⟨(h c).1.trans ?_, (h c).2⟩) (Cert.MlaRef.run_out m' ρ')
  obtain ⟨e0, e1, e2⟩ := hagree c
  rw [e0, e1, e2]
  obtain ⟨hQ, hK⟩ := Cert.Finite.scores_real (hpre c)
  exact agree _ _ _ hQ hK

end Cert.MlaClaim

end
-- ==== Proof.DiffBlock.lean ====
/-
  What the second attention's body leaves in its output block: for each head of the block and each row, the difference
  of the values by two softmaxes, normalised by its root mean square.
-/
module

public import proofs.«01_k».proof.Proof.Gen.Kernel2Ideal.Value
public import proofs.«01_k».proof.Proof.Step
public import Idealize.ShloMosaic.Lib.WholeRead
public import Idealize.ShloMosaic.Lib.Pipeline.ReadBack

@[expose] public section

set_option maxRecDepth 16384

noncomputable section

namespace Cert.Diff

open Idealize.ShloMosaic Idealize.ShloMosaic.TcCoe
open Cert.Kernel2Ideal Cert.Kernel2Ideal.Gen Cert.Online Cert.Step
open Cert.Kernel2Ideal.Gen.kernelRun0_A

/-! ## The scores of one half of the lanes -/

/-- A head's queries with the other half's lanes zeroed. -/
def masked (s : Fin 2) (q : FVec Ideal S1x1x512x128 .bf16) : FVec Ideal S512x128 .bf16 :=
  match s with
  | 0 => k0_pay4 q
  | 1 => k0_pay5 q

/-- A chunk's scores of one half. -/
def score (s : Fin 2) (q : FVec Ideal S1x1x512x128 .bf16) (k : FVec Ideal S1x1x1024x128 .bf16) : ScoreVec :=
  k0_pay15 (F := Ideal) (masked s q) k

/-- Whether a lane is of the first half. -/
theorem lane_lt (d : Fin 128) :
    IntOp.cmpi CmpIPredicate.slt (BitVec.ofNat 32 d.val) 64#32 = if d.val < 64 then 1#1 else 0#1 := by
  revert d; decide

/-- The first half's queries at an index. -/
theorem masked_zero (q : FVec Ideal S1x1x512x128 .bf16) (r : Fin 512) (d : Fin 128) :
    (masked 0 q (ix2 r d) : EReal) = if d.val < 64 then (q (ix4 0 0 r d) : EReal) else 0 := by
  show (k0_pay4 (F := Ideal) q (ix2 r d) : EReal) = _
  pointwise [k0_pay4, k0_pay2, k0_pay3]
  rw [lane_lt]
  split <;> rfl

/-- The second half's queries at an index. -/
theorem masked_one (q : FVec Ideal S1x1x512x128 .bf16) (r : Fin 512) (d : Fin 128) :
    (masked 1 q (ix2 r d) : EReal) = if d.val < 64 then 0 else (q (ix4 0 0 r d) : EReal) := by
  show (k0_pay5 (F := Ideal) q (ix2 r d) : EReal) = _
  pointwise [k0_pay5, k0_pay2, k0_pay3]
  rw [lane_lt]
  split <;> rfl

/-- Lane `d` of half `s`. -/
abbrev lane (s : Fin 2) (d : Fin 64) : Fin 128 := ⟨64 * s.val + d.val, by omega⟩

/-- A sum over all lanes is one over each half. -/
theorem sum_lanes (f : Fin 128 → EReal) : ∑ d, f d = ∑ d, f (lane 0 d) + ∑ d, f (lane 1 d) := by
  rw [show (∑ d, f d) = ∑ d : Fin (64 + 64), f d from rfl, Fin.sum_univ_add]
  refine congrArg₂ (· + ·) (Finset.sum_congr rfl fun d _ => congrArg f (Fin.ext ?_)) (Finset.sum_congr rfl fun d _ => congrArg f (Fin.ext ?_))
  · show d.val = 64 * 0 + d.val; omega
  · show 64 + d.val = 64 * 1 + d.val; omega

/-- A chunk's scores at an index. -/
theorem score_sum (s : Fin 2) (q : FVec Ideal S1x1x512x128 .bf16) (k : FVec Ideal S1x1x1024x128 .bf16) (r : Fin 512) (n : Fin 1024) :
    (score s q k (ix3 0 r n) : EReal) = ∑ d : Fin 128, (masked s q (ix2 r d) : EReal) * (k (ix4 0 0 n d) : EReal) := by
  pointwise [score, k0_pay15]

/-- They are the products over the half's lanes. -/
theorem score_apply (s : Fin 2) (q : FVec Ideal S1x1x512x128 .bf16) (k : FVec Ideal S1x1x1024x128 .bf16) (r : Fin 512)
    (n : Fin 1024) :
    (score s q k (ix3 0 r n) : EReal) = ∑ d : Fin 64, (q (ix4 0 0 r (lane s d)) : EReal) * (k (ix4 0 0 n (lane s d)) : EReal) := by
  have lt : ∀ d : Fin 64, (lane 0 d).val < 64 := fun d => by show 64 * 0 + d.val < 64; omega
  have ge : ∀ d : Fin 64, ¬ (lane 1 d).val < 64 := fun d => by show ¬ 64 * 1 + d.val < 64; omega
  refine (score_sum s q k r n).trans ((sum_lanes _).trans ?_)
  match s with
  | 0 =>
    refine (congrArg₂ (· + ·) (Finset.sum_congr rfl fun d _ => ?_) (Finset.sum_eq_zero fun d _ => ?_)).trans (add_zero _)
    · rw [masked_zero, if_pos (lt d)]
    · rw [masked_zero, if_neg (ge d), zero_mul]
  | 1 =>
    refine (congrArg₂ (· + ·) (Finset.sum_eq_zero fun d _ => ?_) (Finset.sum_congr rfl fun d _ => ?_)).trans (zero_add _)
    · rw [masked_one, if_pos (lt d), zero_mul]
    · rw [masked_one, if_neg (ge d)]

/-! ## The finish -/

/-- The factor of the second softmax. -/
def lam (lv : FVec Ideal S4x64 .f32) : EReal := k0_pay152 (F := Ideal) lv (ix2 0 0)

/-- The factor is the difference of two exponentials of sums of products and the initial factor. -/
theorem lam_eq (lv : FVec Ideal S4x64 .f32) :
    lam lv = Ideal.exp (∑ d : Fin 64, (lv (ix2 0 d) : EReal) * (lv (ix2 1 d) : EReal))
      - Ideal.exp (∑ d : Fin 64, (lv (ix2 2 d) : EReal) * (lv (ix2 3 d) : EReal)) + Ideal.ofBits FTy.f32 0x3E4CCCCD#32 := by
  pointwise [lam, k0_pay152]

/-- A row's difference of the two quotients. -/
theorem mix_apply (a b : AccVec) (lv : FVec Ideal S4x64 .f32) (r : Fin 512) (l : Fin 128) :
    (k0_pay153 (F := Ideal) a b lv (ix2 r l) : EReal)
      = Ideal.div (a (ix2 r ⟨l.val, by omega⟩)) (a (ix2 r ⟨128 + l.val, by omega⟩))
        - lam lv * Ideal.div (b (ix2 r ⟨l.val, by omega⟩)) (b (ix2 r ⟨128 + l.val, by omega⟩)) := by
  pointwise [k0_pay153, lam]

/-- A head's stored block from its two streams' sums. -/
def finish (lv : FVec Ideal S4x64 .f32) (g : FVec Ideal S1x128 .f32) (a b : AccVec) : FVec Ideal S1x512x128 .bf16 :=
  k0_pay155 (F := Ideal) (k0_pay153 a b lv) g (k0_pay154 a b lv) (Scalar.ofBits .f32 0x358637BD#32)

/-- A row divided by its root mean square, times the gain and the constant. -/
def normed (o : Fin 128 → EReal) (g : EReal) (l : Fin 128) : EReal :=
  o l * Ideal.rsqrt (Ideal.div (∑ k : Fin 128, o k * o k) (Ideal.ofBits FTy.f32 0x43000000#32)
    + Ideal.ofBits FTy.f32 0x358637BD#32) * g * Ideal.ofBits FTy.f32 0x3F4CCCCD#32

/-- The stored block at an index. -/
theorem finish_apply (lv : FVec Ideal S4x64 .f32) (g : FVec Ideal S1x128 .f32) (a b : AccVec) (r : Fin 512) (l : Fin 128) :
    (finish lv g a b (ix3 0 r l) : EReal) = normed (fun k => k0_pay153 (F := Ideal) a b lv (ix2 r k)) (g (ix2 0 l)) l := by
  pointwise [finish, normed, k0_pay155, k0_pay154]

section Run

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S1x2x512x128 .bf16) (harg5 : arg5.IsWhole)
  (arg6 : Memref sig .tc .vmem S1x2x8192x128 .bf16) (harg6 : arg6.IsWhole)
  (arg7 : Memref sig .tc .vmem S1x2x8192x128 .bf16) (harg7 : arg7.IsWhole)
  (arg8 : Memref sig .tc .vmem S1x512x256 .bf16) (harg8 : arg8.IsWhole)
  (arg9 : Memref sig .tc .vmem S3x512x1024 .f32) (harg9 : arg9.IsWhole)
  (x0 : Vec Ideal S4x64 .f32) (x1 : Vec Ideal S1x128 .f32)
  (x2 : Vec Ideal S1x2x512x128 .bf16) (x3 x4 : Vec Ideal S1x2x8192x128 .bf16)

/-! ## The loads -/

/-- The queries of head `h` of the block. -/
def qOf (h : Fin 2) : FVec Ideal S1x1x512x128 .bf16 := fun y => x2 (ix4 0 h (y 2) (y 3))

/-- The keys, or the values, of chunk `n` of head `h`. -/
def kOf (x : Vec Ideal S1x2x8192x128 .bf16) (h : Fin 2) (n : Fin 8) : FVec Ideal S1x1x1024x128 .bf16 := fun y =>
  x (ix4 0 h (key n (y 2)) (y 3))

/-- The queries a load of head `h` of the block reads. -/
abbrev qLd (h : ℕ) (inb : ∀ a, (![0, h, 0, 0] : Fin 4 → ℕ) a + S1x1x512x128.size a ≤ S1x2x512x128.size a) :
    FVec Ideal S1x1x512x128 .bf16 :=
  View.readAt (Elt Ideal) arg5.view (Rect.unit (s := S1x2x512x128) ![0, h, 0, 0] S1x1x512x128.size inb).toLoadRect
    (harg5.unread x2)

/-- The keys, or the values, a load of 1024 of them from key `n` of head `h` of the block reads. -/
abbrev kLd (arg : Memref sig .tc .vmem S1x2x8192x128 .bf16) (harg : arg.IsWhole) (x : Vec Ideal S1x2x8192x128 .bf16) (h n : ℕ)
    (inb : ∀ a, (![0, h, n, 0] : Fin 4 → ℕ) a + S1x1x1024x128.size a ≤ S1x2x8192x128.size a) :
    FVec Ideal S1x1x1024x128 .bf16 :=
  View.readAt (Elt Ideal) arg.view (Rect.unit (s := S1x2x8192x128) ![0, h, n, 0] S1x1x1024x128.size inb).toLoadRect
    (harg.unread x)

/-- The vectors of the factor a load reads. -/
abbrev lamLd : FVec Ideal S4x64 .f32 :=
  View.readAt (Elt Ideal) arg3.view (Rect.unit (s := S4x64) ![0, 0] S4x64.size inb_S4x64_S4x64_0_0).toLoadRect (harg3.unread x0)

/-- The gain a load reads. -/
abbrev gainLd : FVec Ideal S1x128 .f32 :=
  View.readAt (Elt Ideal) arg4.view (Rect.unit (s := S1x128) ![0, 0] S1x128.size inb_S1x128_S1x128_0_0).toLoadRect (harg4.unread x1)

/-- The queries read are those of the head. -/
theorem qLd_eq (h : Fin 2) (inb) : qLd arg5 harg5 x2 h.val inb = qOf x2 h := by
  funext y
  refine (Memref.IsWhole.readAt_unread _ _ _ _).trans ?_
  unfold qOf
  congr 1
  funext a; apply Fin.ext
  match a with
  | 0 => show 0 + 1 * (y 0).val = 0; have h0 : (y 0).val < 1 := (y 0).isLt; omega
  | 1 => show h.val + 1 * (y 1).val = h.val; have h0 : (y 1).val < 1 := (y 1).isLt; omega
  | 2 => show 0 + 1 * (y 2).val = (y 2).val; omega
  | 3 => show 0 + 1 * (y 3).val = (y 3).val; omega

/-- The keys or values read are those of the chunk. -/
theorem kLd_eq (arg : Memref sig .tc .vmem S1x2x8192x128 .bf16) (harg : arg.IsWhole) (x : Vec Ideal S1x2x8192x128 .bf16)
    (h : Fin 2) (n : Fin 8) (inb) : kLd arg harg x h.val (1024 * n.val) inb = kOf x h n := by
  funext y
  refine (Memref.IsWhole.readAt_unread _ _ _ _).trans ?_
  unfold kOf
  congr 1
  funext a; apply Fin.ext
  match a with
  | 0 => show 0 + 1 * (y 0).val = 0; have h0 : (y 0).val < 1 := (y 0).isLt; omega
  | 1 => show h.val + 1 * (y 1).val = h.val; have h0 : (y 1).val < 1 := (y 1).isLt; omega
  | 2 => show 1024 * n.val + 1 * (y 2).val = 1024 * n.val + (y 2).val; omega
  | 3 => show 0 + 1 * (y 3).val = (y 3).val; omega

/-- The vectors read are the block. -/
theorem lamLd_eq : lamLd arg3 harg3 x0 = x0 := by
  funext y
  refine (Memref.IsWhole.readAt_unread _ _ _ _).trans ?_
  congr 1
  funext a; apply Fin.ext
  match a with
  | 0 => show 0 + 1 * (y 0).val = (y 0).val; omega
  | 1 => show 0 + 1 * (y 1).val = (y 1).val; omega

/-- The gain read is the block. -/
theorem gainLd_eq : gainLd arg4 harg4 x1 = x1 := by
  funext y
  refine (Memref.IsWhole.readAt_unread _ _ _ _).trans ?_
  congr 1
  funext a; apply Fin.ext
  match a with
  | 0 => show 0 + 1 * (y 0).val = (y 0).val; omega
  | 1 => show 0 + 1 * (y 1).val = (y 1).val; omega

/-- A load of queries stays in the block. -/
theorem inbQ (h : Fin 2) : ∀ a, (![0, h.val, 0, 0] : Fin 4 → ℕ) a + S1x1x512x128.size a ≤ S1x2x512x128.size a := by
  revert h; decide

/-- A load of a chunk stays in the block. -/
theorem inbK (h : Fin 2) (n : Fin 8) :
    ∀ a, (![0, h.val, 1024 * n.val, 0] : Fin 4 → ℕ) a + S1x1x1024x128.size a ≤ S1x2x8192x128.size a := by
  revert h n; decide

/-! ## The four streams -/

/-- A chunk's scores and values in half `s` of head `h`. -/
def chunk (h s : Fin 2) (n : Fin 8) : ScoreVec × ValVec := (score s (qOf x2 h) (kOf x3 h n), kOf x4 h n)

/-- The state after eight chunks. -/
def eight (f : Fin 8 → ScoreVec × ValVec) : MaxVec × AccVec := run [f 7, f 6, f 5, f 4, f 3, f 2, f 1, f 0]

/-- A chunk's scores and values, as the body's loads give them. -/
def chunkLd (h s : Fin 2) (n : Fin 8) : ScoreVec × ValVec :=
  (score s (qLd arg5 harg5 x2 h.val (inbQ h)) (kLd arg6 harg6 x3 h.val (1024 * n.val) (inbK h n)),
    kLd arg7 harg7 x4 h.val (1024 * n.val) (inbK h n))

/-- They are the chunk's. -/
theorem chunkLd_eq (h s : Fin 2) (n : Fin 8) :
    chunkLd arg5 harg5 arg6 harg6 arg7 harg7 x2 x3 x4 h s n = chunk x2 x3 x4 h s n := by
  rw [chunkLd, qLd_eq, kLd_eq, kLd_eq]; rfl

/-- The sums of head 0, half 0, over the score buffer's contents at each chunk. -/
theorem first_eq : sl.r_21 c arg5 harg5 arg6 harg6 arg7 harg7 arg9 x2 x3 x4 =
    (run [(sl.v212 c arg5 harg5 arg6 harg6 arg9 x2 x3, kLd arg7 harg7 x4 0 7168 inb_S1x2x8192x128_S1x1x1024x128_0_0_7168_0),
      (sl.v188 c arg5 harg5 arg6 harg6 arg9 x2 x3, kLd arg7 harg7 x4 0 6144 inb_S1x2x8192x128_S1x1x1024x128_0_0_6144_0),
      (sl.v164 c arg5 harg5 arg6 harg6 arg9 x2 x3, kLd arg7 harg7 x4 0 5120 inb_S1x2x8192x128_S1x1x1024x128_0_0_5120_0),
      (sl.v140 c arg5 harg5 arg6 harg6 arg9 x2 x3, kLd arg7 harg7 x4 0 4096 inb_S1x2x8192x128_S1x1x1024x128_0_0_4096_0),
      (sl.v116 c arg5 harg5 arg6 harg6 arg9 x2 x3, kLd arg7 harg7 x4 0 3072 inb_S1x2x8192x128_S1x1x1024x128_0_0_3072_0),
      (sl.v92 c arg5 harg5 arg6 harg6 arg9 x2 x3, kLd arg7 harg7 x4 0 2048 inb_S1x2x8192x128_S1x1x1024x128_0_0_2048_0),
      (sl.v68 c arg5 harg5 arg6 harg6 arg9 x2 x3, kLd arg7 harg7 x4 0 1024 inb_S1x2x8192x128_S1x1x1024x128_0_0_1024_0),
      (sl.v44 c arg5 harg5 arg6 harg6 arg9 x2 x3, kLd arg7 harg7 x4 0 0 inb_S1x2x8192x128_S1x1x1024x128_0_0_0_0)]).2 := rfl

/-- They are those after the eight chunks of head 0, half 0. -/
theorem first_final : sl.r_21 c arg5 harg5 arg6 harg6 arg7 harg7 arg9 x2 x3 x4 = (eight (chunk x2 x3 x4 0 0)).2 := by
  rw [first_eq]
  simp (disch := decide) only [sl.v44, sl.v68, sl.v92, sl.v116, sl.v140, sl.v164, sl.v188, sl.v212, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, sl.HS0_17, sl.HS0_18, sl.HS0_19, sl.HS0_20, sl.HS0_21, sl.HS0_22, sl.HS0_23, sl.HS0_24, sl.HS0_25, sl.HS0_26, sl.HS0_27, sl.HS0_28, sl.HS0_29, sl.HS0_30, sl.HS0_31, sl.HS0_32, ↓View.readCov_cons_toLoadRect, ↓View.readCov_skip]
  simp only [eight, ← chunkLd_eq arg5 harg5 arg6 harg6 arg7 harg7]
  rfl

/-- The sums of head 0, half 1, over the score buffer's contents at each chunk. -/
theorem second_eq : sl.r_38 c arg5 harg5 arg6 harg6 arg7 harg7 arg9 x2 x3 x4 =
    (run [(sl.v406 c arg5 harg5 arg6 harg6 arg9 x2 x3, kLd arg7 harg7 x4 0 7168 inb_S1x2x8192x128_S1x1x1024x128_0_0_7168_0),
      (sl.v382 c arg5 harg5 arg6 harg6 arg9 x2 x3, kLd arg7 harg7 x4 0 6144 inb_S1x2x8192x128_S1x1x1024x128_0_0_6144_0),
      (sl.v358 c arg5 harg5 arg6 harg6 arg9 x2 x3, kLd arg7 harg7 x4 0 5120 inb_S1x2x8192x128_S1x1x1024x128_0_0_5120_0),
      (sl.v334 c arg5 harg5 arg6 harg6 arg9 x2 x3, kLd arg7 harg7 x4 0 4096 inb_S1x2x8192x128_S1x1x1024x128_0_0_4096_0),
      (sl.v310 c arg5 harg5 arg6 harg6 arg9 x2 x3, kLd arg7 harg7 x4 0 3072 inb_S1x2x8192x128_S1x1x1024x128_0_0_3072_0),
      (sl.v286 c arg5 harg5 arg6 harg6 arg9 x2 x3, kLd arg7 harg7 x4 0 2048 inb_S1x2x8192x128_S1x1x1024x128_0_0_2048_0),
      (sl.v262 c arg5 harg5 arg6 harg6 arg9 x2 x3, kLd arg7 harg7 x4 0 1024 inb_S1x2x8192x128_S1x1x1024x128_0_0_1024_0),
      (sl.v238 c arg5 harg5 arg6 harg6 arg9 x2 x3, kLd arg7 harg7 x4 0 0 inb_S1x2x8192x128_S1x1x1024x128_0_0_0_0)]).2 := rfl

/-- They are those after the eight chunks of head 0, half 1. -/
theorem second_final : sl.r_38 c arg5 harg5 arg6 harg6 arg7 harg7 arg9 x2 x3 x4 = (eight (chunk x2 x3 x4 0 1)).2 := by
  rw [second_eq]
  simp (disch := decide) only [sl.v238, sl.v262, sl.v286, sl.v310, sl.v334, sl.v358, sl.v382, sl.v406, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, sl.HS0_17, sl.HS0_18, sl.HS0_19, sl.HS0_20, sl.HS0_21, sl.HS0_22, sl.HS0_23, sl.HS0_24, sl.HS0_25, sl.HS0_26, sl.HS0_27, sl.HS0_28, sl.HS0_29, sl.HS0_30, sl.HS0_31, sl.HS0_32, ↓View.readCov_cons_toLoadRect, ↓View.readCov_skip]
  simp only [eight, ← chunkLd_eq arg5 harg5 arg6 harg6 arg7 harg7]
  rfl

/-- The sums of head 1, half 0, over the score buffer's contents at each chunk. -/
theorem third_eq : sl.r_57 c arg5 harg5 arg6 harg6 arg7 harg7 arg9 x2 x3 x4 =
    (run [(sl.v600 c arg5 harg5 arg6 harg6 arg9 x2 x3, kLd arg7 harg7 x4 1 7168 inb_S1x2x8192x128_S1x1x1024x128_0_1_7168_0),
      (sl.v576 c arg5 harg5 arg6 harg6 arg9 x2 x3, kLd arg7 harg7 x4 1 6144 inb_S1x2x8192x128_S1x1x1024x128_0_1_6144_0),
      (sl.v552 c arg5 harg5 arg6 harg6 arg9 x2 x3, kLd arg7 harg7 x4 1 5120 inb_S1x2x8192x128_S1x1x1024x128_0_1_5120_0),
      (sl.v528 c arg5 harg5 arg6 harg6 arg9 x2 x3, kLd arg7 harg7 x4 1 4096 inb_S1x2x8192x128_S1x1x1024x128_0_1_4096_0),
      (sl.v504 c arg5 harg5 arg6 harg6 arg9 x2 x3, kLd arg7 harg7 x4 1 3072 inb_S1x2x8192x128_S1x1x1024x128_0_1_3072_0),
      (sl.v480 c arg5 harg5 arg6 harg6 arg9 x2 x3, kLd arg7 harg7 x4 1 2048 inb_S1x2x8192x128_S1x1x1024x128_0_1_2048_0),
      (sl.v456 c arg5 harg5 arg6 harg6 arg9 x2 x3, kLd arg7 harg7 x4 1 1024 inb_S1x2x8192x128_S1x1x1024x128_0_1_1024_0),
      (sl.v432 c arg5 harg5 arg6 harg6 arg9 x2 x3, kLd arg7 harg7 x4 1 0 inb_S1x2x8192x128_S1x1x1024x128_0_1_0_0)]).2 := rfl

/-- They are those after the eight chunks of head 1, half 0. -/
theorem third_final : sl.r_57 c arg5 harg5 arg6 harg6 arg7 harg7 arg9 x2 x3 x4 = (eight (chunk x2 x3 x4 1 0)).2 := by
  rw [third_eq]
  simp (disch := decide) only [sl.v432, sl.v456, sl.v480, sl.v504, sl.v528, sl.v552, sl.v576, sl.v600, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, sl.HS0_17, sl.HS0_18, sl.HS0_19, sl.HS0_20, sl.HS0_21, sl.HS0_22, sl.HS0_23, sl.HS0_24, sl.HS0_25, sl.HS0_26, sl.HS0_27, sl.HS0_28, sl.HS0_29, sl.HS0_30, sl.HS0_31, sl.HS0_32, ↓View.readCov_cons_toLoadRect, ↓View.readCov_skip]
  simp only [eight, ← chunkLd_eq arg5 harg5 arg6 harg6 arg7 harg7]
  rfl

/-- The sums of head 1, half 1, over the score buffer's contents at each chunk. -/
theorem fourth_eq : sl.r_72 c arg5 harg5 arg6 harg6 arg7 harg7 arg9 x2 x3 x4 =
    (run [(sl.v782 c arg5 harg5 arg6 harg6 arg9 x2 x3, kLd arg7 harg7 x4 1 7168 inb_S1x2x8192x128_S1x1x1024x128_0_1_7168_0),
      (sl.v764 c arg5 harg5 arg6 harg6 arg9 x2 x3, kLd arg7 harg7 x4 1 6144 inb_S1x2x8192x128_S1x1x1024x128_0_1_6144_0),
      (sl.v746 c arg5 harg5 arg6 harg6 arg9 x2 x3, kLd arg7 harg7 x4 1 5120 inb_S1x2x8192x128_S1x1x1024x128_0_1_5120_0),
      (sl.v722 c arg5 harg5 arg6 harg6 arg9 x2 x3, kLd arg7 harg7 x4 1 4096 inb_S1x2x8192x128_S1x1x1024x128_0_1_4096_0),
      (sl.v698 c arg5 harg5 arg6 harg6 arg9 x2 x3, kLd arg7 harg7 x4 1 3072 inb_S1x2x8192x128_S1x1x1024x128_0_1_3072_0),
      (sl.v674 c arg5 harg5 arg6 harg6 arg9 x2 x3, kLd arg7 harg7 x4 1 2048 inb_S1x2x8192x128_S1x1x1024x128_0_1_2048_0),
      (sl.v650 c arg5 harg5 arg6 harg6 arg9 x2 x3, kLd arg7 harg7 x4 1 1024 inb_S1x2x8192x128_S1x1x1024x128_0_1_1024_0),
      (sl.v626 c arg5 harg5 arg6 harg6 arg9 x2 x3, kLd arg7 harg7 x4 1 0 inb_S1x2x8192x128_S1x1x1024x128_0_1_0_0)]).2 := rfl

/-- They are those after the eight chunks of head 1, half 1. -/
theorem fourth_final : sl.r_72 c arg5 harg5 arg6 harg6 arg7 harg7 arg9 x2 x3 x4 = (eight (chunk x2 x3 x4 1 1)).2 := by
  rw [fourth_eq]
  simp (disch := decide) only [sl.v626, sl.v650, sl.v674, sl.v698, sl.v722, sl.v746, sl.v764, sl.v782, sl.HS0_3, sl.HS0_4, sl.HS0_5, sl.HS0_6, sl.HS0_7, sl.HS0_8, sl.HS0_9, sl.HS0_10, sl.HS0_11, sl.HS0_12, sl.HS0_13, sl.HS0_14, sl.HS0_15, sl.HS0_16, sl.HS0_17, sl.HS0_18, sl.HS0_19, sl.HS0_20, sl.HS0_21, sl.HS0_22, sl.HS0_23, sl.HS0_24, sl.HS0_25, sl.HS0_26, sl.HS0_27, sl.HS0_28, sl.HS0_29, sl.HS0_30, sl.HS0_31, sl.HS0_32, ↓View.readCov_cons_toLoadRect, ↓View.readCov_skip]
  simp only [eight, ← chunkLd_eq arg5 harg5 arg6 harg6 arg7 harg7]
  rfl

/-! ## The block -/

/-- What is stored for head `h`. -/
def piece (h : Fin 2) : FVec Ideal S1x512x128 .bf16 :=
  finish x0 x1 (eight (chunk x2 x3 x4 h 0)).2 (eight (chunk x2 x3 x4 h 1)).2

/-- What the body stores for the first head. -/
theorem left_final : k0_pay155 (F := Ideal) (sl.r_74 c arg3 harg3 arg5 harg5 arg6 harg6 arg7 harg7 arg9 x0 x2 x3 x4)
    (sl.r_75 c arg4 harg4 x1) (sl.r_76 c arg3 harg3 arg5 harg5 arg6 harg6 arg7 harg7 arg9 x0 x2 x3 x4) sl.cst_564
      = piece x0 x1 x2 x3 x4 0 := by
  rw [piece, ← first_final c arg5 harg5 arg6 harg6 arg7 harg7 arg9, ← second_final c arg5 harg5 arg6 harg6 arg7 harg7 arg9]
  conv_rhs => rw [← lamLd_eq arg3 harg3 x0, ← gainLd_eq arg4 harg4 x1]
  rfl

/-- What the body stores for the second head. -/
theorem right_final : k0_pay1 (F := Ideal) (sl.r_77 c arg3 harg3 arg5 harg5 arg6 harg6 arg7 harg7 arg9 x0 x2 x3 x4)
    (sl.r_75 c arg4 harg4 x1) (sl.r_78 c arg3 harg3 arg5 harg5 arg6 harg6 arg7 harg7 arg9 x0 x2 x3 x4) k0_pay158
      = piece x0 x1 x2 x3 x4 1 := by
  rw [piece, ← third_final c arg5 harg5 arg6 harg6 arg7 harg7 arg9, ← fourth_final c arg5 harg5 arg6 harg6 arg7 harg7 arg9]
  conv_rhs => rw [← lamLd_eq arg3 harg3 x0, ← gainLd_eq arg4 harg4 x1]
  rfl

/-- The output block: of each head's 128 columns what is stored for the head. -/
def outBlk : Vec Ideal S1x512x256 .bf16 := fun y =>
  have h1 : (y 1).val < 512 := (y 1).isLt
  have h2 : (y 2).val < 256 := (y 2).isLt
  piece x0 x1 x2 x3 x4 ⟨(y 2).val / 128, by omega⟩ (ix3 0 ⟨(y 1).val, h1⟩ ⟨(y 2).val % 128, by omega⟩)

/-- The output block at a head's column. -/
theorem outBlk_apply (h : Fin 2) (r : Fin 512) (l : Fin 128) :
    outBlk x0 x1 x2 x3 x4 (ix3 0 r ⟨128 * h.val + l.val, by omega⟩) = piece x0 x1 x2 x3 x4 h (ix3 0 r l) := by
  have e1 : (⟨(128 * h.val + l.val) / 128, by omega⟩ : Fin 2) = h := Fin.ext (by show (128 * h.val + l.val) / 128 = h.val; omega)
  have e2 : (⟨(128 * h.val + l.val) % 128, by omega⟩ : Fin 128) = l := Fin.ext (by show (128 * h.val + l.val) % 128 = l.val; omega)
  show piece x0 x1 x2 x3 x4 ⟨(128 * h.val + l.val) / 128, _⟩ (ix3 0 r ⟨(128 * h.val + l.val) % 128, _⟩) = _
  rw [e1, e2]

/-- The piece stored for head `h` is the block's columns of that head. -/
theorem piece_eq (h : Fin 2) (inb : ∀ a, (![0, 0, 128 * h.val] : Fin 3 → ℕ) a + S1x512x128.size a ≤ S1x512x256.size a)
    (x : S1x512x128.Idx) :
    piece x0 x1 x2 x3 x4 h x
      = outBlk x0 x1 x2 x3 x4 ((Rect.unit (s := S1x512x256) ![0, 0, 128 * h.val] S1x512x128.size inb).emb x) := by
  have e : (Rect.unit (s := S1x512x256) ![0, 0, 128 * h.val] S1x512x128.size inb).emb x
      = ix3 0 (x 1) ⟨128 * h.val + (x 2).val, by have h2 : (x 2).val < 128 := (x 2).isLt; omega⟩ := by
    funext a; apply Fin.ext
    match a with
    | 0 => show 0 + 1 * (x 0).val = 0; have h0 : (x 0).val < 1 := (x 0).isLt; omega
    | 1 => show 0 + 1 * (x 1).val = (x 1).val; omega
    | 2 => show 128 * h.val + 1 * (x 2).val = 128 * h.val + (x 2).val; omega
  rw [e]
  refine Eq.trans ?_ (outBlk_apply x0 x1 x2 x3 x4 h (x 1) (x 2)).symm
  congr 1
  funext a
  match a with
  | 0 => exact Fin.ext (by show (x 0).val = 0; have h0 : (x 0).val < 1 := (x 0).isLt; omega)
  | 1 => rfl
  | 2 => rfl

/-- What the run leaves in the output's staging buffer is that block. -/
theorem out_eq : out0_A_5 c i arg3 harg3 arg4 harg4 arg5 harg5 arg6 harg6 arg7 harg7 arg8 harg8 arg9 harg9 x0 x1 x2 x3 x4
    = outBlk x0 x1 x2 x3 x4 := by
  funext y
  rw [out0_A_5, View.read_writes_junk_eq_canon]
  refine View.canon_apply_of_pieces _ _ ?_ y (cover0_A_5 _ _ _ _ _ _ _ _ _ _ _ _ _ _ _ _ _ _ _ _ _ y)
  delta kernelRun0_A
  dsimp only
  intro p hp
  simp only [List.mem_cons, List.not_mem_nil, or_false] at hp
  rcases hp with rfl | rfl
  · intro x
    dsimp only
    rw [right_final]
    exact piece_eq x0 x1 x2 x3 x4 1 _ x
  · intro x
    dsimp only
    rw [left_final]
    exact piece_eq x0 x1 x2 x3 x4 0 _ x

/-- Where the products of queries and keys of each half are the reals `σ`, the block holds the normalised difference of
    the values by the two softmaxes. -/
theorem outBlk_softmax (σ : Fin 2 → Fin 2 → Fin 512 → Fin 8192 → ℝ)
    (hσ : ∀ s h r j, ∑ d : Fin 64, (x2 (ix4 0 h r (lane s d)) : EReal) * (x3 (ix4 0 h j (lane s d)) : EReal) = (σ s h r j : EReal))
    (h : Fin 2) (r : Fin 512) (l : Fin 128) :
    (outBlk x0 x1 x2 x3 x4 (ix3 0 r ⟨128 * h.val + l.val, by omega⟩) : EReal)
      = normed (fun k => ∑ j, (x4 (ix4 0 h j k) : EReal) * (prob (σ 0 h r) j : EReal)
          - lam x0 * ∑ j, (x4 (ix4 0 h j k) : EReal) * (prob (σ 1 h r) j : EReal)) (x1 (ix2 0 l)) l := by
  have H : ∀ s, Holds (σ s h) (fun j l => x4 (ix4 0 h j l)) 8 (eight (chunk x2 x3 x4 h s)) := fun s =>
    holds_eight (chunk x2 x3 x4 h s)
      (fun n r k => (score_apply s (qOf x2 h) (kOf x3 h n) r k).trans (hσ s h r (key n k)))
      (fun n k l => rfl)
  rw [outBlk_apply, piece, finish_apply]
  refine congrArg (fun o => normed o (x1 (ix2 0 l)) l) (funext fun k => ?_)
  rw [mix_apply, (H 0).quotient r k, (H 1).quotient r k]

end Run

end Cert.Diff

end
-- ==== Proof.DiffValue.lean ====
/- The result array of the second kernel as one function of its argument arrays. -/
module

public import proofs.«01_k».proof.Proof.Gen.Kernel2Ideal.Value
public import proofs.«01_k».proof.Proof.DiffBlock

@[expose] public section

noncomputable section

namespace Cert.Diff

open Cert.Kernel2Ideal Cert.Kernel2Ideal.Gen Idealize.ShloMosaic Idealize.ShloMosaic.TcCoe Idealize.SL.Sem
open Cert.Online

/-- The index maps of the factor's and the gain's windows. -/
theorem index01 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The index maps of the query window. -/
theorem index2 : ∀ t : Fin cfg0.N, win0_2.index t (0 : Fin 4) = t.val / 32 ∧ win0_2.index t (1 : Fin 4) = t.val / 16 % 2
    ∧ win0_2.index t (2 : Fin 4) = t.val % 16 ∧ win0_2.index t (3 : Fin 4) = 0 :=
  (by decide +kernel : ∀ t : Fin grid0.N, _)

/-- The index maps of the key window. -/
theorem index3 : ∀ t : Fin cfg0.N, win0_3.index t (0 : Fin 4) = t.val / 32 ∧ win0_3.index t (1 : Fin 4) = t.val / 16 % 2
    ∧ win0_3.index t (2 : Fin 4) = 0 ∧ win0_3.index t (3 : Fin 4) = 0 :=
  (by decide +kernel : ∀ t : Fin grid0.N, _)

/-- The index maps of the value window. -/
theorem index4 : ∀ t : Fin cfg0.N, win0_4.index t (0 : Fin 4) = t.val / 32 ∧ win0_4.index t (1 : Fin 4) = t.val / 16 % 2
    ∧ win0_4.index t (2 : Fin 4) = 0 ∧ win0_4.index t (3 : Fin 4) = 0 :=
  (by decide +kernel : ∀ t : Fin grid0.N, _)

/-- The index maps of the result window. -/
theorem index5 : ∀ t : Fin cfg0.N, win0_5.index t (0 : Fin 3) = t.val / 32 ∧ win0_5.index t (1 : Fin 3) = t.val % 16
    ∧ win0_5.index t (2 : Fin 3) = t.val / 16 % 2 :=
  (by decide +kernel : ∀ t : Fin grid0.N, _)

/-- A grid point is below 256. -/
theorem point_lt (t : Fin cfg0.N) : t.val < 256 := lt_of_lt_of_eq t.isLt N_0

/-- The 512 queries `n` of the two heads `g` of batch `b`. -/
def qBlk (Q : Vec Ideal S8x4x8192x128 .bf16) (b : Fin 8) (g : Fin 2) (n : Fin 16) : Vec Ideal S1x2x512x128 .bf16 := fun y =>
  Q (ix4 b ⟨2 * g.val + (y 1).val, by have h : (y 1).val < 2 := (y 1).isLt; omega⟩
    ⟨512 * n.val + (y 2).val, by have h : (y 2).val < 512 := (y 2).isLt; omega⟩ (y 3))

/-- The keys, or the values, of the two heads `g` of batch `b`. -/
def kBlk (K : Vec Ideal S8x4x8192x128 .bf16) (b : Fin 8) (g : Fin 2) : Vec Ideal S1x2x8192x128 .bf16 := fun y =>
  K (ix4 b ⟨2 * g.val + (y 1).val, by have h : (y 1).val < 2 := (y 1).isLt; omega⟩ (y 2) (y 3))

/-- The result array: at each index the entry of the block of that index. -/
def whole (L : Vec Ideal S4x64 .f32) (G : Vec Ideal S1x128 .f32) (Q K V : Vec Ideal S8x4x8192x128 .bf16) :
    Vec Ideal S8x8192x512 .bf16 := fun i =>
  have h1 : (i 1).val < 8192 := (i 1).isLt
  have h2 : (i 2).val < 512 := (i 2).isLt
  outBlk L G (qBlk Q (i 0) ⟨(i 2).val / 256, by omega⟩ ⟨(i 1).val / 512, by omega⟩) (kBlk K (i 0) ⟨(i 2).val / 256, by omega⟩)
    (kBlk V (i 0) ⟨(i 2).val / 256, by omega⟩) (ix3 0 ⟨(i 1).val % 512, by omega⟩ ⟨(i 2).val % 256, by omega⟩)

variable (m : (ℓ : Loc nD τ sig) → Buf (Elt Ideal) ℓ) (ρ : Dev nD → PrngReg)

/-- The batch of a grid point. -/
abbrev ptB (t : Fin cfg0.N) : Fin 8 := ⟨t.val / 32, by have := point_lt t; omega⟩
/-- The head pair of a grid point. -/
abbrev ptG (t : Fin cfg0.N) : Fin 2 := ⟨t.val / 16 % 2, by omega⟩
/-- The query block of a grid point. -/
abbrev ptN (t : Fin cfg0.N) : Fin 16 := ⟨t.val % 16, by omega⟩

/-- The factor's vectors read at a grid point. -/
theorem iblk0_eq (c : Dev nD) (t : Fin cfg0.N) : iblk m c 0 t = V m c main_arg0 := by
  obtain ⟨e0, e1, _, _⟩ := index01 t
  funext y
  show V m c main_arg0 (((cfg0.win 0).blk t).view.emb y) = V m c main_arg0 y
  congr 1
  funext a; apply Fin.ext
  match a with
  | ⟨0, _⟩ => show win0_0.index t (0 : Fin 2) * 4 + 1 * (y 0).val = (y 0).val; omega
  | ⟨1, _⟩ => show win0_0.index t (1 : Fin 2) * 64 + 1 * (y 1).val = (y 1).val; omega

/-- The gain read at a grid point. -/
theorem iblk1_eq (c : Dev nD) (t : Fin cfg0.N) : iblk m c 1 t = V m c main_arg1 := by
  obtain ⟨_, _, e0, e1⟩ := index01 t
  funext y
  show V m c main_arg1 (((cfg0.win 1).blk t).view.emb y) = V m c main_arg1 y
  congr 1
  funext a; apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- The query block read at a grid point. -/
theorem iblk2_eq (c : Dev nD) (t : Fin cfg0.N) : iblk m c 2 t = qBlk (V m c main_arg2) (ptB t) (ptG t) (ptN t) := by
  obtain ⟨e0, e1, e2, e3⟩ := index2 t
  funext y
  show V m c main_arg2 (((cfg0.win 2).blk t).view.emb y) = V m c main_arg2 (ix4 _ _ _ _)
  congr 1
  funext a; apply Fin.ext
  match a with
  | ⟨0, _⟩ => show win0_2.index t (0 : Fin 4) * 1 + 1 * (y 0).val = t.val / 32; have h : (y 0).val < 1 := (y 0).isLt; omega
  | ⟨1, _⟩ => show win0_2.index t (1 : Fin 4) * 2 + 1 * (y 1).val = 2 * (t.val / 16 % 2) + (y 1).val; omega
  | ⟨2, _⟩ => show win0_2.index t (2 : Fin 4) * 512 + 1 * (y 2).val = 512 * (t.val % 16) + (y 2).val; omega
  | ⟨3, _⟩ => show win0_2.index t (3 : Fin 4) * 128 + 1 * (y 3).val = (y 3).val; omega

/-- The key block read at a grid point. -/
theorem iblk3_eq (c : Dev nD) (t : Fin cfg0.N) : iblk m c 3 t = kBlk (V m c main_arg3) (ptB t) (ptG t) := by
  obtain ⟨e0, e1, e2, e3⟩ := index3 t
  funext y
  show V m c main_arg3 (((cfg0.win 3).blk t).view.emb y) = V m c main_arg3 (ix4 _ _ _ _)
  congr 1
  funext a; apply Fin.ext
  match a with
  | ⟨0, _⟩ => show win0_3.index t (0 : Fin 4) * 1 + 1 * (y 0).val = t.val / 32; have h : (y 0).val < 1 := (y 0).isLt; omega
  | ⟨1, _⟩ => show win0_3.index t (1 : Fin 4) * 2 + 1 * (y 1).val = 2 * (t.val / 16 % 2) + (y 1).val; omega
  | ⟨2, _⟩ => show win0_3.index t (2 : Fin 4) * 8192 + 1 * (y 2).val = (y 2).val; omega
  | ⟨3, _⟩ => show win0_3.index t (3 : Fin 4) * 128 + 1 * (y 3).val = (y 3).val; omega

/-- The value block read at a grid point. -/
theorem iblk4_eq (c : Dev nD) (t : Fin cfg0.N) : iblk m c 4 t = kBlk (V m c main_arg4) (ptB t) (ptG t) := by
  obtain ⟨e0, e1, e2, e3⟩ := index4 t
  funext y
  show V m c main_arg4 (((cfg0.win 4).blk t).view.emb y) = V m c main_arg4 (ix4 _ _ _ _)
  congr 1
  funext a; apply Fin.ext
  match a with
  | ⟨0, _⟩ => show win0_4.index t (0 : Fin 4) * 1 + 1 * (y 0).val = t.val / 32; have h : (y 0).val < 1 := (y 0).isLt; omega
  | ⟨1, _⟩ => show win0_4.index t (1 : Fin 4) * 2 + 1 * (y 1).val = 2 * (t.val / 16 % 2) + (y 1).val; omega
  | ⟨2, _⟩ => show win0_4.index t (2 : Fin 4) * 8192 + 1 * (y 2).val = (y 2).val; omega
  | ⟨3, _⟩ => show win0_4.index t (3 : Fin 4) * 128 + 1 * (y 3).val = (y 3).val; omega

/-- An index of a result block in the result array. -/
theorem emb5 (t : Fin cfg0.N) (y : S1x512x256.Idx) : ((cfg0.win 5).blk t).view.emb y
    = ix3 (ptB t) ⟨512 * (t.val % 16) + (y 1).val, by have h : (y 1).val < 512 := (y 1).isLt; omega⟩
      ⟨256 * (t.val / 16 % 2) + (y 2).val, by have h : (y 2).val < 256 := (y 2).isLt; omega⟩ := by
  obtain ⟨e0, e1, e2⟩ := index5 t
  funext a; apply Fin.ext
  match a with
  | ⟨0, _⟩ => show win0_5.index t (0 : Fin 3) * 1 + 1 * (y 0).val = t.val / 32; have h : (y 0).val < 1 := (y 0).isLt; omega
  | ⟨1, _⟩ => show win0_5.index t (1 : Fin 3) * 512 + 1 * (y 1).val = 512 * (t.val % 16) + (y 1).val; omega
  | ⟨2, _⟩ => show win0_5.index t (2 : Fin 3) * 256 + 1 * (y 2).val = 256 * (t.val / 16 % 2) + (y 2).val; omega

/-- The result array at an index of the block of a grid point. -/
theorem whole_blk (L : Vec Ideal S4x64 .f32) (G : Vec Ideal S1x128 .f32) (Q K V : Vec Ideal S8x4x8192x128 .bf16) (b : Fin 8) (g : Fin 2) (n : Fin 16)
    (r : Fin 512) (l : Fin 256) :
    whole L G Q K V (ix3 b ⟨512 * n.val + r.val, by omega⟩ ⟨256 * g.val + l.val, by omega⟩)
      = outBlk L G (qBlk Q b g n) (kBlk K b g) (kBlk V b g) (ix3 0 r l) := by
  have e1 : (⟨(256 * g.val + l.val) / 256, by omega⟩ : Fin 2) = g := Fin.ext (by show (256 * g.val + l.val) / 256 = g.val; omega)
  have e2 : (⟨(256 * g.val + l.val) % 256, by omega⟩ : Fin 256) = l := Fin.ext (by show (256 * g.val + l.val) % 256 = l.val; omega)
  have e3 : (⟨(512 * n.val + r.val) / 512, by omega⟩ : Fin 16) = n := Fin.ext (by show (512 * n.val + r.val) / 512 = n.val; omega)
  have e4 : (⟨(512 * n.val + r.val) % 512, by omega⟩ : Fin 512) = r := Fin.ext (by show (512 * n.val + r.val) % 512 = r.val; omega)
  show outBlk L G (qBlk Q b ⟨(256 * g.val + l.val) / 256, _⟩ ⟨(512 * n.val + r.val) / 512, _⟩) (kBlk K b ⟨(256 * g.val + l.val) / 256, _⟩)
    (kBlk V b ⟨(256 * g.val + l.val) / 256, _⟩) (ix3 0 ⟨(512 * n.val + r.val) % 512, _⟩ ⟨(256 * g.val + l.val) % 256, _⟩) = _
  rw [e1, e2, e3, e4]

/-- What a grid point writes back is its block of the result array. -/
theorem flushed_eq (c : Dev nD) (t : Fin cfg0.N) : (dats m 0 c).flushed 5 t
    = ((cfg0.win 5).blk t).view.read (Elt Ideal) (whole (V m c main_arg0) (V m c main_arg1) (V m c main_arg2) (V m c main_arg3) (V m c main_arg4)) := by
  rw [Value.flushed5_A, out_eq, iblk0_eq, iblk1_eq, iblk2_eq, iblk3_eq, iblk4_eq]
  funext y
  show outBlk _ _ _ _ _ y = whole _ _ _ _ _ (((cfg0.win 5).blk t).view.emb y)
  rw [emb5]
  refine Eq.trans ?_ (whole_blk _ _ _ _ _ (ptB t) (ptG t) (ptN t) (y 1) (y 2)).symm
  congr 1
  funext a
  match a with
  | ⟨0, _⟩ => exact Fin.ext (by show (y 0).val = 0; have h : (y 0).val < 1 := (y 0).isLt; omega)
  | ⟨1, _⟩ => rfl
  | ⟨2, _⟩ => rfl

/-- Every index of the result array lies in the block of some grid point. -/
theorem covered (i : S8x8192x512.Idx) :
    ∃ t : Fin cfg0.N, (cfg0.win 5).flush t = true ∧ i ∈ ((cfg0.win 5).blk t).view.set := by
  have h0 : (i 0).val < 8 := (i 0).isLt
  have h1 : (i 1).val < 8192 := (i 1).isLt
  have h2 : (i 2).val < 512 := (i 2).isLt
  let t : Fin cfg0.N := ⟨32 * (i 0).val + 16 * ((i 2).val / 256) + (i 1).val / 512, by show _ < grid0.N; rw [N_0]; omega⟩
  refine ⟨t, flush0_5 _, ?_⟩
  have h := ((cfg0.win 5).blk t).view.emb_mem_set
    (ix3 0 ⟨(i 1).val % 512, by omega⟩ ⟨(i 2).val % 256, by omega⟩ : S1x512x256.Idx)
  rw [emb5] at h
  have e : (ix3 (ptB t) ⟨512 * (t.val % 16) + (i 1).val % 512, by omega⟩ ⟨256 * (t.val / 16 % 2) + (i 2).val % 256, by omega⟩ : S8x8192x512.Idx) = i := by
    have ht : t.val = 32 * (i 0).val + 16 * ((i 2).val / 256) + (i 1).val / 512 := rfl
    funext a; apply Fin.ext
    match a with
    | ⟨0, _⟩ => show t.val / 32 = (i 0).val; omega
    | ⟨1, _⟩ => show 512 * (t.val % 16) + (i 1).val % 512 = (i 1).val; omega
    | ⟨2, _⟩ => show 256 * (t.val / 16 % 2) + (i 2).val % 256 = (i 2).val; omega
  exact Eq.mp (congrArg (· ∈ ((cfg0.win 5).blk t).view.set) e) h

/-- The result array after the run. -/
theorem final_array (c : Dev nD) : (dats m 0 c).arrAt 5 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 (whole (V m c main_arg0) (V m c main_arg1) (V m c main_arg2) (V m c main_arg3) (V m c main_arg4)) (fun t _ => flushed_eq m c t) covered

/-- The run of the program, with its result array named. -/
theorem run_whole : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_array m c), (h c).2⟩) (Value.run_blocks m ρ)

/-- The result array at batch `b`, query `q`, head `h` and column `l`: the normalised difference of the values by the two
    softmaxes. -/
theorem whole_apply (L : Vec Ideal S4x64 .f32) (G : Vec Ideal S1x128 .f32) (Q K V : Vec Ideal S8x4x8192x128 .bf16)
    (σ : Fin 2 → Fin 8 → Fin 4 → Fin 8192 → Fin 8192 → ℝ)
    (hσ : ∀ s b h r j, ∑ d : Fin 64, (Q (ix4 b h r (lane s d)) : EReal) * (K (ix4 b h j (lane s d)) : EReal) = (σ s b h r j : EReal))
    (b : Fin 8) (h : Fin 4) (q : Fin 8192) (l : Fin 128) :
    (whole L G Q K V (ix3 b q ⟨128 * h.val + l.val, by omega⟩) : EReal)
      = normed (fun k => ∑ j, (V (ix4 b h j k) : EReal) * (prob (σ 0 b h q) j : EReal)
          - lam L * ∑ j, (V (ix4 b h j k) : EReal) * (prob (σ 1 b h q) j : EReal)) (G (ix2 0 l)) l := by
  have hh := h.isLt
  have hq := q.isLt
  have hl := l.isLt
  obtain ⟨g, hg⟩ : ∃ g : Fin 2, g.val = h.val / 2 := ⟨⟨h.val / 2, by omega⟩, rfl⟩
  obtain ⟨p, hp⟩ : ∃ p : Fin 2, p.val = h.val % 2 := ⟨⟨h.val % 2, by omega⟩, rfl⟩
  obtain ⟨n, hn⟩ : ∃ n : Fin 16, n.val = q.val / 512 := ⟨⟨q.val / 512, by omega⟩, rfl⟩
  obtain ⟨r, hr⟩ : ∃ r : Fin 512, r.val = q.val % 512 := ⟨⟨q.val % 512, by omega⟩, rfl⟩
  have eh : h = ⟨2 * g.val + p.val, by omega⟩ := Fin.ext (by show h.val = 2 * g.val + p.val; omega)
  have eq : q = ⟨512 * n.val + r.val, by omega⟩ := Fin.ext (by show q.val = 512 * n.val + r.val; omega)
  have el : (⟨128 * h.val + l.val, by omega⟩ : Fin 512) = ⟨256 * g.val + (128 * p.val + l.val), by omega⟩ :=
    Fin.ext (by show 128 * h.val + l.val = 256 * g.val + (128 * p.val + l.val); omega)
  have e : (ix3 b q ⟨128 * h.val + l.val, by omega⟩ : S8x8192x512.Idx)
      = ix3 b ⟨512 * n.val + r.val, by omega⟩ ⟨256 * g.val + (128 * p.val + l.val), by omega⟩ := congrArg₂ (ix3 b) eq el
  refine (congrArg (whole L G Q K V) e).trans ?_
  refine (whole_blk L G Q K V b g n r ⟨128 * p.val + l.val, by omega⟩).trans ?_
  refine (outBlk_softmax L G (qBlk Q b g n) (kBlk K b g) (kBlk V b g)
    (fun s p r j => σ s b ⟨2 * g.val + p.val, by omega⟩ ⟨512 * n.val + r.val, by omega⟩ j)
    (fun s p r j => hσ s b ⟨2 * g.val + p.val, by omega⟩ ⟨512 * n.val + r.val, by omega⟩ j) p r l).trans ?_
  refine congrArg (fun o => normed o (G (ix2 0 l)) l) (funext fun k => ?_)
  refine congrArg₂ (fun x y => x - lam L * y) (Finset.sum_congr rfl fun j _ => ?_) (Finset.sum_congr rfl fun j _ => ?_)
  · show (V (ix4 b ⟨2 * g.val + p.val, _⟩ j k) : EReal)
      * (prob (σ 0 b ⟨2 * g.val + p.val, _⟩ ⟨512 * n.val + r.val, _⟩) j : EReal) = _
    rw [← eh, ← eq]
  · show (V (ix4 b ⟨2 * g.val + p.val, _⟩ j k) : EReal)
      * (prob (σ 1 b ⟨2 * g.val + p.val, _⟩ ⟨512 * n.val + r.val, _⟩) j : EReal) = _
    rw [← eh, ← eq]

end Cert.Diff

end
-- ==== Proof.DiffRef.lean ====
/- The second reference's result, read at an index. -/
module

public import proofs.«01_k».proof.Proof.Gen.Reference2Ideal.Run
public import proofs.«01_k».proof.Proof.Soft
public import proofs.«01_k».proof.Proof.DiffBlock

@[expose] public section

set_option maxRecDepth 16384

noncomputable section

namespace Cert.DiffRef

open Idealize.ShloMosaic Idealize.ShloMosaic.TcCoe Idealize.SL.Sem
open Cert.Reference2Ideal Cert.Reference2Ideal.Gen Cert.Online Cert.Soft
open Cert.Diff (lane lam lam_eq normed)

/-- The products of queries and keys over the first half of the lanes. -/
def dots1 (Q K : FVec Ideal S8x4x8192x128 .bf16) : Scores :=
  Host.dotGeneral (φ₁ := .f32) (φ₂ := .f32) dot_S8x4x8192x64_S8x4x8192x64_S8x4x8192x8192_3_3_2_2_01_01 none
    (extractStridedSlice S8x4x8192x64 ![0, 0, 0, 0] (extf .f32 Q bitsLt_bf16_f32) slices_S8x4x8192x128_S8x4x8192x64_0_0_0_0)
    (extractStridedSlice S8x4x8192x64 ![0, 0, 0, 0] (extf .f32 K bitsLt_bf16_f32) slices_S8x4x8192x128_S8x4x8192x64_0_0_0_0)

/-- The products of queries and keys over the second half. -/
def dots2 (Q K : FVec Ideal S8x4x8192x128 .bf16) : Scores :=
  Host.dotGeneral (φ₁ := .f32) (φ₂ := .f32) dot_S8x4x8192x64_S8x4x8192x64_S8x4x8192x8192_3_3_2_2_01_01 none
    (extractStridedSlice S8x4x8192x64 ![0, 0, 0, 64] (extf .f32 Q bitsLt_bf16_f32) slices_S8x4x8192x128_S8x4x8192x64_0_0_0_64)
    (extractStridedSlice S8x4x8192x64 ![0, 0, 0, 64] (extf .f32 K bitsLt_bf16_f32) slices_S8x4x8192x128_S8x4x8192x64_0_0_0_64)

/-- The factor of the second softmax. -/
def factor (L : FVec Ideal S4x64 .f32) : FVec Ideal S_ .f32 :=
  addf (subf
    (Host.exp (Host.reduceAdd (mulf (shapeCast S64 (extractStridedSlice S1x64 ![0, 0] L slices_S4x64_S1x64_0_0) shapeCasts_S1x64_S64)
      (shapeCast S64 (extractStridedSlice S1x64 ![1, 0] L slices_S4x64_S1x64_1_0) shapeCasts_S1x64_S64))
      (constant S_ .f32 0x00000000#32) reducesTo_S64_S_d0 h_S_))
    (Host.exp (Host.reduceAdd (mulf (shapeCast S64 (extractStridedSlice S1x64 ![2, 0] L slices_S4x64_S1x64_2_0) shapeCasts_S1x64_S64)
      (shapeCast S64 (extractStridedSlice S1x64 ![3, 0] L slices_S4x64_S1x64_3_0) shapeCasts_S1x64_S64))
      (constant S_ .f32 0x00000000#32) reducesTo_S64_S_d0 h_S_)))
    (constant S_ .f32 0x3E4CCCCD#32)

/-- The difference of two weights, the second times the factor. -/
def weights (L : FVec Ideal S4x64 .f32) (P1 P2 : Scores) : Scores :=
  subf P1 (mulf (broadcastInDim S8x4x8192x8192 ![] bcast_S_S8x4x8192x8192 (factor L)) P2)

/-- The values by weights `P`. -/
def mixed (V : FVec Ideal S8x4x8192x128 .bf16) (P : Scores) : FVec Ideal S8x8192x4x128 .f32 :=
  transpose S8x8192x4x128 [0, 3, 1, 2]
    (Host.dotGeneral (φ₁ := .f32) (φ₂ := .f32) dot_S8x4x8192x128_S8x4x8192x8192_S8x4x128x8192_2_3_3_2_01_01 none
      (extf .f32 V bitsLt_bf16_f32) P) transposes_S8x4x128x8192_S8x8192x4x128_0_3_1_2

/-- Each row divided by its root mean square, times the gain and the constant; heads side by side. -/
def rms (G : FVec Ideal S1x128 .f32) (O : FVec Ideal S8x8192x4x128 .f32) : FVec Ideal S8x8192x512 .bf16 :=
  truncf .bf16 (shapeCast S8x8192x512 (mulf (mulf (mulf O
    (broadcastInDim S8x8192x4x128 ![0, 1, 2, 3] bcast_S8x8192x4x1_S8x8192x4x128_0_1_2_3
      (Host.rsqrt (addf (Host.divf (broadcastInDim S8x8192x4x1 ![0, 1, 2] bcast_S8x8192x4_S8x8192x4x1_0_1_2
        (Host.reduceAdd (mulf O O) (constant S_ .f32 0x00000000#32) reducesTo_S8x8192x4x128_S8x8192x4_d3 h_S_))
        (broadcastInDim S8x8192x4x1 ![] bcast_S_S8x8192x4x1 (constant S_ .f32 0x43000000#32)))
        (broadcastInDim S8x8192x4x1 ![] bcast_S_S8x8192x4x1 (constant S_ .f32 0x358637BD#32))))))
    (broadcastInDim S8x8192x4x128 ![0, 1, 2, 3] bcast_S1x1x1x128_S8x8192x4x128_0_1_2_3
      (broadcastInDim S1x1x1x128 ![3] bcast_S128_S1x1x1x128_3 (shapeCast S128 G shapeCasts_S1x128_S128))))
    (broadcastInDim S8x8192x4x128 ![] bcast_S_S8x8192x4x128 (constant S_ .f32 0x3F4CCCCD#32)))
    shapeCasts_S8x8192x4x128_S8x8192x512) bitsLt_bf16_f32

/-- The second reference's result. -/
def out (L : FVec Ideal S4x64 .f32) (G : FVec Ideal S1x128 .f32) (Q K V : FVec Ideal S8x4x8192x128 .bf16) :
    FVec Ideal S8x8192x512 .bf16 :=
  rms G (mixed V (weights L (soft (scaled (dots1 Q K))) (soft (scaled (dots2 Q K)))))

/-- A product over the first half at an index. -/
theorem dots1_apply (Q K : FVec Ideal S8x4x8192x128 .bf16) (b : Fin 8) (h : Fin 4) (r j : Fin 8192) :
    (dots1 Q K (ix4 b h r j) : EReal) = ∑ d : Fin 64, (Q (ix4 b h r (lane 0 d)) : EReal) * (K (ix4 b h j (lane 0 d)) : EReal) := by
  have e : ∀ d : Fin 64, lane 0 d = ⟨d.val, by omega⟩ := fun d => Fin.ext (by show 64 * 0 + d.val = d.val; omega)
  simp only [e]
  pointwise [dots1]

/-- A product over the second half at an index. -/
theorem dots2_apply (Q K : FVec Ideal S8x4x8192x128 .bf16) (b : Fin 8) (h : Fin 4) (r j : Fin 8192) :
    (dots2 Q K (ix4 b h r j) : EReal) = ∑ d : Fin 64, (Q (ix4 b h r (lane 1 d)) : EReal) * (K (ix4 b h j (lane 1 d)) : EReal) := by
  have e : ∀ d : Fin 64, lane 1 d = ⟨64 + d.val, by omega⟩ := fun d => Fin.ext (by show 64 * 1 + d.val = 64 + d.val; omega)
  simp only [e]
  pointwise [dots2]

/-- The factor is the kernel's. -/
theorem factor_apply (L : FVec Ideal S4x64 .f32) (i : S_.Idx) : (factor L i : EReal) = lam L := by
  rw [lam_eq]
  pointwise [factor]

/-- A weight at an index. -/
theorem weights_apply (L : FVec Ideal S4x64 .f32) (P1 P2 : Scores) (b : Fin 8) (h : Fin 4) (r j : Fin 8192) :
    (weights L P1 P2 (ix4 b h r j) : EReal) = P1 (ix4 b h r j) - lam L * P2 (ix4 b h r j) := by
  pointwise [weights]
  rw [factor_apply]

/-- A mixture at an index. -/
theorem mixed_apply (V : FVec Ideal S8x4x8192x128 .bf16) (P : Scores) (b : Fin 8) (h : Fin 4) (r : Fin 8192) (l : Fin 128) :
    (mixed V P (ix4 b r h l) : EReal) = ∑ j : Fin 8192, (V (ix4 b h j l) : EReal) * (P (ix4 b h r j) : EReal) := by
  pointwise [mixed]

/-- A normalised row at an index. -/
theorem rms_apply (G : FVec Ideal S1x128 .f32) (O : FVec Ideal S8x8192x4x128 .f32) (b : Fin 8) (h : Fin 4) (r : Fin 8192)
    (l : Fin 128) :
    (rms G O (ix3 b r ⟨128 * h.val + l.val, by omega⟩) : EReal) = normed (fun k => O (ix4 b r h k)) (G (ix2 0 l)) l := by
  pointwise [rms, normed]

variable (m : (ℓ : Loc nD τ sig) → Buf (Elt Ideal) ℓ) (ρ : Dev nD → PrngReg)

/-- The run of the second reference, with its result array named. -/
theorem run_out : θ_run defs (onTc (τ := τ) (main (F := Ideal))) ⟨m, fun _ => 0, ρ⟩ fun r => ∀ c : Dev nD,
      r.2.mem ((c.tc : Thread nD τ).loc main_v74)
        = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference2Ideal.Value.run m ρ

end Cert.DiffRef

end
-- ==== Proof.DiffClaim.lean ====
/- The second kernel's result is the second reference's. -/
module

public import proofs.«01_k».proof.Proof.DiffValue
public import proofs.«01_k».proof.Proof.DiffRef
public import proofs.«01_k».proof.Proof.Finite
public import Idealize.ShloMosaic.Lib.Quiescent

@[expose] public section

noncomputable section

namespace Cert.DiffClaim

open Idealize.ShloMosaic Idealize.ShloMosaic.TcCoe Idealize.SL.Sem
open Cert.Kernel2Ideal Cert.Online
open Cert.Diff (lane lam lam_eq normed)

attribute [local instance] Cert.Pre_finite_inputs.Gen.facts

/-- The pattern of the initial factor is a real. -/
theorem ofBits_init : ∃ r : ℝ, Ideal.ofBits FTy.f32 0x3E4CCCCD#32 = (r : EReal) := by
  simp [Ideal.ofBits, Ideal.ieee]
  exact ⟨_, (EReal.coe_mul _ _).symm⟩

/-- The factor of finite vectors is a real. -/
theorem lam_real (L : FVec Ideal S4x64 .f32) (hL : ∀ i, ∃ r : ℝ, (L i : EReal) = (r : EReal)) : ∃ r : ℝ, lam L = (r : EReal) := by
  obtain ⟨a, ha⟩ := Cert.Finite.real_dot (fun d : Fin 64 => hL (ix2 0 d)) (fun d => hL (ix2 1 d))
  obtain ⟨b, hb⟩ := Cert.Finite.real_dot (fun d : Fin 64 => hL (ix2 2 d)) (fun d => hL (ix2 3 d))
  obtain ⟨r, hr⟩ := ofBits_init
  refine ⟨Real.exp a - Real.exp b + r, ?_⟩
  rw [lam_eq, ha, hb, hr, EReal.coe_add, EReal.coe_sub]
  rfl

/-- Real values by a difference of weights are the difference of the values by each. -/
theorem sum_sub {n : ℕ} {v : Fin n → EReal} (hv : ∀ j, ∃ r : ℝ, v j = (r : EReal)) (c : ℝ) (p₁ p₂ : Fin n → ℝ) :
    ∑ j, v j * ((p₁ j : EReal) - (c : EReal) * (p₂ j : EReal))
      = ∑ j, v j * (p₁ j : EReal) - (c : EReal) * ∑ j, v j * (p₂ j : EReal) := by
  choose w hw using hv
  have e : ∀ p : Fin n → ℝ, ∑ j, v j * (p j : EReal) = ((∑ j, w j * p j : ℝ) : EReal) := fun p => by
    rw [coe_sum]
    exact Finset.sum_congr rfl fun j _ => by rw [hw, EReal.coe_mul]
  have d : ∀ j, (p₁ j : EReal) - (c : EReal) * (p₂ j : EReal) = ((p₁ j - c * p₂ j : ℝ) : EReal) := fun j => by
    rw [EReal.coe_sub, EReal.coe_mul]
  rw [Finset.sum_congr rfl fun j _ => by rw [d j], e, e, e, ← EReal.coe_mul, ← EReal.coe_sub, Finset.mul_sum, ← Finset.sum_sub_distrib]
  exact congrArg _ (Finset.sum_congr rfl fun j _ => by ring)

/-- The two result arrays agree where all but the gain are real. -/
theorem agree (L : FVec Ideal S4x64 .f32) (G : FVec Ideal S1x128 .f32) (Q K V : FVec Ideal S8x4x8192x128 .bf16)
    (hL : ∀ i, ∃ r : ℝ, (L i : EReal) = (r : EReal)) (hQ : ∀ i, ∃ r : ℝ, (Q i : EReal) = (r : EReal))
    (hK : ∀ i, ∃ r : ℝ, (K i : EReal) = (r : EReal)) (hV : ∀ i, ∃ r : ℝ, (V i : EReal) = (r : EReal)) :
    Cert.DiffRef.out L G Q K V = Cert.Diff.whole L G Q K V := by
  have hσ : ∀ (s : Fin 2) (b : Fin 8) (h : Fin 4) (r j : Fin 8192), ∃ x : ℝ,
      ∑ d : Fin 64, (Q (ix4 b h r (lane s d)) : EReal) * (K (ix4 b h j (lane s d)) : EReal) = (x : EReal) :=
    fun s b h r j => Cert.Finite.real_dot (fun d => hQ _) (fun d => hK _)
  choose σ hσ using hσ
  obtain ⟨c, hc⟩ := lam_real L hL
  have at_ix : ∀ (b : Fin 8) (r : Fin 8192) (h : Fin 4) (l : Fin 128) (hl : 128 * h.val + l.val < 512),
      Cert.DiffRef.out L G Q K V (ix3 b r ⟨128 * h.val + l.val, hl⟩)
        = Cert.Diff.whole L G Q K V (ix3 b r ⟨128 * h.val + l.val, hl⟩) := fun b r h l hl => by
    refine Eq.trans ?_ (Cert.Diff.whole_apply L G Q K V σ hσ b h r l).symm
    refine (Cert.DiffRef.rms_apply G _ _ _ _ _).trans ?_
    refine congrArg (fun o => normed o (G (ix2 0 l)) l) (funext fun k => ?_)
    refine (Cert.DiffRef.mixed_apply V _ b h r k).trans ?_
    rw [hc, ← sum_sub (fun j => hV _)]
    refine Finset.sum_congr rfl fun j _ => congrArg _ ?_
    refine (Cert.DiffRef.weights_apply L _ _ b h r j).trans ?_
    rw [hc, Cert.Soft.soft_real (Cert.DiffRef.dots1 Q K) (σ 0) fun b h r j => (Cert.DiffRef.dots1_apply Q K b h r j).trans (hσ 0 b h r j),
      Cert.Soft.soft_real (Cert.DiffRef.dots2 Q K) (σ 1) fun b h r j => (Cert.DiffRef.dots2_apply Q K b h r j).trans (hσ 1 b h r j)]
  funext i
  have h2 : (i 2).val < 512 := (i 2).isLt
  have e : i = ix3 (i 0) (i 1) ⟨128 * (⟨(i 2).val / 128, by omega⟩ : Fin 4).val + (⟨(i 2).val % 128, by omega⟩ : Fin 128).val,
      by show 128 * ((i 2).val / 128) + (i 2).val % 128 < 512; omega⟩ := by
    funext a; apply Fin.ext
    match a with
    | ⟨0, _⟩ => rfl
    | ⟨1, _⟩ => rfl
    | ⟨2, _⟩ => show (i 2).val = 128 * ((i 2).val / 128) + (i 2).val % 128; omega
  exact (congrArg _ e).trans ((at_ix _ _ _ _ _).trans (congrArg _ e).symm)

/-- The second reference runs, leaves its arguments and no counter above zero. -/
theorem frame_ref : Cert.quiescent_Reference2Ideal := fun m ρ _ =>
  (θ_run Cert.Reference2Ideal.defs _ _).mono (fun r h => ⟨fun c => (h c).2, sem_eq_zero_of_no_sems (by decide) r.2⟩)
    (Cert.DiffRef.run_out m ρ)

/-- The same where the precondition holds. -/
theorem frame_ref_pre : Cert.quiescent_Reference2Ideal_pre_finite_inputs := fun m ρ _ =>
  (θ_run Cert.Reference2Ideal.defs _ _).mono (fun r h => ⟨fun c => (h c).2, sem_eq_zero_of_no_sems (by decide) r.2⟩)
    (Cert.DiffRef.run_out m ρ)

/-- The second kernel's result is the second reference's, where all but the gain are finite. -/
theorem algebraic : Cert.algebraic_Kernel2Ideal_Reference2Ideal_pre_finite_inputs := by
  intro m ρ m' ρ' hpre hagree
  refine ⟨fun c => Cert.Diff.whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)),
    Cert.Diff.run_whole m ρ, ?_⟩
  refine (θ_run Cert.Reference2Ideal.defs _ _).mono (fun _ h c => ⟨(h c).1.trans ?_, (h c).2⟩) (Cert.DiffRef.run_out m' ρ')
  obtain ⟨e0, e1, e2, e3, e4⟩ := hagree c
  rw [e0, e1, e2, e3, e4]
  obtain ⟨hL, hQ, hK, hV⟩ := Cert.Finite.inputs_real (hpre c)
  exact agree _ _ _ _ _ hL hQ hK hV

end Cert.DiffClaim

end
-- ==== Proof.PreBlock.lean ====
/-
  What the projections' body leaves in its six output blocks, entry by entry, as formulas in the blocks it reads.
-/
module

public import proofs.«01_k».proof.Proof.Gen.Kernel3Ideal.Value
public import Idealize.ShloMosaic.Lib.Pointwise
public import Idealize.ShloMosaic.Lib.WholeRead

@[expose] public section

set_option maxRecDepth 16384

noncomputable section

namespace Cert.Pre

open Idealize.ShloMosaic Idealize.ShloMosaic.TcCoe
open Cert.Kernel3Ideal Cert.Kernel3Ideal.Gen

/-! ## The formulas of one row -/

/-- A row divided by its root mean square, times the gain, scaled and shifted by the modulation. -/
def modulated (x sh sc g : Fin 1024 → EReal) (k : Fin 1024) : EReal :=
  x k * Ideal.rsqrt (Ideal.div (∑ k, x k * x k) (Ideal.ofBits FTy.f32 0x44800000#32) + Ideal.ofBits FTy.f32 0x358637BD#32)
    * g k * (Ideal.ofBits FTy.f32 0x3F800000#32 + sc k) + sh k

/-- A row of 256 divided by its root mean square, times the gain. -/
def gained (x g : Fin 256 → EReal) (k : Fin 256) : EReal :=
  x k * Ideal.rsqrt (Ideal.div (∑ k, x k * x k) (Ideal.ofBits FTy.f32 0x43800000#32) + Ideal.ofBits FTy.f32 0x358637BD#32) * g k

/-- The lane whose value turns into lane `l`: the other half of the same 64 lanes. -/
def partner (l : Fin 128) : Fin 128 :=
  if l.val % 64 < 32 then ⟨(l.val + 32) % 128, by omega⟩ else ⟨(l.val + 96) % 128, by omega⟩

/-- A row of 128 lanes turned by the cosines `c` and the signed sines `s`. -/
def turned (x c s : Fin 128 → EReal) (l : Fin 128) : EReal := x l * c l + x (partner l) * s l

/-! ## The body's values at an index -/

/-- The first product at an index. -/
theorem z_apply (v0 : FVec Ideal S1x512x1024 .f32) (v2 v4 : FVec Ideal S1x1x1024 .f32) (v6 : FVec Ideal S1x1024 .f32)
    (v26 : FVec Ideal S1024x2176 .bf16) (r : Fin 512) (j : Fin 2176) :
    (k0_pay4 (F := Ideal) v0 v2 v4 v6 v26 (ix2 r j) : EReal)
      = ∑ k : Fin 1024, modulated (fun k => v0 (ix3 0 r k)) (fun k => v2 (ix3 0 0 k)) (fun k => v4 (ix3 0 0 k))
          (fun k => v6 (ix2 0 k)) k * (v26 (ix2 k j) : EReal) := by
  pointwise [k0_pay4, modulated]

/-- The queries' product at an index. -/
theorem q_apply (z : FVec Ideal S512x2176 .f32) (g : FVec Ideal S1x256 .f32) (w : FVec Ideal S256x1024 .bf16)
    (r : Fin 512) (j : Fin 1024) :
    (k0_pay8 (F := Ideal) z g w (ix2 r j) : EReal)
      = ∑ k : Fin 256, gained (fun k => z (ix2 r ⟨k.val, by omega⟩)) (fun k => g (ix2 0 k)) k * (w (ix2 k j) : EReal) := by
  pointwise [k0_pay8, gained]

/-- The keys' and values' product at an index. -/
theorem kv_apply (z : FVec Ideal S512x2176 .f32) (g : FVec Ideal S1x256 .f32) (w : FVec Ideal S256x1024 .bf16)
    (r : Fin 512) (j : Fin 1024) :
    (k0_pay11 (F := Ideal) (k0_pay9 z) g (k0_pay10 z) w (ix2 r j) : EReal)
      = ∑ k : Fin 256, gained (fun k => z (ix2 r ⟨256 + k.val, by omega⟩)) (fun k => g (ix2 0 k)) k * (w (ix2 k j) : EReal) := by
  pointwise [k0_pay11, k0_pay10, k0_pay9, gained]

/-- The mask of the first half of each 64 lanes. -/
def firstHalf : IVec S512x128 1 := k0_pay7 (iota .tc S512x128 32 [1] iota_S512x128_d1_w32) 64#32 0#32

/-- A row of 128 lanes turned, as the body does it. -/
def turn (x c s : FVec Ideal S512x128 .f32) (b : IVec S512x128 1) : FVec Ideal S512x128 .f32 :=
  addf (mulf x c) (mulf (select b (dynamicRotate 1 96#32 none x rotates_S512x128_d1)
    (dynamicRotate 1 32#32 none x rotates_S512x128_d1)) s)

/-- The mask at an index. -/
theorem firstHalf_apply (r : Fin 512) (l : Fin 128) : firstHalf (ix2 r l) = if l.val % 64 < 32 then 1#1 else 0#1 := by
  pointwise [firstHalf, k0_pay7]
  revert l; decide

/-- The turned row at an index. -/
theorem turn_apply (x c s : FVec Ideal S512x128 .f32) (r : Fin 512) (l : Fin 128) :
    (turn x c s firstHalf (ix2 r l) : EReal)
      = turned (fun l => x (ix2 r l)) (fun l => c (ix2 r l)) (fun l => s (ix2 r l)) l := by
  pointwise [turn, turned]
  rw [firstHalf_apply]
  unfold partner
  split <;> rfl

/-- A slice of 128 lanes at an index. -/
theorem slice_apply {n o : ℕ} (v : FVec Ideal ⟨2, ![512, n]⟩ .f32) (hs) (ho : o + 128 ≤ n) (r : Fin 512) (l : Fin 128) :
    extractStridedSlice S512x128 ![0, o] v hs (ix2 r l) = v (ix2 r ⟨o + l.val, by omega⟩) := by
  refine congrArg v (funext fun a => Fin.ext ?_)
  match a with
  | 0 => show 0 + r.val = r.val; omega
  | 1 => rfl

/-- A product of row `r` of a modulated block with a matrix's column `j`. -/
def zrow {n : ℕ} (x sh sc g : Fin 1024 → EReal) (W : Fin 1024 → Fin n → EReal) (j : Fin n) : EReal :=
  ∑ k : Fin 1024, modulated x sh sc g k * W k j

/-- A product of a row with gain with a matrix's column `j`. -/
def urow {n : ℕ} (z g : Fin 256 → EReal) (U : Fin 256 → Fin n → EReal) (j : Fin n) : EReal :=
  ∑ k : Fin 256, gained z g k * U k j

/-- A slice turned. -/
theorem turn_slice {n o : ℕ} (v : FVec Ideal ⟨2, ![512, n]⟩ .f32) (hs) (ho : o + 128 ≤ n) (c s : FVec Ideal S512x128 .f32)
    (r : Fin 512) (l : Fin 128) :
    (turn (extractStridedSlice S512x128 ![0, o] v hs) c s firstHalf (ix2 r l) : EReal)
      = turned (fun l => v (ix2 r ⟨o + l.val, by omega⟩)) (fun l => c (ix2 r l)) (fun l => s (ix2 r l)) l := by
  rw [turn_apply]
  simp only [slice_apply v hs ho]

/-- A slice turned and scaled. -/
theorem scaled_slice {n o : ℕ} (v : FVec Ideal ⟨2, ![512, n]⟩ .f32) (hs) (ho : o + 128 ≤ n) (c s : FVec Ideal S512x128 .f32)
    (w : BitVec 32) (r : Fin 512) (l : Fin 128) :
    (mulf (turn (extractStridedSlice S512x128 ![0, o] v hs) c s firstHalf) (broadcast S512x128 (Scalar.ofBits .f32 w)) (ix2 r l) : EReal)
      = turned (fun l => v (ix2 r ⟨o + l.val, by omega⟩)) (fun l => c (ix2 r l)) (fun l => s (ix2 r l)) l
          * Ideal.ofBits FTy.f32 w :=
  congrArg (· * Ideal.ofBits FTy.f32 w) (turn_slice v hs ho c s r l)

/-- A slice scaled. -/
theorem times_slice {n o : ℕ} (v : FVec Ideal ⟨2, ![512, n]⟩ .f32) (hs) (ho : o + 128 ≤ n) (w : BitVec 32) (r : Fin 512) (l : Fin 128) :
    (mulf (extractStridedSlice S512x128 ![0, o] v hs) (broadcast S512x128 (Scalar.ofBits .f32 w)) (ix2 r l) : EReal)
      = (v (ix2 r ⟨o + l.val, by omega⟩) : EReal) * Ideal.ofBits FTy.f32 w :=
  congrArg (· * Ideal.ofBits FTy.f32 w) (slice_apply v hs ho r l)

/-! ## The stores -/

/-- A tile as it is stored. -/
def stored (v : FVec Ideal S512x128 .f32) : FVec Ideal S1x1x512x128 .bf16 :=
  shapeCast S1x1x512x128 (truncf .bf16 v bitsLt_bf16_f32) shapeCasts_S512x128_S1x1x512x128

/-- A stored tile at an index. -/
theorem stored_apply (v : FVec Ideal S512x128 .f32) (r : Fin 512) (l : Fin 128) :
    (stored v (ix4 0 0 r l) : EReal) = v (ix2 r l) := by
  pointwise [stored]

/-- A block of four heads, each of two tiles of lanes. -/
def wide (G : Fin 4 → Fin 2 → Fin 512 → Fin 128 → EReal) : Vec Ideal S1x4x512x256 .bf16 := fun y =>
  have h3 : (y 3).val < 256 := (y 3).isLt
  G (y 1) ⟨(y 3).val / 128, by omega⟩ (y 2) ⟨(y 3).val % 128, by omega⟩

/-- A block of four heads, each of one tile of lanes. -/
def narrow (G : Fin 4 → Fin 512 → Fin 128 → EReal) : Vec Ideal S1x4x512x128 .bf16 := fun y => G (y 1) (y 2) (y 3)

/-- The wide block at an index. -/
theorem wide_apply (G : Fin 4 → Fin 2 → Fin 512 → Fin 128 → EReal) (h : Fin 4) (p : Fin 2) (r : Fin 512) (l : Fin 128) :
    (wide G (ix4 0 h r ⟨128 * p.val + l.val, by omega⟩) : EReal) = G h p r l := by
  have e1 : (⟨(128 * p.val + l.val) / 128, by omega⟩ : Fin 2) = p := Fin.ext (by show (128 * p.val + l.val) / 128 = p.val; omega)
  have e2 : (⟨(128 * p.val + l.val) % 128, by omega⟩ : Fin 128) = l := Fin.ext (by show (128 * p.val + l.val) % 128 = l.val; omega)
  show G h ⟨(128 * p.val + l.val) / 128, _⟩ r ⟨(128 * p.val + l.val) % 128, _⟩ = _
  rw [e1, e2]

/-- A tile stored at head `h`, tile `p` is the wide block there. -/
theorem wide_piece (G : Fin 4 → Fin 2 → Fin 512 → Fin 128 → EReal) (h : Fin 4) (p : Fin 2) (v : FVec Ideal S512x128 .f32)
    (hv : ∀ r l, (v (ix2 r l) : EReal) = G h p r l)
    (inb : ∀ a, (![0, h.val, 0, 128 * p.val] : Fin 4 → ℕ) a + S1x1x512x128.size a ≤ S1x4x512x256.size a) (x : S1x1x512x128.Idx) :
    stored v x = wide G ((Rect.unit (s := S1x4x512x256) ![0, h.val, 0, 128 * p.val] S1x1x512x128.size inb).emb x) := by
  have e : (Rect.unit (s := S1x4x512x256) ![0, h.val, 0, 128 * p.val] S1x1x512x128.size inb).emb x
      = ix4 0 h (x 2) ⟨128 * p.val + (x 3).val, by have h2 : (x 3).val < 128 := (x 3).isLt; omega⟩ := by
    funext a; apply Fin.ext
    match a with
    | 0 => show 0 + 1 * (x 0).val = 0; have h0 : (x 0).val < 1 := (x 0).isLt; omega
    | 1 => show h.val + 1 * (x 1).val = h.val; have h0 : (x 1).val < 1 := (x 1).isLt; omega
    | 2 => show 0 + 1 * (x 2).val = (x 2).val; omega
    | 3 => show 128 * p.val + 1 * (x 3).val = 128 * p.val + (x 3).val; omega
  have ex : x = ix4 0 0 (x 2) (x 3) := by
    funext a
    match a with
    | 0 => exact Fin.ext (by show (x 0).val = 0; have h0 : (x 0).val < 1 := (x 0).isLt; omega)
    | 1 => exact Fin.ext (by show (x 1).val = 0; have h0 : (x 1).val < 1 := (x 1).isLt; omega)
    | 2 => rfl
    | 3 => rfl
  rw [e]
  refine Eq.trans ?_ (wide_apply G h p (x 2) (x 3)).symm
  exact (congrArg (stored v) ex).trans ((stored_apply v (x 2) (x 3)).trans (hv (x 2) (x 3)))

/-- A tile stored at head `h` is the narrow block there. -/
theorem narrow_piece (G : Fin 4 → Fin 512 → Fin 128 → EReal) (h : Fin 4) (v : FVec Ideal S512x128 .f32)
    (hv : ∀ r l, (v (ix2 r l) : EReal) = G h r l)
    (inb : ∀ a, (![0, h.val, 0, 0] : Fin 4 → ℕ) a + S1x1x512x128.size a ≤ S1x4x512x128.size a) (x : S1x1x512x128.Idx) :
    stored v x = narrow G ((Rect.unit (s := S1x4x512x128) ![0, h.val, 0, 0] S1x1x512x128.size inb).emb x) := by
  have e : (Rect.unit (s := S1x4x512x128) ![0, h.val, 0, 0] S1x1x512x128.size inb).emb x = ix4 0 h (x 2) (x 3) := by
    funext a; apply Fin.ext
    match a with
    | 0 => show 0 + 1 * (x 0).val = 0; have h0 : (x 0).val < 1 := (x 0).isLt; omega
    | 1 => show h.val + 1 * (x 1).val = h.val; have h0 : (x 1).val < 1 := (x 1).isLt; omega
    | 2 => show 0 + 1 * (x 2).val = (x 2).val; omega
    | 3 => show 0 + 1 * (x 3).val = (x 3).val; omega
  have ex : x = ix4 0 0 (x 2) (x 3) := by
    funext a
    match a with
    | 0 => exact Fin.ext (by show (x 0).val = 0; have h0 : (x 0).val < 1 := (x 0).isLt; omega)
    | 1 => exact Fin.ext (by show (x 1).val = 0; have h0 : (x 1).val < 1 := (x 1).isLt; omega)
    | 2 => rfl
    | 3 => rfl
  rw [e]
  exact (congrArg (stored v) ex).trans ((stored_apply v (x 2) (x 3)).trans (hv (x 2) (x 3)))

/-- A tile of the wide block stays in it. -/
theorem inbW (h : Fin 4) (p : Fin 2) :
    ∀ a, (![0, h.val, 0, 128 * p.val] : Fin 4 → ℕ) a + S1x1x512x128.size a ≤ S1x4x512x256.size a := by
  revert h p; decide

/-- A tile of the narrow block stays in it. -/
theorem inbN (h : Fin 4) : ∀ a, (![0, h.val, 0, 0] : Fin 4 → ℕ) a + S1x1x512x128.size a ≤ S1x4x512x128.size a := by
  revert h; decide

/-! ## The blocks -/

section Blocks

variable (x0 : Vec Ideal S1x512x1024 .f32) (x1 : Vec Ideal S1x6x1024 .f32) (x2 : Vec Ideal S1x1024 .f32)
  (x3 : Vec Ideal S1024x2176 .bf16) (x4 : Vec Ideal S1x256 .f32) (x5 : Vec Ideal S256x1024 .bf16) (x6 : Vec Ideal S1x256 .f32)
  (x7 : Vec Ideal S256x1024 .bf16) (x8 x9 : Vec Ideal S512x128 .f32)

/-- Row `r` of the first product. -/
def blkZ (r : Fin 512) : Fin 2176 → EReal :=
  zrow (fun k => x0 (ix3 0 r k)) (fun k => x1 (ix3 0 0 k)) (fun k => x1 (ix3 0 1 k)) (fun k => x2 (ix2 0 k)) fun k j => x3 (ix2 k j)

/-- Row `r` of the queries' product. -/
def blkQ (r : Fin 512) : Fin 1024 → EReal :=
  urow (fun k => blkZ x0 x1 x2 x3 r ⟨k.val, by omega⟩) (fun k => x4 (ix2 0 k)) fun k j => x5 (ix2 k j)

/-- Row `r` of the keys' and values' product. -/
def blkKV (r : Fin 512) : Fin 1024 → EReal :=
  urow (fun k => blkZ x0 x1 x2 x3 r ⟨256 + k.val, by omega⟩) (fun k => x6 (ix2 0 k)) fun k j => x7 (ix2 k j)

/-- The first product at an index. -/
theorem blkZ_apply (r : Fin 512) (j : Fin 2176) :
    (k0_pay47 (F := Ideal) x0 x1 x2 x3 x4 x5 x6 x7 x8 x9 (ix2 r j) : EReal) = blkZ x0 x1 x2 x3 r j := by
  rw [k0_pay47, z_apply]
  unfold blkZ zrow
  pointwise []

/-- The queries' product at an index. -/
theorem blkQ_apply (r : Fin 512) (j : Fin 1024) :
    (k0_pay51 (F := Ideal) x0 x1 x2 x3 x4 x5 x6 x7 x8 x9 (ix2 r j) : EReal) = blkQ x0 x1 x2 x3 x4 x5 r j := by
  rw [k0_pay51, q_apply]
  simp only [blkZ_apply]
  unfold blkQ urow
  pointwise []

/-- The keys' and values' product at an index. -/
theorem blkKV_apply (r : Fin 512) (j : Fin 1024) :
    (k0_pay54 (F := Ideal) x0 x1 x2 x3 x4 x5 x6 x7 x8 x9 (ix2 r j) : EReal) = blkKV x0 x1 x2 x3 x6 x7 r j := by
  rw [k0_pay54, k0_pay52, k0_pay53, kv_apply]
  simp only [blkZ_apply]
  unfold blkKV urow
  pointwise []

/-- The cosines at an index. -/
theorem cos_apply (r : Fin 512) (l : Fin 128) :
    (k0_pay48 (F := Ideal) x0 x1 x2 x3 x4 x5 x6 x7 x8 x9 (ix2 r l) : EReal) = x8 (ix2 r l) := by
  pointwise [k0_pay48, k0_pay5]

/-- The signed sines at an index. -/
theorem sin_apply (r : Fin 512) (l : Fin 128) :
    (k0_pay49 (F := Ideal) x0 x1 x2 x3 x4 x5 x6 x7 x8 x9 (ix2 r l) : EReal) = x9 (ix2 r l) := by
  pointwise [k0_pay49, k0_pay6]

/-- Queries of the first attention: each head's plain lanes and turned lanes, scaled. -/
def tileQ (h : Fin 4) (p : Fin 2) (r : Fin 512) (l : Fin 128) : EReal :=
  match p with
  | 0 => blkQ x0 x1 x2 x3 x4 x5 r ⟨128 * h.val + l.val, by omega⟩ * Ideal.ofBits FTy.f32 0x3DD53B95#32
  | 1 => turned (fun l => blkQ x0 x1 x2 x3 x4 x5 r ⟨512 + 128 * h.val + l.val, by omega⟩) (fun l => x8 (ix2 r l))
      (fun l => x9 (ix2 r l)) l * Ideal.ofBits FTy.f32 0x3DD53B95#32

/-- Keys of the first attention: each head's plain lanes, and the turned lanes the heads share. -/
def tileK (h : Fin 4) (p : Fin 2) (r : Fin 512) (l : Fin 128) : EReal :=
  match p with
  | 0 => blkKV x0 x1 x2 x3 x6 x7 r ⟨128 * h.val + l.val, by omega⟩
  | 1 => turned (fun l => blkZ x0 x1 x2 x3 r ⟨2048 + l.val, by omega⟩) (fun l => x8 (ix2 r l)) (fun l => x9 (ix2 r l)) l

/-- Values of the first attention. -/
def tileV (h : Fin 4) (r : Fin 512) (l : Fin 128) : EReal :=
  blkKV x0 x1 x2 x3 x6 x7 r ⟨512 + 128 * h.val + l.val, by omega⟩

/-- Lanes of the first product from `o` on, by heads, turned. -/
def tileT (o : ℕ) (ho : o + 512 ≤ 2176) (h : Fin 4) (r : Fin 512) (l : Fin 128) : EReal :=
  turned (fun l => blkZ x0 x1 x2 x3 r ⟨o + 128 * h.val + l.val, by omega⟩) (fun l => x8 (ix2 r l)) (fun l => x9 (ix2 r l)) l

/-- Queries of the second attention: turned and scaled. -/
def tileDQ (h : Fin 4) (r : Fin 512) (l : Fin 128) : EReal :=
  tileT x0 x1 x2 x3 x8 x9 512 (by omega) h r l * Ideal.ofBits FTy.f32 0x3E38AA3B#32

/-- Values of the second attention. -/
def tileDV (h : Fin 4) (r : Fin 512) (l : Fin 128) : EReal :=
  blkZ x0 x1 x2 x3 r ⟨1536 + 128 * h.val + l.val, by omega⟩

/-- The mask is the body's. -/
theorem mask_eq : k0_pay50 (F := Ideal) x0 x1 x2 x3 x4 x5 x6 x7 x8 x9 = firstHalf := rfl

/-- A head's plain lanes of the queries. -/
theorem q_plain (h : Fin 4) {o : ℕ} (ho : o = 128 * h.val) (hs) (r : Fin 512) (l : Fin 128) :
    (mulf (extractStridedSlice S512x128 ![0, o] (k0_pay51 (F := Ideal) x0 x1 x2 x3 x4 x5 x6 x7 x8 x9) hs)
      (broadcast S512x128 (Scalar.ofBits .f32 0x3DD53B95#32)) (ix2 r l) : EReal) = tileQ x0 x1 x2 x3 x4 x5 x8 x9 h 0 r l := by
  subst ho
  refine (times_slice _ hs (by omega) _ r l).trans ?_
  rw [blkQ_apply]
  rfl

/-- A head's turned lanes of the queries. -/
theorem q_turned (h : Fin 4) {o : ℕ} (ho : o = 512 + 128 * h.val) (hs) (r : Fin 512) (l : Fin 128) :
    (mulf (turn (extractStridedSlice S512x128 ![0, o] (k0_pay51 (F := Ideal) x0 x1 x2 x3 x4 x5 x6 x7 x8 x9) hs)
      (k0_pay48 x0 x1 x2 x3 x4 x5 x6 x7 x8 x9) (k0_pay49 x0 x1 x2 x3 x4 x5 x6 x7 x8 x9) firstHalf)
      (broadcast S512x128 (Scalar.ofBits .f32 0x3DD53B95#32)) (ix2 r l) : EReal) = tileQ x0 x1 x2 x3 x4 x5 x8 x9 h 1 r l := by
  subst ho
  refine (scaled_slice _ hs (by omega) _ _ _ r l).trans ?_
  simp only [blkQ_apply, cos_apply, sin_apply]
  rfl

/-- A head's lanes of the keys' and values' product. -/
theorem kv_plain (h : Fin 4) (b : ℕ) (hb : b + 512 ≤ 1024) {o : ℕ} (ho : o = b + 128 * h.val) (hs) (r : Fin 512) (l : Fin 128) :
    (extractStridedSlice S512x128 ![0, o] (k0_pay54 (F := Ideal) x0 x1 x2 x3 x4 x5 x6 x7 x8 x9) hs (ix2 r l) : EReal)
      = blkKV x0 x1 x2 x3 x6 x7 r ⟨b + 128 * h.val + l.val, by omega⟩ := by
  subst ho
  exact (slice_apply _ hs (by omega) r l).trans (blkKV_apply x0 x1 x2 x3 x4 x5 x6 x7 x8 x9 r _)

/-- A head's plain lanes of the keys. -/
theorem k_plain (h : Fin 4) {o : ℕ} (ho : o = 128 * h.val) (hs) (r : Fin 512) (l : Fin 128) :
    (extractStridedSlice S512x128 ![0, o] (k0_pay54 (F := Ideal) x0 x1 x2 x3 x4 x5 x6 x7 x8 x9) hs (ix2 r l) : EReal)
      = tileK x0 x1 x2 x3 x6 x7 x8 x9 h 0 r l := by
  subst ho
  exact (slice_apply _ hs (by omega) r l).trans (blkKV_apply x0 x1 x2 x3 x4 x5 x6 x7 x8 x9 r _)

/-- The turned lanes of the keys. -/
theorem k_turned (h : Fin 4) (hs) (r : Fin 512) (l : Fin 128) :
    (turn (extractStridedSlice S512x128 ![0, 2048] (k0_pay47 (F := Ideal) x0 x1 x2 x3 x4 x5 x6 x7 x8 x9) hs)
      (k0_pay48 x0 x1 x2 x3 x4 x5 x6 x7 x8 x9) (k0_pay49 x0 x1 x2 x3 x4 x5 x6 x7 x8 x9) firstHalf (ix2 r l) : EReal)
      = tileK x0 x1 x2 x3 x6 x7 x8 x9 h 1 r l := by
  refine (turn_slice _ hs (by omega) _ _ r l).trans ?_
  simp only [blkZ_apply, cos_apply, sin_apply]
  rfl

/-- A head's lanes of the first product from `b` on, turned. -/
theorem d_turned (h : Fin 4) (b : ℕ) (hb : b + 512 ≤ 2176) {o : ℕ} (ho : o = b + 128 * h.val) (hs) (r : Fin 512) (l : Fin 128) :
    (turn (extractStridedSlice S512x128 ![0, o] (k0_pay47 (F := Ideal) x0 x1 x2 x3 x4 x5 x6 x7 x8 x9) hs)
      (k0_pay48 x0 x1 x2 x3 x4 x5 x6 x7 x8 x9) (k0_pay49 x0 x1 x2 x3 x4 x5 x6 x7 x8 x9) firstHalf (ix2 r l) : EReal)
      = tileT x0 x1 x2 x3 x8 x9 b hb h r l := by
  subst ho
  refine (turn_slice _ hs (by omega) _ _ r l).trans ?_
  simp only [blkZ_apply, cos_apply, sin_apply]
  rfl

/-- A head's lanes of the second attention's queries. -/
theorem dq_turned (h : Fin 4) {o : ℕ} (ho : o = 512 + 128 * h.val) (hs) (r : Fin 512) (l : Fin 128) :
    (mulf (turn (extractStridedSlice S512x128 ![0, o] (k0_pay47 (F := Ideal) x0 x1 x2 x3 x4 x5 x6 x7 x8 x9) hs)
      (k0_pay48 x0 x1 x2 x3 x4 x5 x6 x7 x8 x9) (k0_pay49 x0 x1 x2 x3 x4 x5 x6 x7 x8 x9) firstHalf)
      (broadcast S512x128 (Scalar.ofBits .f32 0x3E38AA3B#32)) (ix2 r l) : EReal) = tileDQ x0 x1 x2 x3 x8 x9 h r l :=
  congrArg (· * Ideal.ofBits FTy.f32 0x3E38AA3B#32) (d_turned x0 x1 x2 x3 x4 x5 x6 x7 x8 x9 h 512 (by omega) ho hs r l)

/-- A head's lanes of the second attention's values. -/
theorem dv_plain (h : Fin 4) {o : ℕ} (ho : o = 1536 + 128 * h.val) (hs) (r : Fin 512) (l : Fin 128) :
    (extractStridedSlice S512x128 ![0, o] (k0_pay47 (F := Ideal) x0 x1 x2 x3 x4 x5 x6 x7 x8 x9) hs (ix2 r l) : EReal)
      = tileDV x0 x1 x2 x3 h r l := by
  subst ho
  exact (slice_apply _ hs (by omega) r l).trans (blkZ_apply x0 x1 x2 x3 x4 x5 x6 x7 x8 x9 r _)

/-- The queries of the first attention the body leaves. -/
theorem out10_eq : out0_10 (F := Ideal) x0 x1 x2 x3 x4 x5 x6 x7 x8 x9 = wide (tileQ x0 x1 x2 x3 x4 x5 x8 x9) := by
  funext y
  rw [out0_10]
  refine View.canon_apply_of_pieces _ _ ?_ y (cover0_10 _ _ _ _ _ _ _ _ y)
  intro p hp
  simp only [List.mem_cons, List.not_mem_nil, or_false] at hp
  rcases hp with rfl | rfl | rfl | rfl | rfl | rfl | rfl | rfl
  · exact fun x => wide_piece _ 3 1 _ (q_turned x0 x1 x2 x3 x4 x5 x6 x7 x8 x9 3 rfl _) (inbW 3 1) x
  · exact fun x => wide_piece _ 3 0 _ (q_plain x0 x1 x2 x3 x4 x5 x6 x7 x8 x9 3 rfl _) (inbW 3 0) x
  · exact fun x => wide_piece _ 2 1 _ (q_turned x0 x1 x2 x3 x4 x5 x6 x7 x8 x9 2 rfl _) (inbW 2 1) x
  · exact fun x => wide_piece _ 2 0 _ (q_plain x0 x1 x2 x3 x4 x5 x6 x7 x8 x9 2 rfl _) (inbW 2 0) x
  · exact fun x => wide_piece _ 1 1 _ (q_turned x0 x1 x2 x3 x4 x5 x6 x7 x8 x9 1 rfl _) (inbW 1 1) x
  · exact fun x => wide_piece _ 1 0 _ (q_plain x0 x1 x2 x3 x4 x5 x6 x7 x8 x9 1 rfl _) (inbW 1 0) x
  · exact fun x => wide_piece _ 0 1 _ (q_turned x0 x1 x2 x3 x4 x5 x6 x7 x8 x9 0 rfl _) (inbW 0 1) x
  · exact fun x => wide_piece _ 0 0 _ (q_plain x0 x1 x2 x3 x4 x5 x6 x7 x8 x9 0 rfl _) (inbW 0 0) x

/-- The keys of the first attention the body leaves. -/
theorem out11_eq : out0_11 (F := Ideal) x0 x1 x2 x3 x4 x5 x6 x7 x8 x9 = wide (tileK x0 x1 x2 x3 x6 x7 x8 x9) := by
  funext y
  rw [out0_11]
  refine View.canon_apply_of_pieces _ _ ?_ y (cover0_11 _ _ _ _ _ _ _ _ y)
  intro p hp
  simp only [List.mem_cons, List.not_mem_nil, or_false] at hp
  rcases hp with rfl | rfl | rfl | rfl | rfl | rfl | rfl | rfl
  · exact fun x => wide_piece _ 3 1 _ (k_turned x0 x1 x2 x3 x4 x5 x6 x7 x8 x9 3 _) (inbW 3 1) x
  · exact fun x => wide_piece _ 3 0 _ (k_plain x0 x1 x2 x3 x4 x5 x6 x7 x8 x9 3 rfl _) (inbW 3 0) x
  · exact fun x => wide_piece _ 2 1 _ (k_turned x0 x1 x2 x3 x4 x5 x6 x7 x8 x9 2 _) (inbW 2 1) x
  · exact fun x => wide_piece _ 2 0 _ (k_plain x0 x1 x2 x3 x4 x5 x6 x7 x8 x9 2 rfl _) (inbW 2 0) x
  · exact fun x => wide_piece _ 1 1 _ (k_turned x0 x1 x2 x3 x4 x5 x6 x7 x8 x9 1 _) (inbW 1 1) x
  · exact fun x => wide_piece _ 1 0 _ (k_plain x0 x1 x2 x3 x4 x5 x6 x7 x8 x9 1 rfl _) (inbW 1 0) x
  · exact fun x => wide_piece _ 0 1 _ (k_turned x0 x1 x2 x3 x4 x5 x6 x7 x8 x9 0 _) (inbW 0 1) x
  · intro x
    show stored (extractStridedSlice S512x128 ![0, 0] (k0_pay54 (F := Ideal) x0 x1 x2 x3 x4 x5 x6 x7 x8 x9) slices_S512x1024_o0_0_S512x128) x = _
    exact wide_piece _ 0 0 _ (k_plain x0 x1 x2 x3 x4 x5 x6 x7 x8 x9 0 rfl _) (inbW 0 0) x

/-- The values of the first attention the body leaves. -/
theorem out12_eq : out0_12 (F := Ideal) x0 x1 x2 x3 x4 x5 x6 x7 x8 x9 = narrow (tileV x0 x1 x2 x3 x6 x7) := by
  funext y
  rw [out0_12]
  refine View.canon_apply_of_pieces _ _ ?_ y (cover0_12 _ _ _ _ y)
  intro p hp
  simp only [List.mem_cons, List.not_mem_nil, or_false] at hp
  rcases hp with rfl | rfl | rfl | rfl
  · exact fun x => narrow_piece _ 3 _ (kv_plain x0 x1 x2 x3 x4 x5 x6 x7 x8 x9 3 512 (by omega) rfl _) (inbN 3) x
  · exact fun x => narrow_piece _ 2 _ (kv_plain x0 x1 x2 x3 x4 x5 x6 x7 x8 x9 2 512 (by omega) rfl _) (inbN 2) x
  · exact fun x => narrow_piece _ 1 _ (kv_plain x0 x1 x2 x3 x4 x5 x6 x7 x8 x9 1 512 (by omega) rfl _) (inbN 1) x
  · exact fun x => narrow_piece _ 0 _ (kv_plain x0 x1 x2 x3 x4 x5 x6 x7 x8 x9 0 512 (by omega) rfl _) (inbN 0) x

/-- The queries of the second attention the body leaves. -/
theorem out13_eq : out0_13 (F := Ideal) x0 x1 x2 x3 x4 x5 x6 x7 x8 x9 = narrow (tileDQ x0 x1 x2 x3 x8 x9) := by
  funext y
  rw [out0_13]
  refine View.canon_apply_of_pieces _ _ ?_ y (cover0_13 _ _ _ _ y)
  intro p hp
  simp only [List.mem_cons, List.not_mem_nil, or_false] at hp
  rcases hp with rfl | rfl | rfl | rfl
  · exact fun x => narrow_piece _ 3 _ (dq_turned x0 x1 x2 x3 x4 x5 x6 x7 x8 x9 3 rfl _) (inbN 3) x
  · exact fun x => narrow_piece _ 2 _ (dq_turned x0 x1 x2 x3 x4 x5 x6 x7 x8 x9 2 rfl _) (inbN 2) x
  · exact fun x => narrow_piece _ 1 _ (dq_turned x0 x1 x2 x3 x4 x5 x6 x7 x8 x9 1 rfl _) (inbN 1) x
  · exact fun x => narrow_piece _ 0 _ (dq_turned x0 x1 x2 x3 x4 x5 x6 x7 x8 x9 0 rfl _) (inbN 0) x

/-- The keys of the second attention the body leaves. -/
theorem out14_eq : out0_14 (F := Ideal) x0 x1 x2 x3 x4 x5 x6 x7 x8 x9 = narrow (tileT x0 x1 x2 x3 x8 x9 1024 (by omega)) := by
  funext y
  rw [out0_14]
  refine View.canon_apply_of_pieces _ _ ?_ y (cover0_14 _ _ _ _ y)
  intro p hp
  simp only [List.mem_cons, List.not_mem_nil, or_false] at hp
  rcases hp with rfl | rfl | rfl | rfl
  · exact fun x => narrow_piece _ 3 _ (d_turned x0 x1 x2 x3 x4 x5 x6 x7 x8 x9 3 1024 (by omega) rfl _) (inbN 3) x
  · exact fun x => narrow_piece _ 2 _ (d_turned x0 x1 x2 x3 x4 x5 x6 x7 x8 x9 2 1024 (by omega) rfl _) (inbN 2) x
  · exact fun x => narrow_piece _ 1 _ (d_turned x0 x1 x2 x3 x4 x5 x6 x7 x8 x9 1 1024 (by omega) rfl _) (inbN 1) x
  · exact fun x => narrow_piece _ 0 _ (d_turned x0 x1 x2 x3 x4 x5 x6 x7 x8 x9 0 1024 (by omega) rfl _) (inbN 0) x

/-- The values of the second attention the body leaves. -/
theorem out15_eq : out0_15 (F := Ideal) x0 x1 x2 x3 x4 x5 x6 x7 x8 x9 = narrow (tileDV x0 x1 x2 x3) := by
  funext y
  rw [out0_15]
  refine View.canon_apply_of_pieces _ _ ?_ y (cover0_15 _ _ _ _ y)
  intro p hp
  simp only [List.mem_cons, List.not_mem_nil, or_false] at hp
  rcases hp with rfl | rfl | rfl | rfl
  · exact fun x => narrow_piece _ 3 _ (dv_plain x0 x1 x2 x3 x4 x5 x6 x7 x8 x9 3 rfl _) (inbN 3) x
  · exact fun x => narrow_piece _ 2 _ (dv_plain x0 x1 x2 x3 x4 x5 x6 x7 x8 x9 2 rfl _) (inbN 2) x
  · exact fun x => narrow_piece _ 1 _ (dv_plain x0 x1 x2 x3 x4 x5 x6 x7 x8 x9 1 rfl _) (inbN 1) x
  · exact fun x => narrow_piece _ 0 _ (dv_plain x0 x1 x2 x3 x4 x5 x6 x7 x8 x9 0 rfl _) (inbN 0) x

end Blocks

end Cert.Pre

end
-- ==== Proof.PreHost.lean ====
/- The arrays the projections' host code prepares, as functions of its arguments, read at an index. -/
module

public import proofs.«01_k».proof.Proof.PreBlock
public import Idealize.ShloMosaic.Lib.StableHlo.Run

@[expose] public section

set_option maxRecDepth 16384

noncomputable section

namespace Cert.Pre

open Idealize.ShloMosaic Idealize.ShloMosaic.TcCoe Idealize.ShloMosaic.StableHlo
open Cert.Kernel3Ideal Cert.Kernel3Ideal.Gen

/-- Two arrays of 32 lanes side by side, twice over. -/
def tiled (A B : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, A⟩, ⟨S8192x32, B⟩] concatenates_S8192x32_S8192x32_S8192x64_d1)
      shapeCasts_S8192x64_S1x8192x1x64)) shapeCasts_S1x8192x2x64_S8192x128

/-- The first product's matrix, its columns in the body's order. -/
def columns (W : FVec Ideal S1024x2112 .f32) : FVec Ideal S1024x2176 .bf16 :=
  truncf .bf16 (concatenate S1024x2176 1 [⟨S1024x512, extractStridedSlice S1024x512 ![0, 0] W slices_S1024x2112_S1024x512_0_0⟩,
    ⟨S1024x1536, extractStridedSlice S1024x1536 ![0, 576] W slices_S1024x2112_S1024x1536_0_576⟩,
    ⟨S1024x64, extractStridedSlice S1024x64 ![0, 512] W slices_S1024x2112_S1024x64_0_512⟩,
    ⟨S1024x64, broadcastInDim S1024x64 ![] bcast_S_S1024x64 (constant S_ .f32 0x00000000#32)⟩]
    concatenates_S1024x512_S1024x1536_S1024x64_S1024x64_S1024x2176_d1) bitsLt_bf16_f32

/-- The queries' matrix: the heads' plain lanes, then the heads' lanes to turn, each head's filled with zeros. -/
def queries (W : FVec Ideal S256x768 .f32) : FVec Ideal S256x1024 .bf16 :=
  truncf .bf16 (concatenate S256x1024 1 [⟨S256x512, shapeCast S256x512 (extractStridedSlice S256x4x128 ![0, 0, 0]
      (shapeCast S256x4x192 W shapeCasts_S256x768_S256x4x192) slices_S256x4x192_S256x4x128_0_0_0) shapeCasts_S256x4x128_S256x512⟩,
    ⟨S256x512, shapeCast S256x512 (pad S256x4x128 ![0, 0, 0] ![0, 0, 64] ![0, 0, 0] (extractStridedSlice S256x4x64 ![0, 0, 128]
      (shapeCast S256x4x192 W shapeCasts_S256x768_S256x4x192) slices_S256x4x192_S256x4x64_0_0_128) (sitofp (F := Ideal) .f32 (constantI S_ 32 0#32))
      pads_S256x4x64_S256x4x128_000_000_0640 h_S_) shapeCasts_S256x4x128_S256x512⟩]
    concatenates_S256x512_S256x512_S256x1024_d1) bitsLt_bf16_f32

/-- The keys' and values' matrix: the heads' keys, then the heads' values. -/
def keysValues (W : FVec Ideal S256x1024 .f32) : FVec Ideal S256x1024 .bf16 :=
  truncf .bf16 (concatenate S256x1024 1 [⟨S256x512, shapeCast S256x512 (extractStridedSlice S256x4x128 ![0, 0, 0]
      (shapeCast S256x4x256 W shapeCasts_S256x1024_S256x4x256) slices_S256x4x256_S256x4x128_0_0_0) shapeCasts_S256x4x128_S256x512⟩,
    ⟨S256x512, shapeCast S256x512 (extractStridedSlice S256x4x128 ![0, 0, 128]
      (shapeCast S256x4x256 W shapeCasts_S256x1024_S256x4x256) slices_S256x4x256_S256x4x128_0_0_128) shapeCasts_S256x4x128_S256x512⟩]
    concatenates_S256x512_S256x512_S256x1024_d1) bitsLt_bf16_f32

/-! ## They are what the region finds -/

section Found

variable (m : (ℓ : Loc nD τ sig) → Buf (Elt Ideal) ℓ) (c : Dev nD)

/-- The cosines. -/
theorem V_cos : V m c main_v3 = tiled (m ((c : Thread nD τ).loc main_arg8)) (m ((c : Thread nD τ).loc main_arg8)) := by
  unfold V
  simp only [hostOps0, hostOps0_1, hostOps0_2, List.flatten_cons, List.flatten_nil, List.append_nil, List.cons_append, List.nil_append]
  after_results_simp
  rfl

/-- The sines. -/
theorem V_sin : V m c main_v8 = tiled (Host.negf (m ((c : Thread nD τ).loc main_arg9))) (m ((c : Thread nD τ).loc main_arg9)) := by
  unfold V
  simp only [hostOps0, hostOps0_1, hostOps0_2, List.flatten_cons, List.flatten_nil, List.append_nil, List.cons_append, List.nil_append]
  after_results_simp
  rfl

/-- The columns. -/
theorem V_columns : V m c main_v14 = columns (m ((c : Thread nD τ).loc main_arg3)) := by
  unfold V
  simp only [hostOps0, hostOps0_1, hostOps0_2, List.flatten_cons, List.flatten_nil, List.append_nil, List.cons_append, List.nil_append]
  after_results_simp
  rfl

/-- The queries' matrix. -/
theorem V_queries : V m c main_v22 = queries (m ((c : Thread nD τ).loc main_arg5)) := by
  unfold V
  simp only [hostOps0, hostOps0_1, hostOps0_2, List.flatten_cons, List.flatten_nil, List.append_nil, List.cons_append, List.nil_append]
  after_results_simp
  rfl

/-- The keys' and values' matrix. -/
theorem V_keysValues : V m c main_v29 = keysValues (m ((c : Thread nD τ).loc main_arg7)) := by
  unfold V
  simp only [hostOps0, hostOps0_1, hostOps0_2, List.flatten_cons, List.flatten_nil, List.append_nil, List.cons_append, List.nil_append]
  after_results_simp
  rfl

end Found

/-! ## They at an index -/

/-- The whole number nought is nought. -/
theorem sitofp_zero : (FloatOps.sitofp (F := Ideal) FTy.f32 (0#32) : EReal) = 0 := by
  show ((((0#32 : BitVec 32).toInt : ℝ)) : EReal) = 0
  simp

/-- The tiled array at a lane of a first half. -/
theorem tiled_lo (A B : FVec Ideal S8192x32 .f32) (s : Fin 8192) (e : Fin 2) (d : Fin 32) :
    (tiled A B (ix2 s ⟨64 * e.val + d.val, by omega⟩) : EReal) = A (ix2 s d) := by
  pointwise [tiled]
  rw [dif_pos (by omega)]
  exact congrArg (fun i => A (ix2 s i)) (Fin.ext (by dsimp only; omega))

/-- The tiled array at a lane of a second half. -/
theorem tiled_hi (A B : FVec Ideal S8192x32 .f32) (s : Fin 8192) (e : Fin 2) (d : Fin 32) :
    (tiled A B (ix2 s ⟨64 * e.val + 32 + d.val, by omega⟩) : EReal) = B (ix2 s d) := by
  pointwise [tiled]
  rw [dif_neg (by omega)]
  exact congrArg (fun i => B (ix2 s i)) (Fin.ext (by dsimp only; omega))

/-- The columns before the shared lanes. -/
theorem columns_front (W : FVec Ideal S1024x2112 .f32) (k : Fin 1024) (j : Fin 512) :
    (columns W (ix2 k ⟨j.val, by omega⟩) : EReal) = W (ix2 k ⟨j.val, by omega⟩) := by
  pointwise [columns]

/-- The columns after the shared lanes. -/
theorem columns_mid (W : FVec Ideal S1024x2112 .f32) (k : Fin 1024) (j : Fin 1536) :
    (columns W (ix2 k ⟨512 + j.val, by omega⟩) : EReal) = W (ix2 k ⟨576 + j.val, by omega⟩) := by
  pointwise [columns]

/-- The shared lanes' columns. -/
theorem columns_shared (W : FVec Ideal S1024x2112 .f32) (k : Fin 1024) (j : Fin 64) :
    (columns W (ix2 k ⟨2048 + j.val, by omega⟩) : EReal) = W (ix2 k ⟨512 + j.val, by omega⟩) := by
  pointwise [columns]
  rw [dif_neg (by omega)]
  rw [dif_neg (by omega)]
  rw [dif_pos (by omega)]
  exact congrArg (fun i => W (ix2 k i)) (Fin.ext (by dsimp only; omega))

/-- The zero columns. -/
theorem columns_zero (W : FVec Ideal S1024x2112 .f32) (k : Fin 1024) (j : Fin 64) :
    (columns W (ix2 k ⟨2112 + j.val, by omega⟩) : EReal) = 0 := by
  pointwise [columns]
  rw [dif_neg (by omega)]
  rw [dif_neg (by omega)]
  rw [dif_neg (by omega)]

/-- The queries' matrix at a head's plain lane. -/
theorem queries_plain (W : FVec Ideal S256x768 .f32) (k : Fin 256) (h : Fin 4) (l : Fin 128) :
    (queries W (ix2 k ⟨128 * h.val + l.val, by omega⟩) : EReal) = W (ix2 k ⟨192 * h.val + l.val, by omega⟩) := by
  pointwise [queries]
  rw [dif_pos (by omega)]
  exact congrArg (fun i => W (ix2 k i)) (Fin.ext (by dsimp only; omega))

/-- The queries' matrix at a head's lane to turn. -/
theorem queries_turned (W : FVec Ideal S256x768 .f32) (k : Fin 256) (h : Fin 4) (l : Fin 64) :
    (queries W (ix2 k ⟨512 + 128 * h.val + l.val, by omega⟩) : EReal) = W (ix2 k ⟨192 * h.val + (128 + l.val), by omega⟩) := by
  pointwise [queries]
  rw [dif_neg (by omega)]
  rw [dif_pos (by omega)]
  exact congrArg (fun i => W (ix2 k i)) (Fin.ext (by dsimp only; omega))

/-- The queries' matrix at a filled lane. -/
theorem queries_zero (W : FVec Ideal S256x768 .f32) (k : Fin 256) (h : Fin 4) (l : Fin 64) :
    (queries W (ix2 k ⟨512 + 128 * h.val + 64 + l.val, by omega⟩) : EReal) = 0 := by
  pointwise [queries]
  rw [dif_neg (by omega)]
  rw [dif_neg (by omega)]
  exact sitofp_zero

/-- The keys' columns. -/
theorem keysValues_keys (W : FVec Ideal S256x1024 .f32) (k : Fin 256) (h : Fin 4) (l : Fin 128) :
    (keysValues W (ix2 k ⟨128 * h.val + l.val, by omega⟩) : EReal) = W (ix2 k ⟨256 * h.val + l.val, by omega⟩) := by
  pointwise [keysValues]
  rw [dif_pos (by omega)]
  exact congrArg (fun i => W (ix2 k i)) (Fin.ext (by dsimp only; omega))

/-- The values' columns. -/
theorem keysValues_values (W : FVec Ideal S256x1024 .f32) (k : Fin 256) (h : Fin 4) (l : Fin 128) :
    (keysValues W (ix2 k ⟨512 + 128 * h.val + l.val, by omega⟩) : EReal) = W (ix2 k ⟨256 * h.val + (128 + l.val), by omega⟩) := by
  pointwise [keysValues]
  rw [dif_neg (by omega)]
  exact congrArg (fun i => W (ix2 k i)) (Fin.ext (by dsimp only; omega))

end Cert.Pre

end
-- ==== Proof.PreValue.lean ====
/- The result arrays of the projections' program as functions of its argument arrays. -/
module

public import proofs.«01_k».proof.Proof.Gen.Kernel3Ideal.Value
public import proofs.«01_k».proof.Proof.PreHost

@[expose] public section

set_option maxRecDepth 16384

noncomputable section

namespace Cert.Pre

open Cert.Kernel3Ideal Cert.Kernel3Ideal.Gen Idealize.ShloMosaic Idealize.ShloMosaic.TcCoe Idealize.SL.Sem

/-- The index maps of the windows over whole arrays. -/
theorem index_fixed : ∀ t : Fin cfg0.N, ∀ a : Fin 2, win0_2.index t a = 0 ∧ win0_3.index t a = 0 ∧ win0_4.index t a = 0
    ∧ win0_5.index t a = 0 ∧ win0_6.index t a = 0 ∧ win0_7.index t a = 0 :=
  (by decide +kernel : ∀ t : Fin grid0.N, ∀ a : Fin 2, _)

/-- The index maps of the windows over the tokens, the modulation, the cosines and the sines. -/
theorem index_moving : ∀ t : Fin cfg0.N, (win0_0.index t (0 : Fin 3) = t.val / 16 ∧ win0_0.index t (1 : Fin 3) = t.val % 16
      ∧ win0_0.index t (2 : Fin 3) = 0) ∧ (win0_1.index t (0 : Fin 3) = t.val / 16 ∧ win0_1.index t (1 : Fin 3) = 0
      ∧ win0_1.index t (2 : Fin 3) = 0) ∧ (win0_8.index t (0 : Fin 2) = t.val % 16 ∧ win0_8.index t (1 : Fin 2) = 0)
    ∧ (win0_9.index t (0 : Fin 2) = t.val % 16 ∧ win0_9.index t (1 : Fin 2) = 0) :=
  (by decide +kernel : ∀ t : Fin grid0.N, _)

/-- The index maps of the result windows. -/
theorem index_results : ∀ t : Fin cfg0.N, ∀ a : Fin 4, win0_10.index t a = ![t.val / 16, 0, t.val % 16, 0] a
    ∧ win0_11.index t a = ![t.val / 16, 0, t.val % 16, 0] a ∧ win0_12.index t a = ![t.val / 16, 0, t.val % 16, 0] a
    ∧ win0_13.index t a = ![t.val / 16, 0, t.val % 16, 0] a ∧ win0_14.index t a = ![t.val / 16, 0, t.val % 16, 0] a
    ∧ win0_15.index t a = ![t.val / 16, 0, t.val % 16, 0] a :=
  (by decide +kernel : ∀ t : Fin grid0.N, ∀ a : Fin 4, _)

/-- A grid point is below 128. -/
theorem point_lt (t : Fin cfg0.N) : t.val < 128 := lt_of_lt_of_eq t.isLt N_0

/-- The batch of a grid point. -/
abbrev ptB (t : Fin cfg0.N) : Fin 8 := ⟨t.val / 16, by have := point_lt t; omega⟩
/-- The block of rows of a grid point. -/
abbrev ptN (t : Fin cfg0.N) : Fin 16 := ⟨t.val % 16, by omega⟩

/-- Row `r` of the block of rows `n`. -/
abbrev rowOf (n : Fin 16) (r : Fin 512) : Fin 8192 := ⟨512 * n.val + r.val, by omega⟩

/-- The rows `n` of batch `b`. -/
def rowsBlk (X : Vec Ideal S8x8192x1024 .f32) (b : Fin 8) (n : Fin 16) : Vec Ideal S1x512x1024 .f32 := fun y =>
  X (ix3 b (rowOf n (y 1)) (y 2))

/-- The modulation of batch `b`. -/
def modBlk (M : Vec Ideal S8x6x1024 .f32) (b : Fin 8) : Vec Ideal S1x6x1024 .f32 := fun y => M (ix3 b (y 1) (y 2))

/-- The rows `n` of the cosines or the sines. -/
def turnBlk (C : Vec Ideal S8192x128 .f32) (n : Fin 16) : Vec Ideal S512x128 .f32 := fun y => C (ix2 (rowOf n (y 0)) (y 1))

/-- An array of two tiles of lanes out of its blocks. -/
def wideArr (T : Fin 8 → Fin 16 → Vec Ideal S1x4x512x256 .bf16) : Vec Ideal S8x4x8192x256 .bf16 := fun i =>
  have h2 : (i 2).val < 8192 := (i 2).isLt
  T (i 0) ⟨(i 2).val / 512, by omega⟩ (ix4 0 (i 1) ⟨(i 2).val % 512, by omega⟩ (i 3))

/-- An array of one tile of lanes out of its blocks. -/
def narrowArr (T : Fin 8 → Fin 16 → Vec Ideal S1x4x512x128 .bf16) : Vec Ideal S8x4x8192x128 .bf16 := fun i =>
  have h2 : (i 2).val < 8192 := (i 2).isLt
  T (i 0) ⟨(i 2).val / 512, by omega⟩ (ix4 0 (i 1) ⟨(i 2).val % 512, by omega⟩ (i 3))

/-- The first array at an index of a block. -/
theorem wideArr_blk (T : Fin 8 → Fin 16 → Vec Ideal S1x4x512x256 .bf16) (b : Fin 8) (n : Fin 16) (h : Fin 4) (r : Fin 512) (l : Fin 256) :
    wideArr T (ix4 b h (rowOf n r) l) = T b n (ix4 0 h r l) := by
  have e3 : (⟨(512 * n.val + r.val) / 512, by omega⟩ : Fin 16) = n := Fin.ext (by show (512 * n.val + r.val) / 512 = n.val; omega)
  have e4 : (⟨(512 * n.val + r.val) % 512, by omega⟩ : Fin 512) = r := Fin.ext (by show (512 * n.val + r.val) % 512 = r.val; omega)
  show T b ⟨(512 * n.val + r.val) / 512, _⟩ (ix4 0 h ⟨(512 * n.val + r.val) % 512, _⟩ l) = _
  rw [e3, e4]

/-- The second array at an index of a block. -/
theorem narrowArr_blk (T : Fin 8 → Fin 16 → Vec Ideal S1x4x512x128 .bf16) (b : Fin 8) (n : Fin 16) (h : Fin 4) (r : Fin 512) (l : Fin 128) :
    narrowArr T (ix4 b h (rowOf n r) l) = T b n (ix4 0 h r l) := by
  have e3 : (⟨(512 * n.val + r.val) / 512, by omega⟩ : Fin 16) = n := Fin.ext (by show (512 * n.val + r.val) / 512 = n.val; omega)
  have e4 : (⟨(512 * n.val + r.val) % 512, by omega⟩ : Fin 512) = r := Fin.ext (by show (512 * n.val + r.val) % 512 = r.val; omega)
  show T b ⟨(512 * n.val + r.val) / 512, _⟩ (ix4 0 h ⟨(512 * n.val + r.val) % 512, _⟩ l) = _
  rw [e3, e4]

/-- An index of a one-batch block has batch nought. -/
theorem first_zero {a b c : ℕ} (y : (⟨4, ![1, a, b, c]⟩ : Shape).Idx) : (ix4 0 (y 1) (y 2) (y 3) : (⟨4, ![1, a, b, c]⟩ : Shape).Idx) = y := by
  funext i
  match i with
  | ⟨0, _⟩ => exact Fin.ext (by show 0 = (y 0).val; have h : (y 0).val < 1 := (y 0).isLt; omega)
  | ⟨1, _⟩ => rfl
  | ⟨2, _⟩ => rfl
  | ⟨3, _⟩ => rfl

variable (m : (ℓ : Loc nD τ sig) → Buf (Elt Ideal) ℓ) (ρ : Dev nD → PrngReg)

/-! ## The blocks read at a grid point -/

/-- The tokens. -/
theorem iblk0_eq (c : Dev nD) (t : Fin cfg0.N) : iblk m c 0 t = rowsBlk (V m c main_arg0) (ptB t) (ptN t) := by
  obtain ⟨⟨e0, e1, e2⟩, _⟩ := index_moving t
  funext y
  show V m c main_arg0 (((cfg0.win 0).blk t).view.emb y) = V m c main_arg0 (ix3 _ _ _)
  congr 1
  funext a; apply Fin.ext
  match a with
  | ⟨0, _⟩ => show win0_0.index t (0 : Fin 3) * 1 + 1 * (y 0).val = t.val / 16; have h : (y 0).val < 1 := (y 0).isLt; omega
  | ⟨1, _⟩ => show win0_0.index t (1 : Fin 3) * 512 + 1 * (y 1).val = 512 * (t.val % 16) + (y 1).val; omega
  | ⟨2, _⟩ => show win0_0.index t (2 : Fin 3) * 1024 + 1 * (y 2).val = (y 2).val; omega

/-- The modulation. -/
theorem iblk1_eq (c : Dev nD) (t : Fin cfg0.N) : iblk m c 1 t = modBlk (V m c main_arg1) (ptB t) := by
  obtain ⟨_, ⟨e0, e1, e2⟩, _⟩ := index_moving t
  funext y
  show V m c main_arg1 (((cfg0.win 1).blk t).view.emb y) = V m c main_arg1 (ix3 _ _ _)
  congr 1
  funext a; apply Fin.ext
  match a with
  | ⟨0, _⟩ => show win0_1.index t (0 : Fin 3) * 1 + 1 * (y 0).val = t.val / 16; have h : (y 0).val < 1 := (y 0).isLt; omega
  | ⟨1, _⟩ => show win0_1.index t (1 : Fin 3) * 6 + 1 * (y 1).val = (y 1).val; omega
  | ⟨2, _⟩ => show win0_1.index t (2 : Fin 3) * 1024 + 1 * (y 2).val = (y 2).val; omega

/-- The tokens' gain. -/
theorem iblk2_eq (c : Dev nD) (t : Fin cfg0.N) : iblk m c 2 t = V m c main_arg2 := by
  have e := index_fixed t
  funext y
  show V m c main_arg2 (((cfg0.win 2).blk t).view.emb y) = V m c main_arg2 y
  congr 1
  funext a; apply Fin.ext
  match a with
  | ⟨0, _⟩ => show win0_2.index t (0 : Fin 2) * 1 + 1 * (y 0).val = (y 0).val; have := e 0; omega
  | ⟨1, _⟩ => show win0_2.index t (1 : Fin 2) * 1024 + 1 * (y 1).val = (y 1).val; have := e 1; omega

/-- The columns. -/
theorem iblk3_eq (c : Dev nD) (t : Fin cfg0.N) : iblk m c 3 t = V m c main_v14 := by
  have e := index_fixed t
  funext y
  show V m c main_v14 (((cfg0.win 3).blk t).view.emb y) = V m c main_v14 y
  congr 1
  funext a; apply Fin.ext
  match a with
  | ⟨0, _⟩ => show win0_3.index t (0 : Fin 2) * 1024 + 1 * (y 0).val = (y 0).val; have := e 0; omega
  | ⟨1, _⟩ => show win0_3.index t (1 : Fin 2) * 2176 + 1 * (y 1).val = (y 1).val; have := e 1; omega

/-- The queries' gain. -/
theorem iblk4_eq (c : Dev nD) (t : Fin cfg0.N) : iblk m c 4 t = V m c main_arg4 := by
  have e := index_fixed t
  funext y
  show V m c main_arg4 (((cfg0.win 4).blk t).view.emb y) = V m c main_arg4 y
  congr 1
  funext a; apply Fin.ext
  match a with
  | ⟨0, _⟩ => show win0_4.index t (0 : Fin 2) * 1 + 1 * (y 0).val = (y 0).val; have := e 0; omega
  | ⟨1, _⟩ => show win0_4.index t (1 : Fin 2) * 256 + 1 * (y 1).val = (y 1).val; have := e 1; omega

/-- The queries' matrix. -/
theorem iblk5_eq (c : Dev nD) (t : Fin cfg0.N) : iblk m c 5 t = V m c main_v22 := by
  have e := index_fixed t
  funext y
  show V m c main_v22 (((cfg0.win 5).blk t).view.emb y) = V m c main_v22 y
  congr 1
  funext a; apply Fin.ext
  match a with
  | ⟨0, _⟩ => show win0_5.index t (0 : Fin 2) * 256 + 1 * (y 0).val = (y 0).val; have := e 0; omega
  | ⟨1, _⟩ => show win0_5.index t (1 : Fin 2) * 1024 + 1 * (y 1).val = (y 1).val; have := e 1; omega

/-- The keys' and values' gain. -/
theorem iblk6_eq (c : Dev nD) (t : Fin cfg0.N) : iblk m c 6 t = V m c main_arg6 := by
  have e := index_fixed t
  funext y
  show V m c main_arg6 (((cfg0.win 6).blk t).view.emb y) = V m c main_arg6 y
  congr 1
  funext a; apply Fin.ext
  match a with
  | ⟨0, _⟩ => show win0_6.index t (0 : Fin 2) * 1 + 1 * (y 0).val = (y 0).val; have := e 0; omega
  | ⟨1, _⟩ => show win0_6.index t (1 : Fin 2) * 256 + 1 * (y 1).val = (y 1).val; have := e 1; omega

/-- The keys' and values' matrix. -/
theorem iblk7_eq (c : Dev nD) (t : Fin cfg0.N) : iblk m c 7 t = V m c main_v29 := by
  have e := index_fixed t
  funext y
  show V m c main_v29 (((cfg0.win 7).blk t).view.emb y) = V m c main_v29 y
  congr 1
  funext a; apply Fin.ext
  match a with
  | ⟨0, _⟩ => show win0_7.index t (0 : Fin 2) * 256 + 1 * (y 0).val = (y 0).val; have := e 0; omega
  | ⟨1, _⟩ => show win0_7.index t (1 : Fin 2) * 1024 + 1 * (y 1).val = (y 1).val; have := e 1; omega

/-- The cosines. -/
theorem iblk8_eq (c : Dev nD) (t : Fin cfg0.N) : iblk m c 8 t = turnBlk (V m c main_v3) (ptN t) := by
  obtain ⟨_, _, ⟨e0, e1⟩, _⟩ := index_moving t
  funext y
  show V m c main_v3 (((cfg0.win 8).blk t).view.emb y) = V m c main_v3 (ix2 _ _)
  congr 1
  funext a; apply Fin.ext
  match a with
  | ⟨0, _⟩ => show win0_8.index t (0 : Fin 2) * 512 + 1 * (y 0).val = 512 * (t.val % 16) + (y 0).val; omega
  | ⟨1, _⟩ => show win0_8.index t (1 : Fin 2) * 128 + 1 * (y 1).val = (y 1).val; omega

/-- The sines. -/
theorem iblk9_eq (c : Dev nD) (t : Fin cfg0.N) : iblk m c 9 t = turnBlk (V m c main_v8) (ptN t) := by
  obtain ⟨_, _, _, ⟨e0, e1⟩⟩ := index_moving t
  funext y
  show V m c main_v8 (((cfg0.win 9).blk t).view.emb y) = V m c main_v8 (ix2 _ _)
  congr 1
  funext a; apply Fin.ext
  match a with
  | ⟨0, _⟩ => show win0_9.index t (0 : Fin 2) * 512 + 1 * (y 0).val = 512 * (t.val % 16) + (y 0).val; omega
  | ⟨1, _⟩ => show win0_9.index t (1 : Fin 2) * 128 + 1 * (y 1).val = (y 1).val; omega

/-- Any function of the blocks read at a grid point. -/
theorem blocks_eq {α : Type} (c : Dev nD) (t : Fin cfg0.N) (f : Vec Ideal S1x512x1024 .f32 → Vec Ideal S1x6x1024 .f32 → Vec Ideal S1x1024 .f32
      → Vec Ideal S1024x2176 .bf16 → Vec Ideal S1x256 .f32 → Vec Ideal S256x1024 .bf16 → Vec Ideal S1x256 .f32 → Vec Ideal S256x1024 .bf16
      → Vec Ideal S512x128 .f32 → Vec Ideal S512x128 .f32 → α) :
    f (iblk m c 0 t) (iblk m c 1 t) (iblk m c 2 t) (iblk m c 3 t) (iblk m c 4 t) (iblk m c 5 t) (iblk m c 6 t) (iblk m c 7 t)
        (iblk m c 8 t) (iblk m c 9 t)
      = f (rowsBlk (V m c main_arg0) (ptB t) (ptN t)) (modBlk (V m c main_arg1) (ptB t)) (V m c main_arg2) (V m c main_v14)
        (V m c main_arg4) (V m c main_v22) (V m c main_arg6) (V m c main_v29) (turnBlk (V m c main_v3) (ptN t))
        (turnBlk (V m c main_v8) (ptN t)) := by
  rw [iblk0_eq, iblk1_eq, iblk2_eq, iblk3_eq, iblk4_eq, iblk5_eq, iblk6_eq, iblk7_eq, iblk8_eq, iblk9_eq]

/-! ## The arrays written back -/

/-- The index `y` of a result block of a grid point, in the result array. -/
abbrev placed {w : ℕ} (t : Fin cfg0.N) (y : (⟨4, ![1, 4, 512, w]⟩ : Shape).Idx) : (⟨4, ![8, 4, 8192, w]⟩ : Shape).Idx :=
  ix4 (ptB t) (y 1) (rowOf (ptN t) (y 2)) (y 3)

/-- The grid point whose block holds an index of a result array. -/
abbrev ptOf {w : ℕ} (i : (⟨4, ![8, 4, 8192, w]⟩ : Shape).Idx) : Fin cfg0.N :=
  ⟨16 * (i 0).val + (i 2).val / 512, by
    have h0 : (i 0).val < 8 := (i 0).isLt
    have h2 : (i 2).val < 8192 := (i 2).isLt
    show _ < grid0.N; rw [N_0]; omega⟩

/-- The index in that block. -/
abbrev idxOf {w : ℕ} (i : (⟨4, ![8, 4, 8192, w]⟩ : Shape).Idx) : (⟨4, ![1, 4, 512, w]⟩ : Shape).Idx :=
  ix4 0 (i 1) ⟨(i 2).val % 512, Nat.mod_lt _ (by omega)⟩ (i 3)

/-- It is there that the index lies. -/
theorem placed_of {w : ℕ} (i : (⟨4, ![8, 4, 8192, w]⟩ : Shape).Idx) : placed (ptOf i) (idxOf i) = i := by
  have h2 : (i 2).val < 8192 := (i 2).isLt
  funext a; apply Fin.ext
  match a with
  | ⟨0, _⟩ => show (16 * (i 0).val + (i 2).val / 512) / 16 = (i 0).val; omega
  | ⟨1, _⟩ => rfl
  | ⟨2, _⟩ => show 512 * ((16 * (i 0).val + (i 2).val / 512) % 16) + (i 2).val % 512 = (i 2).val; omega
  | ⟨3, _⟩ => rfl

/-- An index of a block of the queries of the first attention, in the array. -/
theorem emb10 (t : Fin cfg0.N) (y : S1x4x512x256.Idx) : ((cfg0.win 10).blk t).view.emb y = placed t y := by
  have e := index_results t
  funext a; apply Fin.ext
  match a with
  | ⟨0, _⟩ => show win0_10.index t (0 : Fin 4) * 1 + 1 * (y 0).val = t.val / 16; rw [(e 0).1]; have h : (y 0).val < 1 := (y 0).isLt; dsimp only [Matrix.cons_val]; omega
  | ⟨1, _⟩ => show win0_10.index t (1 : Fin 4) * 4 + 1 * (y 1).val = (y 1).val; rw [(e 1).1]; dsimp only [Matrix.cons_val]; omega
  | ⟨2, _⟩ => show win0_10.index t (2 : Fin 4) * 512 + 1 * (y 2).val = 512 * (t.val % 16) + (y 2).val; rw [(e 2).1]; dsimp only [Matrix.cons_val]; omega
  | ⟨3, _⟩ => show win0_10.index t (3 : Fin 4) * 256 + 1 * (y 3).val = (y 3).val; rw [(e 3).1]; dsimp only [Matrix.cons_val]; omega

/-- A block of the queries of the first attention. -/
def blk10 (c : Dev nD) (b : Fin 8) (n : Fin 16) : Vec Ideal S1x4x512x256 .bf16 :=
  out0_10 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the queries of the first attention. -/
theorem read10 (T : Fin 8 → Fin 16 → Vec Ideal S1x4x512x256 .bf16) (t : Fin cfg0.N) :
    ((cfg0.win 10).blk t).view.read (Elt Ideal) (wideArr T) = T (ptB t) (ptN t) := by
  funext y
  show wideArr T (((cfg0.win 10).blk t).view.emb y) = _
  rw [emb10]
  exact Eq.trans (wideArr_blk T (ptB t) (ptN t) (y 1) (y 2) (y 3)) (congrArg (T (ptB t) (ptN t)) (first_zero y))

/-- What a grid point writes back is its block of the queries of the first attention. -/
theorem flushed10_eq (c : Dev nD) (t : Fin cfg0.N) :
    (dats m 0 c).flushed 10 t = ((cfg0.win 10).blk t).view.read (Elt Ideal) (wideArr (blk10 m c)) := by
  refine Eq.trans ?_ (read10 (blk10 m c) t).symm
  refine (Value.flushed10 m c t).trans ?_
  exact blocks_eq m c t (out0_10 (F := Ideal))

/-- The array of the queries of the first attention after the run. -/
theorem final10 (c : Dev nD) : (dats m 0 c).arrAt 10 cfg0.N = wideArr (blk10 m c) :=
  (dats m 0 c).arrAt_eq_of_cover 10 (wideArr (blk10 m c)) (fun t _ => flushed10_eq m c t) fun i =>
    ⟨ptOf i, flush0_10 _, Eq.mp (congrArg (· ∈ ((cfg0.win 10).blk (ptOf i)).view.set) ((emb10 (ptOf i) (idxOf i)).trans (placed_of i)))
      (((cfg0.win 10).blk (ptOf i)).view.emb_mem_set (idxOf i : S1x4x512x256.Idx))⟩

/-- An index of a block of the keys of the first attention, in the array. -/
theorem emb11 (t : Fin cfg0.N) (y : S1x4x512x256.Idx) : ((cfg0.win 11).blk t).view.emb y = placed t y := by
  have e := index_results t
  funext a; apply Fin.ext
  match a with
  | ⟨0, _⟩ => show win0_11.index t (0 : Fin 4) * 1 + 1 * (y 0).val = t.val / 16; rw [(e 0).2.1]; have h : (y 0).val < 1 := (y 0).isLt; dsimp only [Matrix.cons_val]; omega
  | ⟨1, _⟩ => show win0_11.index t (1 : Fin 4) * 4 + 1 * (y 1).val = (y 1).val; rw [(e 1).2.1]; dsimp only [Matrix.cons_val]; omega
  | ⟨2, _⟩ => show win0_11.index t (2 : Fin 4) * 512 + 1 * (y 2).val = 512 * (t.val % 16) + (y 2).val; rw [(e 2).2.1]; dsimp only [Matrix.cons_val]; omega
  | ⟨3, _⟩ => show win0_11.index t (3 : Fin 4) * 256 + 1 * (y 3).val = (y 3).val; rw [(e 3).2.1]; dsimp only [Matrix.cons_val]; omega

/-- A block of the keys of the first attention. -/
def blk11 (c : Dev nD) (b : Fin 8) (n : Fin 16) : Vec Ideal S1x4x512x256 .bf16 :=
  out0_11 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the keys of the first attention. -/
theorem read11 (T : Fin 8 → Fin 16 → Vec Ideal S1x4x512x256 .bf16) (t : Fin cfg0.N) :
    ((cfg0.win 11).blk t).view.read (Elt Ideal) (wideArr T) = T (ptB t) (ptN t) := by
  funext y
  show wideArr T (((cfg0.win 11).blk t).view.emb y) = _
  rw [emb11]
  exact Eq.trans (wideArr_blk T (ptB t) (ptN t) (y 1) (y 2) (y 3)) (congrArg (T (ptB t) (ptN t)) (first_zero y))

/-- What a grid point writes back is its block of the keys of the first attention. -/
theorem flushed11_eq (c : Dev nD) (t : Fin cfg0.N) :
    (dats m 0 c).flushed 11 t = ((cfg0.win 11).blk t).view.read (Elt Ideal) (wideArr (blk11 m c)) := by
  refine Eq.trans ?_ (read11 (blk11 m c) t).symm
  refine (Value.flushed11 m c t).trans ?_
  exact blocks_eq m c t (out0_11 (F := Ideal))

/-- The array of the keys of the first attention after the run. -/
theorem final11 (c : Dev nD) : (dats m 0 c).arrAt 11 cfg0.N = wideArr (blk11 m c) :=
  (dats m 0 c).arrAt_eq_of_cover 11 (wideArr (blk11 m c)) (fun t _ => flushed11_eq m c t) fun i =>
    ⟨ptOf i, flush0_11 _, Eq.mp (congrArg (· ∈ ((cfg0.win 11).blk (ptOf i)).view.set) ((emb11 (ptOf i) (idxOf i)).trans (placed_of i)))
      (((cfg0.win 11).blk (ptOf i)).view.emb_mem_set (idxOf i : S1x4x512x256.Idx))⟩

/-- An index of a block of the values of the first attention, in the array. -/
theorem emb12 (t : Fin cfg0.N) (y : S1x4x512x128.Idx) : ((cfg0.win 12).blk t).view.emb y = placed t y := by
  have e := index_results t
  funext a; apply Fin.ext
  match a with
  | ⟨0, _⟩ => show win0_12.index t (0 : Fin 4) * 1 + 1 * (y 0).val = t.val / 16; rw [(e 0).2.2.1]; have h : (y 0).val < 1 := (y 0).isLt; dsimp only [Matrix.cons_val]; omega
  | ⟨1, _⟩ => show win0_12.index t (1 : Fin 4) * 4 + 1 * (y 1).val = (y 1).val; rw [(e 1).2.2.1]; dsimp only [Matrix.cons_val]; omega
  | ⟨2, _⟩ => show win0_12.index t (2 : Fin 4) * 512 + 1 * (y 2).val = 512 * (t.val % 16) + (y 2).val; rw [(e 2).2.2.1]; dsimp only [Matrix.cons_val]; omega
  | ⟨3, _⟩ => show win0_12.index t (3 : Fin 4) * 128 + 1 * (y 3).val = (y 3).val; rw [(e 3).2.2.1]; dsimp only [Matrix.cons_val]; omega

/-- A block of the values of the first attention. -/
def blk12 (c : Dev nD) (b : Fin 8) (n : Fin 16) : Vec Ideal S1x4x512x128 .bf16 :=
  out0_12 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the values of the first attention. -/
theorem read12 (T : Fin 8 → Fin 16 → Vec Ideal S1x4x512x128 .bf16) (t : Fin cfg0.N) :
    ((cfg0.win 12).blk t).view.read (Elt Ideal) (narrowArr T) = T (ptB t) (ptN t) := by
  funext y
  show narrowArr T (((cfg0.win 12).blk t).view.emb y) = _
  rw [emb12]
  exact Eq.trans (narrowArr_blk T (ptB t) (ptN t) (y 1) (y 2) (y 3)) (congrArg (T (ptB t) (ptN t)) (first_zero y))

/-- What a grid point writes back is its block of the values of the first attention. -/
theorem flushed12_eq (c : Dev nD) (t : Fin cfg0.N) :
    (dats m 0 c).flushed 12 t = ((cfg0.win 12).blk t).view.read (Elt Ideal) (narrowArr (blk12 m c)) := by
  refine Eq.trans ?_ (read12 (blk12 m c) t).symm
  refine (Value.flushed12 m c t).trans ?_
  exact blocks_eq m c t (out0_12 (F := Ideal))

/-- The array of the values of the first attention after the run. -/
theorem final12 (c : Dev nD) : (dats m 0 c).arrAt 12 cfg0.N = narrowArr (blk12 m c) :=
  (dats m 0 c).arrAt_eq_of_cover 12 (narrowArr (blk12 m c)) (fun t _ => flushed12_eq m c t) fun i =>
    ⟨ptOf i, flush0_12 _, Eq.mp (congrArg (· ∈ ((cfg0.win 12).blk (ptOf i)).view.set) ((emb12 (ptOf i) (idxOf i)).trans (placed_of i)))
      (((cfg0.win 12).blk (ptOf i)).view.emb_mem_set (idxOf i : S1x4x512x128.Idx))⟩

/-- An index of a block of the queries of the second attention, in the array. -/
theorem emb13 (t : Fin cfg0.N) (y : S1x4x512x128.Idx) : ((cfg0.win 13).blk t).view.emb y = placed t y := by
  have e := index_results t
  funext a; apply Fin.ext
  match a with
  | ⟨0, _⟩ => show win0_13.index t (0 : Fin 4) * 1 + 1 * (y 0).val = t.val / 16; rw [(e 0).2.2.2.1]; have h : (y 0).val < 1 := (y 0).isLt; dsimp only [Matrix.cons_val]; omega
  | ⟨1, _⟩ => show win0_13.index t (1 : Fin 4) * 4 + 1 * (y 1).val = (y 1).val; rw [(e 1).2.2.2.1]; dsimp only [Matrix.cons_val]; omega
  | ⟨2, _⟩ => show win0_13.index t (2 : Fin 4) * 512 + 1 * (y 2).val = 512 * (t.val % 16) + (y 2).val; rw [(e 2).2.2.2.1]; dsimp only [Matrix.cons_val]; omega
  | ⟨3, _⟩ => show win0_13.index t (3 : Fin 4) * 128 + 1 * (y 3).val = (y 3).val; rw [(e 3).2.2.2.1]; dsimp only [Matrix.cons_val]; omega

/-- A block of the queries of the second attention. -/
def blk13 (c : Dev nD) (b : Fin 8) (n : Fin 16) : Vec Ideal S1x4x512x128 .bf16 :=
  out0_13 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the queries of the second attention. -/
theorem read13 (T : Fin 8 → Fin 16 → Vec Ideal S1x4x512x128 .bf16) (t : Fin cfg0.N) :
    ((cfg0.win 13).blk t).view.read (Elt Ideal) (narrowArr T) = T (ptB t) (ptN t) := by
  funext y
  show narrowArr T (((cfg0.win 13).blk t).view.emb y) = _
  rw [emb13]
  exact Eq.trans (narrowArr_blk T (ptB t) (ptN t) (y 1) (y 2) (y 3)) (congrArg (T (ptB t) (ptN t)) (first_zero y))

/-- What a grid point writes back is its block of the queries of the second attention. -/
theorem flushed13_eq (c : Dev nD) (t : Fin cfg0.N) :
    (dats m 0 c).flushed 13 t = ((cfg0.win 13).blk t).view.read (Elt Ideal) (narrowArr (blk13 m c)) := by
  refine Eq.trans ?_ (read13 (blk13 m c) t).symm
  refine (Value.flushed13 m c t).trans ?_
  exact blocks_eq m c t (out0_13 (F := Ideal))

/-- The array of the queries of the second attention after the run. -/
theorem final13 (c : Dev nD) : (dats m 0 c).arrAt 13 cfg0.N = narrowArr (blk13 m c) :=
  (dats m 0 c).arrAt_eq_of_cover 13 (narrowArr (blk13 m c)) (fun t _ => flushed13_eq m c t) fun i =>
    ⟨ptOf i, flush0_13 _, Eq.mp (congrArg (· ∈ ((cfg0.win 13).blk (ptOf i)).view.set) ((emb13 (ptOf i) (idxOf i)).trans (placed_of i)))
      (((cfg0.win 13).blk (ptOf i)).view.emb_mem_set (idxOf i : S1x4x512x128.Idx))⟩

/-- An index of a block of the keys of the second attention, in the array. -/
theorem emb14 (t : Fin cfg0.N) (y : S1x4x512x128.Idx) : ((cfg0.win 14).blk t).view.emb y = placed t y := by
  have e := index_results t
  funext a; apply Fin.ext
  match a with
  | ⟨0, _⟩ => show win0_14.index t (0 : Fin 4) * 1 + 1 * (y 0).val = t.val / 16; rw [(e 0).2.2.2.2.1]; have h : (y 0).val < 1 := (y 0).isLt; dsimp only [Matrix.cons_val]; omega
  | ⟨1, _⟩ => show win0_14.index t (1 : Fin 4) * 4 + 1 * (y 1).val = (y 1).val; rw [(e 1).2.2.2.2.1]; dsimp only [Matrix.cons_val]; omega
  | ⟨2, _⟩ => show win0_14.index t (2 : Fin 4) * 512 + 1 * (y 2).val = 512 * (t.val % 16) + (y 2).val; rw [(e 2).2.2.2.2.1]; dsimp only [Matrix.cons_val]; omega
  | ⟨3, _⟩ => show win0_14.index t (3 : Fin 4) * 128 + 1 * (y 3).val = (y 3).val; rw [(e 3).2.2.2.2.1]; dsimp only [Matrix.cons_val]; omega

/-- A block of the keys of the second attention. -/
def blk14 (c : Dev nD) (b : Fin 8) (n : Fin 16) : Vec Ideal S1x4x512x128 .bf16 :=
  out0_14 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the keys of the second attention. -/
theorem read14 (T : Fin 8 → Fin 16 → Vec Ideal S1x4x512x128 .bf16) (t : Fin cfg0.N) :
    ((cfg0.win 14).blk t).view.read (Elt Ideal) (narrowArr T) = T (ptB t) (ptN t) := by
  funext y
  show narrowArr T (((cfg0.win 14).blk t).view.emb y) = _
  rw [emb14]
  exact Eq.trans (narrowArr_blk T (ptB t) (ptN t) (y 1) (y 2) (y 3)) (congrArg (T (ptB t) (ptN t)) (first_zero y))

/-- What a grid point writes back is its block of the keys of the second attention. -/
theorem flushed14_eq (c : Dev nD) (t : Fin cfg0.N) :
    (dats m 0 c).flushed 14 t = ((cfg0.win 14).blk t).view.read (Elt Ideal) (narrowArr (blk14 m c)) := by
  refine Eq.trans ?_ (read14 (blk14 m c) t).symm
  refine (Value.flushed14 m c t).trans ?_
  exact blocks_eq m c t (out0_14 (F := Ideal))

/-- The array of the keys of the second attention after the run. -/
theorem final14 (c : Dev nD) : (dats m 0 c).arrAt 14 cfg0.N = narrowArr (blk14 m c) :=
  (dats m 0 c).arrAt_eq_of_cover 14 (narrowArr (blk14 m c)) (fun t _ => flushed14_eq m c t) fun i =>
    ⟨ptOf i, flush0_14 _, Eq.mp (congrArg (· ∈ ((cfg0.win 14).blk (ptOf i)).view.set) ((emb14 (ptOf i) (idxOf i)).trans (placed_of i)))
      (((cfg0.win 14).blk (ptOf i)).view.emb_mem_set (idxOf i : S1x4x512x128.Idx))⟩

/-- An index of a block of the values of the second attention, in the array. -/
theorem emb15 (t : Fin cfg0.N) (y : S1x4x512x128.Idx) : ((cfg0.win 15).blk t).view.emb y = placed t y := by
  have e := index_results t
  funext a; apply Fin.ext
  match a with
  | ⟨0, _⟩ => show win0_15.index t (0 : Fin 4) * 1 + 1 * (y 0).val = t.val / 16; rw [(e 0).2.2.2.2.2]; have h : (y 0).val < 1 := (y 0).isLt; dsimp only [Matrix.cons_val]; omega
  | ⟨1, _⟩ => show win0_15.index t (1 : Fin 4) * 4 + 1 * (y 1).val = (y 1).val; rw [(e 1).2.2.2.2.2]; dsimp only [Matrix.cons_val]; omega
  | ⟨2, _⟩ => show win0_15.index t (2 : Fin 4) * 512 + 1 * (y 2).val = 512 * (t.val % 16) + (y 2).val; rw [(e 2).2.2.2.2.2]; dsimp only [Matrix.cons_val]; omega
  | ⟨3, _⟩ => show win0_15.index t (3 : Fin 4) * 128 + 1 * (y 3).val = (y 3).val; rw [(e 3).2.2.2.2.2]; dsimp only [Matrix.cons_val]; omega

/-- A block of the values of the second attention. -/
def blk15 (c : Dev nD) (b : Fin 8) (n : Fin 16) : Vec Ideal S1x4x512x128 .bf16 :=
  out0_15 (F := Ideal) (rowsBlk (V m c main_arg0) b n) (modBlk (V m c main_arg1) b) (V m c main_arg2) (V m c main_v14)
    (V m c main_arg4) (V m c main_v22) (V m c main_arg6) (V m c main_v29) (turnBlk (V m c main_v3) n) (turnBlk (V m c main_v8) n)

/-- An array out of blocks, read through the window of the values of the second attention. -/
theorem read15 (T : Fin 8 → Fin 16 → Vec Ideal S1x4x512x128 .bf16) (t : Fin cfg0.N) :
    ((cfg0.win 15).blk t).view.read (Elt Ideal) (narrowArr T) = T (ptB t) (ptN t) := by
  funext y
  show narrowArr T (((cfg0.win 15).blk t).view.emb y) = _
  rw [emb15]
  exact Eq.trans (narrowArr_blk T (ptB t) (ptN t) (y 1) (y 2) (y 3)) (congrArg (T (ptB t) (ptN t)) (first_zero y))

/-- What a grid point writes back is its block of the values of the second attention. -/
theorem flushed15_eq (c : Dev nD) (t : Fin cfg0.N) :
    (dats m 0 c).flushed 15 t = ((cfg0.win 15).blk t).view.read (Elt Ideal) (narrowArr (blk15 m c)) := by
  refine Eq.trans ?_ (read15 (blk15 m c) t).symm
  refine (Value.flushed15 m c t).trans ?_
  exact blocks_eq m c t (out0_15 (F := Ideal))

/-- The array of the values of the second attention after the run. -/
theorem final15 (c : Dev nD) : (dats m 0 c).arrAt 15 cfg0.N = narrowArr (blk15 m c) :=
  (dats m 0 c).arrAt_eq_of_cover 15 (narrowArr (blk15 m c)) (fun t _ => flushed15_eq m c t) fun i =>
    ⟨ptOf i, flush0_15 _, Eq.mp (congrArg (· ∈ ((cfg0.win 15).blk (ptOf i)).view.set) ((emb15 (ptOf i) (idxOf i)).trans (placed_of i)))
      (((cfg0.win 15).blk (ptOf i)).view.emb_mem_set (idxOf i : S1x4x512x128.Idx))⟩

/-- The run of the program, with its result arrays named. -/
theorem run_whole : θ_run defs (onTc (τ := τ) (main (F := Ideal))) ⟨m, fun _ => 0, ρ⟩ fun r => ∀ c : Dev nD,
      r.2.mem ((c : Thread nD τ).loc main_v30_0) = wideArr (blk10 m c)
      ∧ r.2.mem ((c : Thread nD τ).loc main_v30_1) = wideArr (blk11 m c)
      ∧ r.2.mem ((c : Thread nD τ).loc main_v30_2) = narrowArr (blk12 m c)
      ∧ r.2.mem ((c : Thread nD τ).loc main_v30_3) = narrowArr (blk13 m c)
      ∧ r.2.mem ((c : Thread nD τ).loc main_v30_4) = narrowArr (blk14 m c)
      ∧ r.2.mem ((c : Thread nD τ).loc main_v30_5) = narrowArr (blk15 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final10 m c), (h c).2.1.trans (final11 m c), (h c).2.2.1.trans (final12 m c),
    (h c).2.2.2.1.trans (final13 m c), (h c).2.2.2.2.1.trans (final14 m c), (h c).2.2.2.2.2.1.trans (final15 m c), (h c).2.2.2.2.2.2⟩)
    (Value.run_blocks m ρ)

end Cert.Pre

end
-- ==== Proof.PreRef.lean ====
/- The third reference's results, read at an index. -/
module

public import proofs.«01_k».proof.Proof.Gen.Reference3Ideal.Run
public import proofs.«01_k».proof.Proof.PreBlock

@[expose] public section

set_option maxRecDepth 16384

noncomputable section

namespace Cert.PreRef

open Idealize.ShloMosaic Idealize.ShloMosaic.TcCoe Idealize.SL.Sem
open Cert.Reference3Ideal Cert.Reference3Ideal.Gen
open Cert.Pre (modulated gained zrow urow)

/-- The tokens divided by their root mean square, times the gain, then scaled and shifted. -/
def hArr (X : FVec Ideal S8x8192x1024 .f32) (M : FVec Ideal S8x6x1024 .f32) (G : FVec Ideal S1x1024 .f32) : FVec Ideal S8x8192x1024 .f32 :=
  addf (mulf (mulf (mulf X (broadcastInDim S8x8192x1024 ![0, 1, 2] bcast_S8x8192x1_S8x8192x1024_0_1_2
      (Host.rsqrt (addf (Host.divf (broadcastInDim S8x8192x1 ![0, 1] bcast_S8x8192_S8x8192x1_0_1
        (Host.reduceAdd (mulf X X) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![1, 2] bcast_S1x1024_S1x1x1024_1_2 G)))
    (broadcastInDim S8x8192x1024 ![0, 1, 2] bcast_S8x1x1024_S8x8192x1024_0_1_2
      (addf (broadcastInDim S8x1x1024 ![] bcast_S_S8x1x1024 (constant S_ .f32 0x3F800000#32))
        (extractStridedSlice S8x1x1024 ![0, 1, 0] M slices_S8x6x1024_S8x1x1024_0_1_0))))
    (broadcastInDim S8x8192x1024 ![0, 1, 2] bcast_S8x1x1024_S8x8192x1024_0_1_2
      (extractStridedSlice S8x1x1024 ![0, 0, 0] M slices_S8x6x1024_S8x1x1024_0_0_0))

/-- The first product. -/
def zArr (H : FVec Ideal S8x8192x1024 .f32) (W : FVec Ideal S1024x2112 .f32) : FVec Ideal S8x8192x2112 .f32 :=
  Host.dotGeneral (φ₁ := .f32) (φ₂ := .f32) dot_S8x8192x1024_S1024x2112_S8x8192x2112_2_0_01_1_n_n none H W

/-- Rows divided by their root mean square, times the gain. -/
def unitArr (Z : FVec Ideal S8x8192x256 .f32) (G : FVec Ideal S1x256 .f32) : FVec Ideal S8x8192x256 .f32 :=
  mulf (mulf Z (broadcastInDim S8x8192x256 ![0, 1, 2] bcast_S8x8192x1_S8x8192x256_0_1_2
      (Host.rsqrt (addf (Host.divf (broadcastInDim S8x8192x1 ![0, 1] bcast_S8x8192_S8x8192x1_0_1
        (Host.reduceAdd (mulf Z Z) (constant S_ .f32 0x00000000#32) reducesTo_S8x8192x256_S8x8192_d2 h_S_))
        (broadcastInDim S8x8192x1 ![] bcast_S_S8x8192x1 (constant S_ .f32 0x43800000#32)))
        (broadcastInDim S8x8192x1 ![] bcast_S_S8x8192x1 (constant S_ .f32 0x358637BD#32))))))
    (broadcastInDim S8x8192x256 ![0, 1, 2] bcast_S1x1x256_S8x8192x256_0_1_2
      (broadcastInDim S1x1x256 ![1, 2] bcast_S1x256_S1x1x256_1_2 G))

/-- The queries' product. -/
def qArr (Z : FVec Ideal S8x8192x2112 .f32) (G : FVec Ideal S1x256 .f32) (W : FVec Ideal S256x768 .f32) : FVec Ideal S8x8192x768 .f32 :=
  Host.dotGeneral (φ₁ := .f32) (φ₂ := .f32) dot_S8x8192x256_S256x768_S8x8192x768_2_0_01_1_n_n none
    (unitArr (extractStridedSlice S8x8192x256 ![0, 0, 0] Z slices_S8x8192x2112_S8x8192x256_0_0_0) G) W

/-- The keys' and values' product. -/
def kvArr (Z : FVec Ideal S8x8192x2112 .f32) (G : FVec Ideal S1x256 .f32) (W : FVec Ideal S256x1024 .f32) : FVec Ideal S8x8192x1024 .f32 :=
  Host.dotGeneral (φ₁ := .f32) (φ₂ := .f32) dot_S8x8192x256_S256x1024_S8x8192x1024_2_0_01_1_n_n none
    (unitArr (extractStridedSlice S8x8192x256 ![0, 0, 256] Z slices_S8x8192x2112_S8x8192x256_0_0_256) G) W

/-- Each head turned. -/
def turn4 (X : FVec Ideal S8x8192x4x64 .f32) (C S : FVec Ideal S8192x32 .f32) : FVec Ideal S8x8192x4x64 .f32 :=
  concatenate S8x8192x4x64 3 [⟨S8x8192x4x32, subf
      (mulf (extractStridedSlice S8x8192x4x32 ![0, 0, 0, 0] X slices_S8x8192x4x64_S8x8192x4x32_0_0_0_0) (broadcastInDim S8x8192x4x32 ![0, 1, 2, 3] bcast_S1x8192x1x32_S8x8192x4x32_0_1_2_3 (shapeCast S1x8192x1x32 C shapeCasts_S8192x32_S1x8192x1x32)))
      (mulf (extractStridedSlice S8x8192x4x32 ![0, 0, 0, 32] X slices_S8x8192x4x64_S8x8192x4x32_0_0_0_32) (broadcastInDim S8x8192x4x32 ![0, 1, 2, 3] bcast_S1x8192x1x32_S8x8192x4x32_0_1_2_3 (shapeCast S1x8192x1x32 S shapeCasts_S8192x32_S1x8192x1x32)))⟩,
    ⟨S8x8192x4x32, addf
      (mulf (extractStridedSlice S8x8192x4x32 ![0, 0, 0, 32] X slices_S8x8192x4x64_S8x8192x4x32_0_0_0_32) (broadcastInDim S8x8192x4x32 ![0, 1, 2, 3] bcast_S1x8192x1x32_S8x8192x4x32_0_1_2_3 (shapeCast S1x8192x1x32 C shapeCasts_S8192x32_S1x8192x1x32)))
      (mulf (extractStridedSlice S8x8192x4x32 ![0, 0, 0, 0] X slices_S8x8192x4x64_S8x8192x4x32_0_0_0_0) (broadcastInDim S8x8192x4x32 ![0, 1, 2, 3] bcast_S1x8192x1x32_S8x8192x4x32_0_1_2_3 (shapeCast S1x8192x1x32 S shapeCasts_S8192x32_S1x8192x1x32)))⟩]
    concatenates_S8x8192x4x32_S8x8192x4x32_S8x8192x4x64_d3

/-- The lanes the heads share, turned. -/
def turn1 (X : FVec Ideal S8x8192x1x64 .f32) (C S : FVec Ideal S8192x32 .f32) : FVec Ideal S8x8192x1x64 .f32 :=
  concatenate S8x8192x1x64 3 [⟨S8x8192x1x32, subf
      (mulf (extractStridedSlice S8x8192x1x32 ![0, 0, 0, 0] X slices_S8x8192x1x64_S8x8192x1x32_0_0_0_0) (broadcastInDim S8x8192x1x32 ![0, 1, 2, 3] bcast_S1x8192x1x32_S8x8192x1x32_0_1_2_3 (shapeCast S1x8192x1x32 C shapeCasts_S8192x32_S1x8192x1x32)))
      (mulf (extractStridedSlice S8x8192x1x32 ![0, 0, 0, 32] X slices_S8x8192x1x64_S8x8192x1x32_0_0_0_32) (broadcastInDim S8x8192x1x32 ![0, 1, 2, 3] bcast_S1x8192x1x32_S8x8192x1x32_0_1_2_3 (shapeCast S1x8192x1x32 S shapeCasts_S8192x32_S1x8192x1x32)))⟩,
    ⟨S8x8192x1x32, addf
      (mulf (extractStridedSlice S8x8192x1x32 ![0, 0, 0, 32] X slices_S8x8192x1x64_S8x8192x1x32_0_0_0_32) (broadcastInDim S8x8192x1x32 ![0, 1, 2, 3] bcast_S1x8192x1x32_S8x8192x1x32_0_1_2_3 (shapeCast S1x8192x1x32 C shapeCasts_S8192x32_S1x8192x1x32)))
      (mulf (extractStridedSlice S8x8192x1x32 ![0, 0, 0, 0] X slices_S8x8192x1x64_S8x8192x1x32_0_0_0_0) (broadcastInDim S8x8192x1x32 ![0, 1, 2, 3] bcast_S1x8192x1x32_S8x8192x1x32_0_1_2_3 (shapeCast S1x8192x1x32 S shapeCasts_S8192x32_S1x8192x1x32)))⟩]
    concatenates_S8x8192x1x32_S8x8192x1x32_S8x8192x1x64_d3

/-- Each half of each head turned. -/
def turn5 (X : FVec Ideal S8x8192x4x2x64 .f32) (C S : FVec Ideal S8192x32 .f32) : FVec Ideal S8x8192x4x2x64 .f32 :=
  concatenate S8x8192x4x2x64 4 [⟨S8x8192x4x2x32, subf
      (mulf (extractStridedSlice S8x8192x4x2x32 ![0, 0, 0, 0, 0] X slices_S8x8192x4x2x64_S8x8192x4x2x32_0_0_0_0_0) (broadcastInDim S8x8192x4x2x32 ![0, 1, 2, 3, 4] bcast_S1x8192x1x1x32_S8x8192x4x2x32_0_1_2_3_4 (shapeCast S1x8192x1x1x32 C shapeCasts_S8192x32_S1x8192x1x1x32)))
      (mulf (extractStridedSlice S8x8192x4x2x32 ![0, 0, 0, 0, 32] X slices_S8x8192x4x2x64_S8x8192x4x2x32_0_0_0_0_32) (broadcastInDim S8x8192x4x2x32 ![0, 1, 2, 3, 4] bcast_S1x8192x1x1x32_S8x8192x4x2x32_0_1_2_3_4 (shapeCast S1x8192x1x1x32 S shapeCasts_S8192x32_S1x8192x1x1x32)))⟩,
    ⟨S8x8192x4x2x32, addf
      (mulf (extractStridedSlice S8x8192x4x2x32 ![0, 0, 0, 0, 32] X slices_S8x8192x4x2x64_S8x8192x4x2x32_0_0_0_0_32) (broadcastInDim S8x8192x4x2x32 ![0, 1, 2, 3, 4] bcast_S1x8192x1x1x32_S8x8192x4x2x32_0_1_2_3_4 (shapeCast S1x8192x1x1x32 C shapeCasts_S8192x32_S1x8192x1x1x32)))
      (mulf (extractStridedSlice S8x8192x4x2x32 ![0, 0, 0, 0, 0] X slices_S8x8192x4x2x64_S8x8192x4x2x32_0_0_0_0_0) (broadcastInDim S8x8192x4x2x32 ![0, 1, 2, 3, 4] bcast_S1x8192x1x1x32_S8x8192x4x2x32_0_1_2_3_4 (shapeCast S1x8192x1x1x32 S shapeCasts_S8192x32_S1x8192x1x1x32)))⟩]
    concatenates_S8x8192x4x2x32_S8x8192x4x2x32_S8x8192x4x2x64_d4

/-- The lanes that fill a head. -/
def filling : FVec Ideal S8x8192x4x64 .f32 := broadcastInDim S8x8192x4x64 ![] bcast_S_S8x8192x4x64 (constant S_ .f32 0x00000000#32)

/-- The queries of the first attention. -/
def outQ (Q : FVec Ideal S8x8192x768 .f32) (C S : FVec Ideal S8192x32 .f32) : FVec Ideal S8x4x8192x256 .bf16 :=
  truncf .bf16 (transpose S8x4x8192x256 [0, 2, 1, 3] (mulf (concatenate S8x8192x4x256 3
    [⟨S8x8192x4x128, extractStridedSlice S8x8192x4x128 ![0, 0, 0, 0] (shapeCast S8x8192x4x192 Q shapeCasts_S8x8192x768_S8x8192x4x192)
      slices_S8x8192x4x192_S8x8192x4x128_0_0_0_0⟩,
     ⟨S8x8192x4x64, turn4 (extractStridedSlice S8x8192x4x64 ![0, 0, 0, 128] (shapeCast S8x8192x4x192 Q shapeCasts_S8x8192x768_S8x8192x4x192)
      slices_S8x8192x4x192_S8x8192x4x64_0_0_0_128) C S⟩, ⟨S8x8192x4x64, filling⟩]
    concatenates_S8x8192x4x128_S8x8192x4x64_S8x8192x4x64_S8x8192x4x256_d3)
    (broadcastInDim S8x8192x4x256 ![] bcast_S_S8x8192x4x256 (constant S_ .f32 0x3DD53B95#32)))
    transposes_S8x8192x4x256_S8x4x8192x256_0_2_1_3) bitsLt_bf16_f32

/-- The keys of the first attention. -/
def outK (Z : FVec Ideal S8x8192x2112 .f32) (KV : FVec Ideal S8x8192x1024 .f32) (C S : FVec Ideal S8192x32 .f32) : FVec Ideal S8x4x8192x256 .bf16 :=
  truncf .bf16 (transpose S8x4x8192x256 [0, 2, 1, 3] (concatenate S8x8192x4x256 3
    [⟨S8x8192x4x128, extractStridedSlice S8x8192x4x128 ![0, 0, 0, 0] (shapeCast S8x8192x4x256 KV shapeCasts_S8x8192x1024_S8x8192x4x256)
      slices_S8x8192x4x256_S8x8192x4x128_0_0_0_0⟩,
     ⟨S8x8192x4x64, broadcastInDim S8x8192x4x64 ![0, 1, 2, 3] bcast_S8x8192x1x64_S8x8192x4x64_0_1_2_3
      (turn1 (broadcastInDim S8x8192x1x64 ![0, 1, 3] bcast_S8x8192x64_S8x8192x1x64_0_1_3
        (extractStridedSlice S8x8192x64 ![0, 0, 512] Z slices_S8x8192x2112_S8x8192x64_0_0_512)) C S)⟩, ⟨S8x8192x4x64, filling⟩]
    concatenates_S8x8192x4x128_S8x8192x4x64_S8x8192x4x64_S8x8192x4x256_d3)
    transposes_S8x8192x4x256_S8x4x8192x256_0_2_1_3) bitsLt_bf16_f32

/-- The values of the first attention. -/
def outV (KV : FVec Ideal S8x8192x1024 .f32) : FVec Ideal S8x4x8192x128 .bf16 :=
  truncf .bf16 (transpose S8x4x8192x128 [0, 2, 1, 3] (extractStridedSlice S8x8192x4x128 ![0, 0, 0, 128]
    (shapeCast S8x8192x4x256 KV shapeCasts_S8x8192x1024_S8x8192x4x256) slices_S8x8192x4x256_S8x8192x4x128_0_0_0_128)
    transposes_S8x8192x4x128_S8x4x8192x128_0_2_1_3) bitsLt_bf16_f32

/-- The queries of the second attention. -/
def outDQ (Z : FVec Ideal S8x8192x2112 .f32) (C S : FVec Ideal S8192x32 .f32) : FVec Ideal S8x4x8192x128 .bf16 :=
  truncf .bf16 (transpose S8x4x8192x128 [0, 2, 1, 3] (mulf (shapeCast S8x8192x4x128 (turn5 (shapeCast S8x8192x4x2x64
    (extractStridedSlice S8x8192x512 ![0, 0, 576] Z slices_S8x8192x2112_S8x8192x512_0_0_576) shapeCasts_S8x8192x512_S8x8192x4x2x64) C S)
    shapeCasts_S8x8192x4x2x64_S8x8192x4x128) (broadcastInDim S8x8192x4x128 ![] bcast_S_S8x8192x4x128 (constant S_ .f32 0x3E38AA3B#32)))
    transposes_S8x8192x4x128_S8x4x8192x128_0_2_1_3) bitsLt_bf16_f32

/-- The keys of the second attention. -/
def outDK (Z : FVec Ideal S8x8192x2112 .f32) (C S : FVec Ideal S8192x32 .f32) : FVec Ideal S8x4x8192x128 .bf16 :=
  truncf .bf16 (transpose S8x4x8192x128 [0, 2, 1, 3] (shapeCast S8x8192x4x128 (turn5 (shapeCast S8x8192x4x2x64
    (extractStridedSlice S8x8192x512 ![0, 0, 1088] Z slices_S8x8192x2112_S8x8192x512_0_0_1088) shapeCasts_S8x8192x512_S8x8192x4x2x64) C S)
    shapeCasts_S8x8192x4x2x64_S8x8192x4x128) transposes_S8x8192x4x128_S8x4x8192x128_0_2_1_3) bitsLt_bf16_f32

/-- The values of the second attention. -/
def outDV (Z : FVec Ideal S8x8192x2112 .f32) : FVec Ideal S8x4x8192x128 .bf16 :=
  truncf .bf16 (transpose S8x4x8192x128 [0, 2, 1, 3] (shapeCast S8x8192x4x128
    (extractStridedSlice S8x8192x512 ![0, 0, 1600] Z slices_S8x8192x2112_S8x8192x512_0_0_1600) shapeCasts_S8x8192x512_S8x8192x4x128)
    transposes_S8x8192x4x128_S8x4x8192x128_0_2_1_3) bitsLt_bf16_f32

/-! ## The results are these -/

section Named

variable (m : (ℓ : Loc nD τ sig) → Buf (Elt Ideal) ℓ) (c : Dev nD)

/-- The first product of the arguments. -/
def zOf : FVec Ideal S8x8192x2112 .f32 :=
  zArr (hArr (m ((c.tc : Thread nD τ).loc main_arg0)) (m ((c.tc : Thread nD τ).loc main_arg1)) (m ((c.tc : Thread nD τ).loc main_arg2)))
    (m ((c.tc : Thread nD τ).loc main_arg3))

/-- The queries' product of the arguments. -/
def qOf : FVec Ideal S8x8192x768 .f32 := qArr (zOf m c) (m ((c.tc : Thread nD τ).loc main_arg4)) (m ((c.tc : Thread nD τ).loc main_arg5))

/-- The keys' and values' product of the arguments. -/
def kvOf : FVec Ideal S8x8192x1024 .f32 := kvArr (zOf m c) (m ((c.tc : Thread nD τ).loc main_arg6)) (m ((c.tc : Thread nD τ).loc main_arg7))

/-- The first result. -/
theorem res0_eq : Value.res_main_v137 m c = outQ (qOf m c) (m ((c.tc : Thread nD τ).loc main_arg8)) (m ((c.tc : Thread nD τ).loc main_arg9)) := rfl

/-- The second result. -/
theorem res1_eq : Value.res_main_v139 m c
    = outK (zOf m c) (kvOf m c) (m ((c.tc : Thread nD τ).loc main_arg8)) (m ((c.tc : Thread nD τ).loc main_arg9)) := rfl

/-- The third result. -/
theorem res2_eq : Value.res_main_v141 m c = outV (kvOf m c) := rfl

/-- The fourth result. -/
theorem res3_eq : Value.res_main_v143 m c = outDQ (zOf m c) (m ((c.tc : Thread nD τ).loc main_arg8)) (m ((c.tc : Thread nD τ).loc main_arg9)) := rfl

/-- The fifth result. -/
theorem res4_eq : Value.res_main_v145 m c = outDK (zOf m c) (m ((c.tc : Thread nD τ).loc main_arg8)) (m ((c.tc : Thread nD τ).loc main_arg9)) := rfl

end Named

/-! ## They at an index -/

/-- The first product at an index. -/
theorem zArr_apply (X : FVec Ideal S8x8192x1024 .f32) (M : FVec Ideal S8x6x1024 .f32) (G : FVec Ideal S1x1024 .f32) (W : FVec Ideal S1024x2112 .f32)
    (b : Fin 8) (s : Fin 8192) (j : Fin 2112) :
    (zArr (hArr X M G) W (ix3 b s j) : EReal) = zrow (fun k => X (ix3 b s k)) (fun k => M (ix3 b 0 k)) (fun k => M (ix3 b 1 k))
      (fun k => G (ix2 0 k)) (fun k j => W (ix2 k j)) j := by
  unfold zrow modulated
  pointwise [zArr, hArr]

/-- The queries' product at an index. -/
theorem qArr_apply (Z : FVec Ideal S8x8192x2112 .f32) (G : FVec Ideal S1x256 .f32) (W : FVec Ideal S256x768 .f32)
    (b : Fin 8) (s : Fin 8192) (j : Fin 768) :
    (qArr Z G W (ix3 b s j) : EReal) = urow (fun k => Z (ix3 b s ⟨k.val, by omega⟩)) (fun k => G (ix2 0 k)) (fun k j => W (ix2 k j)) j := by
  unfold urow gained
  pointwise [qArr, unitArr]

/-- The keys' and values' product at an index. -/
theorem kvArr_apply (Z : FVec Ideal S8x8192x2112 .f32) (G : FVec Ideal S1x256 .f32) (W : FVec Ideal S256x1024 .f32)
    (b : Fin 8) (s : Fin 8192) (j : Fin 1024) :
    (kvArr Z G W (ix3 b s j) : EReal) = urow (fun k => Z (ix3 b s ⟨256 + k.val, by omega⟩)) (fun k => G (ix2 0 k)) (fun k j => W (ix2 k j)) j := by
  unfold urow gained
  pointwise [kvArr, unitArr]

end Cert.PreRef

end
-- ==== Proof.PreOut.lean ====
/- The third reference's results at an index, out of its products. -/
module

public import proofs.«01_k».proof.Proof.PreRef

@[expose] public section

set_option maxRecDepth 16384

noncomputable section

namespace Cert.PreRef

open Idealize.ShloMosaic Idealize.ShloMosaic.TcCoe Idealize.SL.Sem
open Cert.Reference3Ideal Cert.Reference3Ideal.Gen

/-- Sixty-four lanes turned: the first half against the second. -/
def rot (x : Fin 64 → EReal) (c s : Fin 32 → EReal) (d : Fin 64) : EReal :=
  if h : d.val < 32 then x ⟨d.val, by omega⟩ * c ⟨d.val, h⟩ - x ⟨32 + d.val, by omega⟩ * s ⟨d.val, h⟩
  else x ⟨32 + (d.val - 32), by omega⟩ * c ⟨d.val - 32, by omega⟩ + x ⟨d.val - 32, by omega⟩ * s ⟨d.val - 32, by omega⟩

/-- A head turned, at an index. -/
theorem turn4_apply (X : FVec Ideal S8x8192x4x64 .f32) (C S : FVec Ideal S8192x32 .f32) (b : Fin 8) (s : Fin 8192) (h : Fin 4) (d : Fin 64) :
    (turn4 X C S (ix4 b s h d) : EReal) = rot (fun d => X (ix4 b s h d)) (fun d => C (ix2 s d)) (fun d => S (ix2 s d)) d := by
  unfold rot
  pointwise [turn4]

/-- The shared lanes turned, at an index. -/
theorem turn1_apply (X : FVec Ideal S8x8192x1x64 .f32) (C S : FVec Ideal S8192x32 .f32) (b : Fin 8) (s : Fin 8192) (d : Fin 64) :
    (turn1 X C S (ix4 b s 0 d) : EReal) = rot (fun d => X (ix4 b s 0 d)) (fun d => C (ix2 s d)) (fun d => S (ix2 s d)) d := by
  unfold rot
  pointwise [turn1]

/-- Half a head turned, at an index. -/
theorem turn5_apply (X : FVec Ideal S8x8192x4x2x64 .f32) (C S : FVec Ideal S8192x32 .f32) (b : Fin 8) (s : Fin 8192) (h : Fin 4) (e : Fin 2) (d : Fin 64) :
    (turn5 X C S (ix5 b s h e d) : EReal) = rot (fun d => X (ix5 b s h e d)) (fun d => C (ix2 s d)) (fun d => S (ix2 s d)) d := by
  unfold rot
  pointwise [turn5]

/-- Lanes turned depend on the lanes alone. -/
theorem rot_congr {x y : Fin 64 → EReal} (c s : Fin 32 → EReal) {d e : Fin 64} (h : ∀ d, x d = y d) (hd : d.val = e.val) :
    rot x c s d = rot y c s e := by
  rw [funext h, Fin.ext hd]

/-- The values of the second attention at an index. -/
theorem outDV_apply (Z : FVec Ideal S8x8192x2112 .f32) (b : Fin 8) (h : Fin 4) (s : Fin 8192) (l : Fin 128) :
    (outDV Z (ix4 b h s l) : EReal) = Z (ix3 b s ⟨1600 + (128 * h.val + l.val), by omega⟩) := by
  pointwise [outDV]
  exact congrArg (fun i => Z (ix3 b s i)) (Fin.ext (by dsimp only; omega))

/-- The values of the first attention at an index. -/
theorem outV_apply (KV : FVec Ideal S8x8192x1024 .f32) (b : Fin 8) (h : Fin 4) (s : Fin 8192) (l : Fin 128) :
    (outV KV (ix4 b h s l) : EReal) = KV (ix3 b s ⟨256 * h.val + (128 + l.val), by omega⟩) := by
  pointwise [outV]
  exact congrArg (fun i => KV (ix3 b s i)) (Fin.ext (by dsimp only; omega))

/-- Halves of heads side by side, heads first. -/
theorem halves_apply (Y : FVec Ideal S8x8192x4x2x64 .f32) (b : Fin 8) (h : Fin 4) (s : Fin 8192) (e : Fin 2) (d : Fin 64) :
    (shapeCast S8x8192x4x128 Y shapeCasts_S8x8192x4x2x64_S8x8192x4x128 (ix4 b s h ⟨64 * e.val + d.val, by omega⟩) : EReal) = Y (ix5 b s h e d) := by
  pointwise []

/-- Heads first. -/
theorem heads_apply (Y : FVec Ideal S8x8192x4x128 .f32) (b : Fin 8) (h : Fin 4) (s : Fin 8192) (l : Fin 128) :
    (truncf .bf16 (transpose S8x4x8192x128 [0, 2, 1, 3] Y transposes_S8x8192x4x128_S8x4x8192x128_0_2_1_3) bitsLt_bf16_f32 (ix4 b h s l) : EReal)
      = Y (ix4 b s h l) := by
  pointwise []

/-- Heads first, scaled. -/
theorem heads_scaled (Y : FVec Ideal S8x8192x4x128 .f32) (b : Fin 8) (h : Fin 4) (s : Fin 8192) (l : Fin 128) :
    (truncf .bf16 (transpose S8x4x8192x128 [0, 2, 1, 3] (mulf Y (broadcastInDim S8x8192x4x128 ![] bcast_S_S8x8192x4x128
        (constant S_ .f32 0x3E38AA3B#32))) transposes_S8x8192x4x128_S8x4x8192x128_0_2_1_3) bitsLt_bf16_f32 (ix4 b h s l) : EReal)
      = Y (ix4 b s h l) * Ideal.ofBits FTy.f32 0x3E38AA3B#32 := by
  pointwise []

/-- A row's lanes by heads and halves. -/
theorem split_apply (Y : FVec Ideal S8x8192x512 .f32) (b : Fin 8) (h : Fin 4) (s : Fin 8192) (e : Fin 2) (d : Fin 64) :
    (shapeCast S8x8192x4x2x64 Y shapeCasts_S8x8192x512_S8x8192x4x2x64 (ix5 b s h e d) : EReal)
      = Y (ix3 b s ⟨128 * h.val + (64 * e.val + d.val), by omega⟩) := by
  pointwise []
  exact congrArg (fun i => Y (ix3 b s i)) (Fin.ext (by dsimp only; omega))

/-- Lanes of the first product. -/
theorem lanes_apply (Z : FVec Ideal S8x8192x2112 .f32) (o : ℕ) (hs) (ho : o + 512 ≤ 2112) (b : Fin 8) (s : Fin 8192) (l : Fin 512) :
    (extractStridedSlice S8x8192x512 ![0, 0, o] Z hs (ix3 b s l) : EReal) = Z (ix3 b s ⟨o + l.val, by omega⟩) := by
  refine congrArg Z (funext fun a => Fin.ext ?_)
  match a with
  | 0 => show 0 + b.val = b.val; omega
  | 1 => show 0 + s.val = s.val; omega
  | 2 => rfl

/-- Lanes of the first product from `o` on, by heads, their halves turned. -/
theorem turnedHalves_apply (Z : FVec Ideal S8x8192x2112 .f32) (o : ℕ) (hs) (ho : o + 512 ≤ 2112) (C S : FVec Ideal S8192x32 .f32)
    (b : Fin 8) (h : Fin 4) (s : Fin 8192) (e : Fin 2) (d : Fin 64) :
    (shapeCast S8x8192x4x128 (turn5 (shapeCast S8x8192x4x2x64 (extractStridedSlice S8x8192x512 ![0, 0, o] Z hs)
        shapeCasts_S8x8192x512_S8x8192x4x2x64) C S) shapeCasts_S8x8192x4x2x64_S8x8192x4x128 (ix4 b s h ⟨64 * e.val + d.val, by omega⟩) : EReal)
      = rot (fun d => Z (ix3 b s ⟨o + (128 * h.val + (64 * e.val + d.val)), by omega⟩)) (fun d => C (ix2 s d)) (fun d => S (ix2 s d)) d :=
  (halves_apply _ b h s e d).trans ((turn5_apply _ C S b s h e d).trans
    (rot_congr _ _ (fun d => (split_apply _ b h s e d).trans (lanes_apply Z o hs ho b s _)) rfl))

/-- The keys of the second attention at an index. -/
theorem outDK_apply (Z : FVec Ideal S8x8192x2112 .f32) (C S : FVec Ideal S8192x32 .f32) (b : Fin 8) (h : Fin 4) (s : Fin 8192) (e : Fin 2) (d : Fin 64) :
    (outDK Z C S (ix4 b h s ⟨64 * e.val + d.val, by omega⟩) : EReal)
      = rot (fun d => Z (ix3 b s ⟨1088 + (128 * h.val + (64 * e.val + d.val)), by omega⟩)) (fun d => C (ix2 s d)) (fun d => S (ix2 s d)) d := by
  rw [outDK, heads_apply, turnedHalves_apply Z 1088 _ (by omega)]

/-- The queries of the second attention at an index. -/
theorem outDQ_apply (Z : FVec Ideal S8x8192x2112 .f32) (C S : FVec Ideal S8192x32 .f32) (b : Fin 8) (h : Fin 4) (s : Fin 8192) (e : Fin 2) (d : Fin 64) :
    (outDQ Z C S (ix4 b h s ⟨64 * e.val + d.val, by omega⟩) : EReal)
      = rot (fun d => Z (ix3 b s ⟨576 + (128 * h.val + (64 * e.val + d.val)), by omega⟩)) (fun d => C (ix2 s d)) (fun d => S (ix2 s d)) d
        * Ideal.ofBits FTy.f32 0x3E38AA3B#32 := by
  rw [outDQ, heads_scaled, turnedHalves_apply Z 576 _ (by omega)]

/-- A plain lane of the keys of the first attention. -/
theorem outK_plain (Z : FVec Ideal S8x8192x2112 .f32) (KV : FVec Ideal S8x8192x1024 .f32) (C S : FVec Ideal S8192x32 .f32) (b : Fin 8) (h : Fin 4) (s : Fin 8192) (l : Fin 128) :
    (outK Z KV C S (ix4 b h s ⟨l.val, by omega⟩) : EReal) = KV (ix3 b s ⟨256 * h.val + l.val, by omega⟩) := by
  pointwise [outK]
  exact congrArg (fun i => KV (ix3 b s i)) (Fin.ext (by dsimp only; omega))

/-- A turned lane of the keys of the first attention. -/
theorem outK_turned (Z : FVec Ideal S8x8192x2112 .f32) (KV : FVec Ideal S8x8192x1024 .f32) (C S : FVec Ideal S8192x32 .f32) (b : Fin 8) (h : Fin 4) (s : Fin 8192) (d : Fin 64) :
    (outK Z KV C S (ix4 b h s ⟨128 + d.val, by omega⟩) : EReal)
      = rot (fun d => Z (ix3 b s ⟨512 + d.val, by omega⟩)) (fun d => C (ix2 s d)) (fun d => S (ix2 s d)) d := by
  pointwise [outK]
  rw [turn1_apply]
  refine rot_congr _ _ (fun d => ?_) rfl
  pointwise []

/-- A filled lane of the keys of the first attention. -/
theorem outK_filled (Z : FVec Ideal S8x8192x2112 .f32) (KV : FVec Ideal S8x8192x1024 .f32) (C S : FVec Ideal S8192x32 .f32) (b : Fin 8) (h : Fin 4) (s : Fin 8192) (d : Fin 64) :
    (outK Z KV C S (ix4 b h s ⟨192 + d.val, by omega⟩) : EReal) = 0 := by
  pointwise [outK, filling]
  rw [dif_neg (by omega), dif_neg (by omega)]

/-- A plain lane of the queries of the first attention. -/
theorem outQ_plain (Q : FVec Ideal S8x8192x768 .f32) (C S : FVec Ideal S8192x32 .f32) (b : Fin 8) (h : Fin 4) (s : Fin 8192) (l : Fin 128) :
    (outQ Q C S (ix4 b h s ⟨l.val, by omega⟩) : EReal) = Q (ix3 b s ⟨192 * h.val + l.val, by omega⟩) * Ideal.ofBits FTy.f32 0x3DD53B95#32 := by
  pointwise [outQ]
  exact congrArg (fun i => Q (ix3 b s i) * Ideal.ofBits FTy.f32 0x3DD53B95#32) (Fin.ext (by dsimp only; omega))

/-- A turned lane of the queries of the first attention. -/
theorem outQ_turned (Q : FVec Ideal S8x8192x768 .f32) (C S : FVec Ideal S8192x32 .f32) (b : Fin 8) (h : Fin 4) (s : Fin 8192) (d : Fin 64) :
    (outQ Q C S (ix4 b h s ⟨128 + d.val, by omega⟩) : EReal)
      = rot (fun d => Q (ix3 b s ⟨192 * h.val + (128 + d.val), by omega⟩)) (fun d => C (ix2 s d)) (fun d => S (ix2 s d)) d
        * Ideal.ofBits FTy.f32 0x3DD53B95#32 := by
  pointwise [outQ]
  rw [turn4_apply]
  refine congrArg (· * Ideal.ofBits FTy.f32 0x3DD53B95#32) (rot_congr _ _ (fun d => ?_) rfl)
  pointwise []
  exact congrArg (fun i => Q (ix3 b s i)) (Fin.ext (by dsimp only; omega))

/-- A filled lane of the queries of the first attention. -/
theorem outQ_filled (Q : FVec Ideal S8x8192x768 .f32) (C S : FVec Ideal S8192x32 .f32) (b : Fin 8) (h : Fin 4) (s : Fin 8192) (d : Fin 64) :
    (outQ Q C S (ix4 b h s ⟨192 + d.val, by omega⟩) : EReal) = 0 := by
  pointwise [outQ, filling]
  rw [dif_neg (by omega), dif_neg (by omega)]
  exact zero_mul _

end Cert.PreRef

end
-- ==== Proof.PreClaim.lean ====
/- The third kernel's results are the third reference's. -/
module

public import proofs.«01_k».proof.Proof.PreValue
public import proofs.«01_k».proof.Proof.PreOut
public import proofs.«01_k».proof.Defs
public import Idealize.ShloMosaic.Lib.Quiescent

@[expose] public section

set_option maxRecDepth 16384

noncomputable section

namespace Cert.PreClaim

open Idealize.ShloMosaic Idealize.ShloMosaic.TcCoe Idealize.SL.Sem
open Cert.Kernel3Ideal Cert.Kernel3Ideal.Gen Cert.Pre
open Cert.PreRef (rot rot_congr hArr zArr qArr kvArr zArr_apply qArr_apply kvArr_apply)

/-! ## Rows of products by their columns -/

/-- A row of the first product depends on the column alone. -/
theorem zrow_col {a b : ℕ} (x sh sc g : Fin 1024 → EReal) {W : Fin 1024 → Fin a → EReal} {U : Fin 1024 → Fin b → EReal} {i : Fin a} {j : Fin b}
    (h : ∀ k, W k i = U k j) : zrow x sh sc g W i = zrow x sh sc g U j :=
  Finset.sum_congr rfl fun k _ => by rw [h k]

/-- So does a row of a second product. -/
theorem urow_col {a b : ℕ} {y z : Fin 256 → EReal} (g : Fin 256 → EReal) {W : Fin 256 → Fin a → EReal} {U : Fin 256 → Fin b → EReal}
    {i : Fin a} {j : Fin b} (hz : ∀ k, y k = z k) (h : ∀ k, W k i = U k j) : urow y g W i = urow z g U j := by
  rw [funext hz]
  exact Finset.sum_congr rfl fun k _ => by rw [h k]

/-- A row of the first product at a column of zeros. -/
theorem zrow_zero {a : ℕ} (x sh sc g : Fin 1024 → EReal) {W : Fin 1024 → Fin a → EReal} {i : Fin a} (h : ∀ k, W k i = 0) :
    zrow x sh sc g W i = 0 :=
  Finset.sum_eq_zero fun k _ => by rw [h k, mul_zero]

/-- A row of a second product at a column of zeros. -/
theorem urow_zero {a : ℕ} (z g : Fin 256 → EReal) {W : Fin 256 → Fin a → EReal} {i : Fin a} (h : ∀ k, W k i = 0) : urow z g W i = 0 :=
  Finset.sum_eq_zero fun k _ => by rw [h k, mul_zero]

/-- The partner of a lane of a first half. -/
theorem partner_lo (e : Fin 2) (d : Fin 32) : partner ⟨64 * e.val + d.val, by omega⟩ = ⟨64 * e.val + (32 + d.val), by omega⟩ := by
  revert e d; decide

/-- The partner of a lane of a second half. -/
theorem partner_hi (e : Fin 2) (d : Fin 32) : partner ⟨64 * e.val + (32 + d.val), by omega⟩ = ⟨64 * e.val + d.val, by omega⟩ := by
  revert e d; decide

/-- Lanes turned by the tiled cosines and signed sines, half a tile at a time. -/
theorem turned_tiled (x : Fin 128 → EReal) (C S : FVec Ideal S8192x32 .f32) (s : Fin 8192) (e : Fin 2) (d : Fin 64) :
    turned x (fun l => tiled C C (ix2 s l)) (fun l => tiled (Host.negf S) S (ix2 s l)) ⟨64 * e.val + d.val, by omega⟩
      = rot (fun d => x ⟨64 * e.val + d.val, by omega⟩) (fun d => C (ix2 s d)) (fun d => S (ix2 s d)) d := by
  by_cases hd : d.val < 32
  · obtain ⟨k, rfl⟩ : ∃ k : Fin 32, d = ⟨k.val, Nat.lt_trans k.isLt (by decide)⟩ := ⟨⟨d.val, hd⟩, rfl⟩
    rw [rot, dif_pos hd, turned, partner_lo e k, tiled_lo C C s e k, tiled_lo (Host.negf S) S s e k]
    show _ + x _ * -(S (ix2 s k) : EReal) = _ - x _ * (S (ix2 s k) : EReal)
    rw [mul_neg, ← sub_eq_add_neg]
  · obtain ⟨k, rfl⟩ : ∃ k : Fin 32, d = ⟨32 + k.val, Nat.add_lt_add_left k.isLt 32⟩ := ⟨⟨d.val - 32, by omega⟩, Fin.ext (by dsimp only; omega)⟩
    have ek : (⟨32 + k.val - 32, by omega⟩ : Fin 32) = k := Fin.ext (by dsimp only; omega)
    have ei : (⟨64 * e.val + (32 + k.val), by omega⟩ : Fin 128) = ⟨64 * e.val + 32 + k.val, by omega⟩ := Fin.ext (by dsimp only; omega)
    rw [rot, dif_neg hd, turned, partner_hi e k, ei, tiled_hi C C s e k, tiled_hi (Host.negf S) S s e k]
    show _ = x ⟨64 * e.val + (32 + (32 + k.val - 32)), _⟩ * (C (ix2 s ⟨32 + k.val - 32, _⟩) : EReal)
      + x ⟨64 * e.val + (32 + k.val - 32), _⟩ * (S (ix2 s ⟨32 + k.val - 32, _⟩) : EReal)
    rw [ek]
    refine congrArg₂ (fun i j => x i * (C (ix2 s k) : EReal) + x j * (S (ix2 s k) : EReal)) (Fin.ext ?_) (Fin.ext ?_) <;> dsimp only <;> omega

/-! ## Arrays out of tiles -/

/-- A row by its block and its place in it. -/
theorem row_split (s : Fin 8192) : ∃ (n : Fin 16) (r : Fin 512), s = rowOf n r :=
  ⟨⟨s.val / 512, by omega⟩, ⟨s.val % 512, by omega⟩, Fin.ext (by dsimp only; omega)⟩

/-- A lane of a tile by its half and its place in it. -/
theorem lane_split (l : Fin 128) : ∃ (e : Fin 2) (d : Fin 64), l = ⟨64 * e.val + d.val, by omega⟩ :=
  ⟨⟨l.val / 64, by omega⟩, ⟨l.val % 64, by omega⟩, Fin.ext (by dsimp only; omega)⟩

/-- Tiles given lane by lane make the wide array. -/
theorem wide_ext (A : Vec Ideal S8x4x8192x256 .bf16) (tile : Fin 8 → Fin 16 → Fin 4 → Fin 2 → Fin 512 → Fin 128 → EReal)
    (h0 : ∀ b n h r (l : Fin 128), A (ix4 b h (rowOf n r) ⟨l.val, by omega⟩) = tile b n h 0 r l)
    (h1 : ∀ b n h r (d : Fin 64), A (ix4 b h (rowOf n r) ⟨128 + d.val, by omega⟩) = tile b n h 1 r ⟨64 * (0 : Fin 2).val + d.val, by omega⟩)
    (h2 : ∀ b n h r (d : Fin 64), A (ix4 b h (rowOf n r) ⟨192 + d.val, by omega⟩) = tile b n h 1 r ⟨64 * (1 : Fin 2).val + d.val, by omega⟩) :
    A = wideArr fun b n => wide (tile b n) := by
  have tiles : ∀ b n h r (p : Fin 2) (l : Fin 128), A (ix4 b h (rowOf n r) ⟨128 * p.val + l.val, by omega⟩) = tile b n h p r l := fun b n h r p l => by
    match p with
    | 0 => exact (congrArg (fun i => A (ix4 b h (rowOf n r) i)) (Fin.ext (by show 128 * 0 + l.val = l.val; omega))).trans (h0 b n h r l)
    | 1 =>
      obtain ⟨e, d, rfl⟩ := lane_split l
      match e with
      | 0 => exact (congrArg (fun i => A (ix4 b h (rowOf n r) i)) (Fin.ext (by show 128 * 1 + (64 * 0 + d.val) = 128 + d.val; omega))).trans (h1 b n h r d)
      | 1 => exact (congrArg (fun i => A (ix4 b h (rowOf n r) i)) (Fin.ext (by show 128 * 1 + (64 * 1 + d.val) = 192 + d.val; omega))).trans (h2 b n h r d)
  have at_ix : ∀ (b : Fin 8) (h : Fin 4) (s : Fin 8192) (l : Fin 256),
      A (ix4 b h s l) = wideArr (fun b n => wide (tile b n)) (ix4 b h s l) := fun b h s l => by
    obtain ⟨n, r, rfl⟩ := row_split s
    obtain ⟨p, k, rfl⟩ : ∃ (p : Fin 2) (k : Fin 128), l = ⟨128 * p.val + k.val, by omega⟩ :=
      ⟨⟨l.val / 128, by omega⟩, ⟨l.val % 128, by omega⟩, Fin.ext (by dsimp only; omega)⟩
    exact (tiles b n h r p k).trans ((wideArr_blk _ b n h r _).trans (wide_apply (tile b n) h p r k)).symm
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg _ e).trans ((at_ix _ _ _ _).trans (congrArg _ e).symm)

/-- Tiles given lane by lane make the narrow array. -/
theorem narrow_ext (A : Vec Ideal S8x4x8192x128 .bf16) (tile : Fin 8 → Fin 16 → Fin 4 → Fin 512 → Fin 128 → EReal)
    (h : ∀ b n h r (l : Fin 128), A (ix4 b h (rowOf n r) l) = tile b n h r l) :
    A = narrowArr fun b n => narrow (tile b n) := by
  have at_ix : ∀ (b : Fin 8) (k : Fin 4) (s : Fin 8192) (l : Fin 128),
      A (ix4 b k s l) = narrowArr (fun b n => narrow (tile b n)) (ix4 b k s l) := fun b k s l => by
    obtain ⟨n, r, rfl⟩ := row_split s
    exact (h b n k r l).trans (narrowArr_blk (fun b n => narrow (tile b n)) b n k r l).symm
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg _ e).trans ((at_ix _ _ _ _).trans (congrArg _ e).symm)

/-! ## The products agree -/

section Products

variable (X : FVec Ideal S8x8192x1024 .f32) (M : FVec Ideal S8x6x1024 .f32) (G : FVec Ideal S1x1024 .f32) (W : FVec Ideal S1024x2112 .f32)
  (GQ : FVec Ideal S1x256 .f32) (WQ : FVec Ideal S256x768 .f32) (GK : FVec Ideal S1x256 .f32) (WK : FVec Ideal S256x1024 .f32)
  (C S : FVec Ideal S8192x32 .f32) (b : Fin 8) (n : Fin 16) (r : Fin 512)

/-- The first product before the shared lanes. -/
theorem z_front (j : Fin 512) : blkZ (rowsBlk X b n) (modBlk M b) G (columns W) r ⟨j.val, by omega⟩
    = zArr (hArr X M G) W (ix3 b (rowOf n r) ⟨j.val, by omega⟩) :=
  (zrow_col _ _ _ _ fun k => columns_front W k j).trans (zArr_apply X M G W b (rowOf n r) ⟨j.val, by omega⟩).symm

/-- The first product after the shared lanes. -/
theorem z_mid (j : Fin 1536) : blkZ (rowsBlk X b n) (modBlk M b) G (columns W) r ⟨512 + j.val, by omega⟩
    = zArr (hArr X M G) W (ix3 b (rowOf n r) ⟨576 + j.val, by omega⟩) :=
  (zrow_col _ _ _ _ fun k => columns_mid W k j).trans (zArr_apply X M G W b (rowOf n r) ⟨576 + j.val, by omega⟩).symm

/-- The first product at the shared lanes. -/
theorem z_shared (j : Fin 64) : blkZ (rowsBlk X b n) (modBlk M b) G (columns W) r ⟨2048 + j.val, by omega⟩
    = zArr (hArr X M G) W (ix3 b (rowOf n r) ⟨512 + j.val, by omega⟩) :=
  (zrow_col _ _ _ _ fun k => columns_shared W k j).trans (zArr_apply X M G W b (rowOf n r) ⟨512 + j.val, by omega⟩).symm

/-- The first product at the zero columns. -/
theorem z_zero (j : Fin 64) : blkZ (rowsBlk X b n) (modBlk M b) G (columns W) r ⟨2112 + j.val, by omega⟩ = 0 :=
  zrow_zero _ _ _ _ fun k => columns_zero W k j

/-- The queries' product at plain lanes. -/
theorem q_plain (h : Fin 4) (l : Fin 128) : blkQ (rowsBlk X b n) (modBlk M b) G (columns W) GQ (queries WQ) r ⟨128 * h.val + l.val, by omega⟩
    = qArr (zArr (hArr X M G) W) GQ WQ (ix3 b (rowOf n r) ⟨192 * h.val + l.val, by omega⟩) :=
  (urow_col _ (fun k => z_front X M G W b n r ⟨k.val, by omega⟩) fun k => queries_plain WQ k h l).trans
    (qArr_apply _ GQ WQ b (rowOf n r) ⟨192 * h.val + l.val, by omega⟩).symm

/-- The queries' product at lanes to turn. -/
theorem q_turned (h : Fin 4) (l : Fin 64) :
    blkQ (rowsBlk X b n) (modBlk M b) G (columns W) GQ (queries WQ) r ⟨512 + 128 * h.val + l.val, by omega⟩
      = qArr (zArr (hArr X M G) W) GQ WQ (ix3 b (rowOf n r) ⟨192 * h.val + (128 + l.val), by omega⟩) :=
  (urow_col _ (fun k => z_front X M G W b n r ⟨k.val, by omega⟩) fun k => queries_turned WQ k h l).trans
    (qArr_apply _ GQ WQ b (rowOf n r) ⟨192 * h.val + (128 + l.val), by omega⟩).symm

/-- The queries' product at filled lanes. -/
theorem q_zero (h : Fin 4) (l : Fin 64) :
    blkQ (rowsBlk X b n) (modBlk M b) G (columns W) GQ (queries WQ) r ⟨512 + 128 * h.val + 64 + l.val, by omega⟩ = 0 :=
  urow_zero _ _ fun k => queries_zero WQ k h l

/-- The keys' product. -/
theorem kv_keys (h : Fin 4) (l : Fin 128) :
    blkKV (rowsBlk X b n) (modBlk M b) G (columns W) GK (keysValues WK) r ⟨128 * h.val + l.val, by omega⟩
      = kvArr (zArr (hArr X M G) W) GK WK (ix3 b (rowOf n r) ⟨256 * h.val + l.val, by omega⟩) :=
  (urow_col _ (fun k => z_front X M G W b n r ⟨256 + k.val, by omega⟩) fun k => keysValues_keys WK k h l).trans
    (kvArr_apply _ GK WK b (rowOf n r) ⟨256 * h.val + l.val, by omega⟩).symm

/-- The values' product. -/
theorem kv_values (h : Fin 4) (l : Fin 128) :
    blkKV (rowsBlk X b n) (modBlk M b) G (columns W) GK (keysValues WK) r ⟨512 + 128 * h.val + l.val, by omega⟩
      = kvArr (zArr (hArr X M G) W) GK WK (ix3 b (rowOf n r) ⟨256 * h.val + (128 + l.val), by omega⟩) :=
  (urow_col _ (fun k => z_front X M G W b n r ⟨256 + k.val, by omega⟩) fun k => keysValues_values WK k h l).trans
    (kvArr_apply _ GK WK b (rowOf n r) ⟨256 * h.val + (128 + l.val), by omega⟩).symm

/-- The first product's lanes for the second attention. -/
theorem z_heads (o : ℕ) (h1 : 512 ≤ o) (h2 : o + 512 ≤ 2048) (h : Fin 4) (l : Fin 128) :
    blkZ (rowsBlk X b n) (modBlk M b) G (columns W) r ⟨o + 128 * h.val + l.val, by omega⟩
      = zArr (hArr X M G) W (ix3 b (rowOf n r) ⟨o + 64 + (128 * h.val + l.val), by omega⟩) :=
  (congrArg (blkZ (rowsBlk X b n) (modBlk M b) G (columns W) r) (Fin.ext (by dsimp only; omega))).trans
    ((z_mid X M G W b n r ⟨o - 512 + 128 * h.val + l.val, by omega⟩).trans
      (congrArg (fun i => zArr (hArr X M G) W (ix3 b (rowOf n r) i)) (Fin.ext (by dsimp only; omega))))

/-- Those lanes turned. -/
theorem z_turned (o : ℕ) (h1 : 512 ≤ o) (h2 : o + 512 ≤ 2048) (h : Fin 4) (e : Fin 2) (d : Fin 64) :
    tileT (rowsBlk X b n) (modBlk M b) G (columns W) (turnBlk (tiled C C) n) (turnBlk (tiled (Host.negf S) S) n) o (by omega) h r
        ⟨64 * e.val + d.val, by omega⟩
      = rot (fun d => zArr (hArr X M G) W (ix3 b (rowOf n r) ⟨o + 64 + (128 * h.val + (64 * e.val + d.val)), by omega⟩))
        (fun d => C (ix2 (rowOf n r) d)) (fun d => S (ix2 (rowOf n r) d)) d :=
  (turned_tiled _ C S (rowOf n r) e d).trans
    (rot_congr _ _ (fun d => z_heads X M G W b n r o h1 h2 h ⟨64 * e.val + d.val, by omega⟩) rfl)

/-- Turned lanes that are zeros are zeros. -/
theorem turned_zero (x : Fin 128 → EReal) (s : Fin 8192) (d : Fin 64) (hx : ∀ d : Fin 64, x ⟨64 * (1 : Fin 2).val + d.val, by omega⟩ = 0) :
    turned x (fun l => tiled C C (ix2 s l)) (fun l => tiled (Host.negf S) S (ix2 s l)) ⟨64 * (1 : Fin 2).val + d.val, by omega⟩ = 0 := by
  refine (turned_tiled x C S s 1 d).trans ?_
  rw [funext hx, rot]
  split <;> simp

end Products

/-! ## The results agree -/

section Results

variable (X : FVec Ideal S8x8192x1024 .f32) (M : FVec Ideal S8x6x1024 .f32) (G : FVec Ideal S1x1024 .f32) (W : FVec Ideal S1024x2112 .f32)
  (GQ : FVec Ideal S1x256 .f32) (WQ : FVec Ideal S256x768 .f32) (GK : FVec Ideal S1x256 .f32) (WK : FVec Ideal S256x1024 .f32)
  (C S : FVec Ideal S8192x32 .f32)

/-- The queries of the first attention. -/
theorem agree0 : Cert.PreRef.outQ (qArr (zArr (hArr X M G) W) GQ WQ) C S
    = wideArr fun b n => wide (tileQ (rowsBlk X b n) (modBlk M b) G (columns W) GQ (queries WQ) (turnBlk (tiled C C) n)
      (turnBlk (tiled (Host.negf S) S) n)) := by
  refine wide_ext _ (fun b n => tileQ (rowsBlk X b n) (modBlk M b) G (columns W) GQ (queries WQ) (turnBlk (tiled C C) n)
    (turnBlk (tiled (Host.negf S) S) n)) (fun b n h r l => ?_) (fun b n h r d => ?_) (fun b n h r d => ?_)
  · exact (Cert.PreRef.outQ_plain _ C S b h (rowOf n r) l).trans
      (congrArg (· * Ideal.ofBits FTy.f32 0x3DD53B95#32) (q_plain X M G W GQ WQ b n r h l).symm)
  · refine (Cert.PreRef.outQ_turned _ C S b h (rowOf n r) d).trans (congrArg (· * Ideal.ofBits FTy.f32 0x3DD53B95#32) (Eq.symm ?_))
    refine (turned_tiled _ C S (rowOf n r) 0 d).trans (rot_congr _ _ (fun d => ?_) rfl)
    exact (congrArg (blkQ (rowsBlk X b n) (modBlk M b) G (columns W) GQ (queries WQ) r)
      (Fin.ext (by show 512 + 128 * h.val + (64 * 0 + d.val) = 512 + 128 * h.val + d.val; omega))).trans (q_turned X M G W GQ WQ b n r h d)
  · refine (Cert.PreRef.outQ_filled _ C S b h (rowOf n r) d).trans (Eq.symm ?_)
    refine (congrArg (· * Ideal.ofBits FTy.f32 0x3DD53B95#32) (turned_zero C S _ (rowOf n r) d fun d => ?_)).trans (zero_mul _)
    exact (congrArg (blkQ (rowsBlk X b n) (modBlk M b) G (columns W) GQ (queries WQ) r)
      (Fin.ext (by show 512 + 128 * h.val + (64 * 1 + d.val) = 512 + 128 * h.val + 64 + d.val; omega))).trans (q_zero X M G W GQ WQ b n r h d)

/-- The keys of the first attention. -/
theorem agree1 : Cert.PreRef.outK (zArr (hArr X M G) W) (kvArr (zArr (hArr X M G) W) GK WK) C S
    = wideArr fun b n => wide (tileK (rowsBlk X b n) (modBlk M b) G (columns W) GK (keysValues WK) (turnBlk (tiled C C) n)
      (turnBlk (tiled (Host.negf S) S) n)) := by
  refine wide_ext _ (fun b n => tileK (rowsBlk X b n) (modBlk M b) G (columns W) GK (keysValues WK) (turnBlk (tiled C C) n)
    (turnBlk (tiled (Host.negf S) S) n)) (fun b n h r l => ?_) (fun b n h r d => ?_) (fun b n h r d => ?_)
  · exact (Cert.PreRef.outK_plain _ _ C S b h (rowOf n r) l).trans (kv_keys X M G W GK WK b n r h l).symm
  · refine (Cert.PreRef.outK_turned _ _ C S b h (rowOf n r) d).trans (Eq.symm ?_)
    refine (turned_tiled (fun l => blkZ (rowsBlk X b n) (modBlk M b) G (columns W) r ⟨2048 + l.val, by omega⟩) C S (rowOf n r) 0 d).trans
      (rot_congr _ _ (fun d => ?_) rfl)
    exact (congrArg (blkZ (rowsBlk X b n) (modBlk M b) G (columns W) r)
      (Fin.ext (by show 2048 + (64 * 0 + d.val) = 2048 + d.val; omega))).trans (z_shared X M G W b n r d)
  · refine (Cert.PreRef.outK_filled _ _ C S b h (rowOf n r) d).trans (Eq.symm ?_)
    refine turned_zero C S (fun l => blkZ (rowsBlk X b n) (modBlk M b) G (columns W) r ⟨2048 + l.val, by omega⟩) (rowOf n r) d fun d => ?_
    exact (congrArg (blkZ (rowsBlk X b n) (modBlk M b) G (columns W) r)
      (Fin.ext (by show 2048 + (64 * 1 + d.val) = 2112 + d.val; omega))).trans (z_zero X M G W b n r d)

/-- The values of the first attention. -/
theorem agree2 : Cert.PreRef.outV (kvArr (zArr (hArr X M G) W) GK WK)
    = narrowArr fun b n => narrow (tileV (rowsBlk X b n) (modBlk M b) G (columns W) GK (keysValues WK)) :=
  narrow_ext _ (fun b n => tileV (rowsBlk X b n) (modBlk M b) G (columns W) GK (keysValues WK)) fun b n h r l =>
    (Cert.PreRef.outV_apply _ b h (rowOf n r) l).trans (kv_values X M G W GK WK b n r h l).symm

/-- The queries of the second attention. -/
theorem agree3 : Cert.PreRef.outDQ (zArr (hArr X M G) W) C S
    = narrowArr fun b n => narrow (tileDQ (rowsBlk X b n) (modBlk M b) G (columns W) (turnBlk (tiled C C) n) (turnBlk (tiled (Host.negf S) S) n)) :=
  narrow_ext _ (fun b n => tileDQ (rowsBlk X b n) (modBlk M b) G (columns W) (turnBlk (tiled C C) n) (turnBlk (tiled (Host.negf S) S) n))
    fun b n h r l => by
      obtain ⟨e, d, rfl⟩ := lane_split l
      exact (Cert.PreRef.outDQ_apply _ C S b h (rowOf n r) e d).trans
        (congrArg (· * Ideal.ofBits FTy.f32 0x3E38AA3B#32) (z_turned X M G W C S b n r 512 (by omega) (by omega) h e d).symm)

/-- The keys of the second attention. -/
theorem agree4 : Cert.PreRef.outDK (zArr (hArr X M G) W) C S
    = narrowArr fun b n => narrow (tileT (rowsBlk X b n) (modBlk M b) G (columns W) (turnBlk (tiled C C) n) (turnBlk (tiled (Host.negf S) S) n)
      1024 (by omega)) :=
  narrow_ext _ (fun b n => tileT (rowsBlk X b n) (modBlk M b) G (columns W) (turnBlk (tiled C C) n) (turnBlk (tiled (Host.negf S) S) n)
      1024 (by omega)) fun b n h r l => by
    obtain ⟨e, d, rfl⟩ := lane_split l
    exact (Cert.PreRef.outDK_apply _ C S b h (rowOf n r) e d).trans (z_turned X M G W C S b n r 1024 (by omega) (by omega) h e d).symm

/-- The values of the second attention. -/
theorem agree5 : Cert.PreRef.outDV (zArr (hArr X M G) W)
    = narrowArr fun b n => narrow (tileDV (rowsBlk X b n) (modBlk M b) G (columns W)) :=
  narrow_ext _ (fun b n => tileDV (rowsBlk X b n) (modBlk M b) G (columns W)) fun b n h r l =>
    (Cert.PreRef.outDV_apply _ b h (rowOf n r) l).trans (z_heads X M G W b n r 1536 (by omega) (by omega) h l).symm

end Results

/-! ## The kernel's blocks from its arguments -/

section Blocks

variable (m : (ℓ : Loc nD τ sig) → Buf (Elt Ideal) ℓ) (c : Dev nD)

/-- The block of the queries of the first attention. -/
theorem blk10_eq : blk10 m c = fun b n => wide (tileQ (rowsBlk (m ((c : Thread nD τ).loc main_arg0)) b n) (modBlk (m ((c : Thread nD τ).loc main_arg1)) b) (m ((c : Thread nD τ).loc main_arg2)) (columns (m ((c : Thread nD τ).loc main_arg3))) (m ((c : Thread nD τ).loc main_arg4)) (queries (m ((c : Thread nD τ).loc main_arg5)))
      (turnBlk (tiled (m ((c : Thread nD τ).loc main_arg8)) (m ((c : Thread nD τ).loc main_arg8))) n) (turnBlk (tiled (Host.negf (m ((c : Thread nD τ).loc main_arg9))) (m ((c : Thread nD τ).loc main_arg9))) n)) := by
  funext b n
  rw [blk10, out10_eq, V_main_arg0, V_main_arg1, V_main_arg2, V_columns, V_main_arg4, V_queries, V_cos, V_sin]

/-- The block of the keys of the first attention. -/
theorem blk11_eq : blk11 m c = fun b n => wide (tileK (rowsBlk (m ((c : Thread nD τ).loc main_arg0)) b n) (modBlk (m ((c : Thread nD τ).loc main_arg1)) b) (m ((c : Thread nD τ).loc main_arg2)) (columns (m ((c : Thread nD τ).loc main_arg3))) (m ((c : Thread nD τ).loc main_arg6)) (keysValues (m ((c : Thread nD τ).loc main_arg7)))
      (turnBlk (tiled (m ((c : Thread nD τ).loc main_arg8)) (m ((c : Thread nD τ).loc main_arg8))) n) (turnBlk (tiled (Host.negf (m ((c : Thread nD τ).loc main_arg9))) (m ((c : Thread nD τ).loc main_arg9))) n)) := by
  funext b n
  rw [blk11, out11_eq, V_main_arg0, V_main_arg1, V_main_arg2, V_columns, V_main_arg6, V_keysValues, V_cos, V_sin]

/-- The block of the values of the first attention. -/
theorem blk12_eq : blk12 m c = fun b n => narrow (tileV (rowsBlk (m ((c : Thread nD τ).loc main_arg0)) b n) (modBlk (m ((c : Thread nD τ).loc main_arg1)) b) (m ((c : Thread nD τ).loc main_arg2)) (columns (m ((c : Thread nD τ).loc main_arg3))) (m ((c : Thread nD τ).loc main_arg6)) (keysValues (m ((c : Thread nD τ).loc main_arg7)))) := by
  funext b n
  rw [blk12, out12_eq, V_main_arg0, V_main_arg1, V_main_arg2, V_columns, V_main_arg6, V_keysValues]

/-- The block of the queries of the second attention. -/
theorem blk13_eq : blk13 m c = fun b n => narrow (tileDQ (rowsBlk (m ((c : Thread nD τ).loc main_arg0)) b n) (modBlk (m ((c : Thread nD τ).loc main_arg1)) b) (m ((c : Thread nD τ).loc main_arg2)) (columns (m ((c : Thread nD τ).loc main_arg3)))
      (turnBlk (tiled (m ((c : Thread nD τ).loc main_arg8)) (m ((c : Thread nD τ).loc main_arg8))) n) (turnBlk (tiled (Host.negf (m ((c : Thread nD τ).loc main_arg9))) (m ((c : Thread nD τ).loc main_arg9))) n)) := by
  funext b n
  rw [blk13, out13_eq, V_main_arg0, V_main_arg1, V_main_arg2, V_columns, V_cos, V_sin]

/-- The block of the keys of the second attention. -/
theorem blk14_eq : blk14 m c = fun b n => narrow (tileT (rowsBlk (m ((c : Thread nD τ).loc main_arg0)) b n) (modBlk (m ((c : Thread nD τ).loc main_arg1)) b) (m ((c : Thread nD τ).loc main_arg2)) (columns (m ((c : Thread nD τ).loc main_arg3)))
      (turnBlk (tiled (m ((c : Thread nD τ).loc main_arg8)) (m ((c : Thread nD τ).loc main_arg8))) n) (turnBlk (tiled (Host.negf (m ((c : Thread nD τ).loc main_arg9))) (m ((c : Thread nD τ).loc main_arg9))) n) 1024 (by omega)) := by
  funext b n
  rw [blk14, out14_eq, V_main_arg0, V_main_arg1, V_main_arg2, V_columns, V_cos, V_sin]

/-- The block of the values of the second attention. -/
theorem blk15_eq : blk15 m c = fun b n => narrow (tileDV (rowsBlk (m ((c : Thread nD τ).loc main_arg0)) b n) (modBlk (m ((c : Thread nD τ).loc main_arg1)) b) (m ((c : Thread nD τ).loc main_arg2)) (columns (m ((c : Thread nD τ).loc main_arg3)))) := by
  funext b n
  rw [blk15, out15_eq, V_main_arg0, V_main_arg1, V_main_arg2, V_columns]

end Blocks

/-! ## The claims -/

/-- The third reference runs, leaves its arguments and no counter above zero. -/
theorem frame_ref : Cert.quiescent_Reference3Ideal := fun m ρ _ =>
  (θ_run Cert.Reference3Ideal.defs _ _).mono
    (fun r h => ⟨fun c => (h c).2.2.2.2.2.2, sem_eq_zero_of_no_sems (by decide) r.2⟩) (Cert.Reference3Ideal.Value.run m ρ)

/-- The third kernel's six results are the third reference's. -/
theorem algebraic : Cert.algebraic_Kernel3Ideal_Reference3Ideal := by
  intro m ρ m' ρ' _ hagree
  refine ⟨fun c => wideArr (blk10 m c), fun c => wideArr (blk11 m c), fun c => narrowArr (blk12 m c), fun c => narrowArr (blk13 m c),
    fun c => narrowArr (blk14 m c), fun c => narrowArr (blk15 m c), run_whole m ρ, ?_⟩
  refine (θ_run Cert.Reference3Ideal.defs _ _).mono (fun _ h c => ?_) (Cert.Reference3Ideal.Value.run m' ρ')
  obtain ⟨h0, h1, h2, h3, h4, h5, hrest⟩ := h c
  obtain ⟨e0, e1, e2, e3, e4, e5, e6, e7, e8, e9⟩ := hagree c
  refine ⟨h0.trans ?_, h1.trans ?_, h2.trans ?_, h3.trans ?_, h4.trans ?_, h5.trans ?_, hrest⟩
  · beta_reduce
    rw [Cert.PreRef.res0_eq, Cert.PreRef.qOf, Cert.PreRef.zOf, e0, e1, e2, e3, e4, e5, e8, e9, blk10_eq]
    exact agree0 _ _ _ _ _ _ _ _
  · beta_reduce
    rw [Cert.PreRef.res1_eq, Cert.PreRef.kvOf, Cert.PreRef.zOf, e0, e1, e2, e3, e6, e7, e8, e9, blk11_eq]
    exact agree1 _ _ _ _ _ _ _ _
  · beta_reduce
    rw [Cert.PreRef.res2_eq, Cert.PreRef.kvOf, Cert.PreRef.zOf, e0, e1, e2, e3, e6, e7, blk12_eq]
    exact agree2 _ _ _ _ _ _
  · beta_reduce
    rw [Cert.PreRef.res3_eq, Cert.PreRef.zOf, e0, e1, e2, e3, e8, e9, blk13_eq]
    exact agree3 _ _ _ _ _ _
  · beta_reduce
    rw [Cert.PreRef.res4_eq, Cert.PreRef.zOf, e0, e1, e2, e3, e8, e9, blk14_eq]
    exact agree4 _ _ _ _ _ _
  · beta_reduce
    refine (show _ = Cert.PreRef.outDV (Cert.PreRef.zOf m' c) from rfl).trans ?_
    rw [Cert.PreRef.zOf, e0, e1, e2, e3, blk15_eq]
    exact agree5 _ _ _ _

end Cert.PreClaim

end
-- ==== Proof.AdaClaim.lean ====
/- The modulation: the fourth kernel's result is the fourth reference's. -/
module

public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.ValueLayout
public import Idealize.ShloMosaic.Lib.StableHlo.Run
public import Idealize.ShloMosaic.Lib.Quiescent

@[expose] public section

set_option maxRecDepth 16384

noncomputable section

namespace Cert.AdaClaim

open Cert.Kernel4Ideal Cert.Kernel4Ideal.Gen Idealize.ShloMosaic Idealize.ShloMosaic.TcCoe Idealize.SL.Sem

/-! ## The gate of the condition -/

/-- The condition times its logistic value. -/
def gate (x : EReal) : EReal := x * (1 + Ideal.exp (-x))⁻¹

/-- The exponential is not below zero. -/
theorem exp_nonneg (x : EReal) : 0 ≤ Ideal.exp x := by
  induction x with
  | bot => exact le_refl _
  | top => exact le_top
  | coe r => exact EReal.coe_nonneg.mpr (Real.exp_pos r).le

/-- A quotient by one plus an exponential is the product with that sum's inverse. -/
theorem div_eq (x z : EReal) : Ideal.div x (1 + Ideal.exp z) = x * (1 + Ideal.exp z)⁻¹ := by
  have h : (1 + Ideal.exp z : EReal) ≠ 0 := fun h => by
    have h1 : (1 : EReal) ≤ 1 + Ideal.exp z := le_add_of_nonneg_right (exp_nonneg z)
    rw [h] at h1
    exact absurd h1 (by norm_num)
  rw [Ideal.div, if_neg h]

/-- The modulation of one batch in one column. -/
def cell {n : ℕ} (C : FVec Ideal S8x1024 .f32) (W : Fin 1024 → Fin n → EReal) (B : Fin n → EReal) (r : Fin 8) (j : Fin n) : EReal :=
  (∑ k : Fin 1024, gate (C (ix2 r k)) * W k j) + B j

/-- The whole modulation. -/
def whole (C : FVec Ideal S8x1024 .f32) (W : FVec Ideal S1024x6144 .f32) (B : FVec Ideal S6144 .f32) : FVec Ideal S8x6144 .f32 := fun i =>
  cell C (fun k j => W (ix2 k j)) (fun j => B (ix1 j)) (i 0) (i 1)

/-- The whole modulation at an index. -/
theorem whole_apply (C : FVec Ideal S8x1024 .f32) (W : FVec Ideal S1024x6144 .f32) (B : FVec Ideal S6144 .f32) (r : Fin 8) (j : Fin 6144) :
    (whole C W B (ix2 r j) : EReal) = cell C (fun k j => W (ix2 k j)) (fun j => B (ix1 j)) r j := rfl

/-! ## The kernel's body -/

/-- What the body stores, at an index. -/
theorem pay_apply (C : FVec Ideal S8x1024 .f32) (W : FVec Ideal S1024x1536 .f32) (B : FVec Ideal S1x1536 .f32) (r : Fin 8) (j : Fin 1536) :
    (k0_pay1 (F := Ideal) C W B (ix2 r j) : EReal) = cell C (fun k j => W (ix2 k j)) (fun j => B (ix2 0 j)) r j := by
  unfold cell gate
  pointwise [k0_pay1]
  simp only [div_eq, zero_sub]

/-- The block of columns `n` of an array. -/
def colsBlk {a : ℕ} (W : Vec Ideal ⟨2, ![a, 6144]⟩ .f32) (n : Fin 4) : Vec Ideal ⟨2, ![a, 1536]⟩ .f32 := fun y =>
  have h1 : (y 1).val < 1536 := (y 1).isLt
  W (ix2 (y 0) ⟨1536 * n.val + (y 1).val, by omega⟩)

/-- An index of a rectangle over a whole array is that index. -/
theorem emb_all {a b : ℕ} (inb : ∀ i, (![0, 0] : Fin 2 → ℕ) i + (![a, b] : Fin 2 → ℕ) i ≤ (⟨2, ![a, b]⟩ : Shape).size i)
    (x : (⟨2, ![a, b]⟩ : Shape).Idx) : (Rect.unit (s := ⟨2, ![a, b]⟩) ![0, 0] ![a, b] inb).emb x = x :=
  funext fun i => Fin.ext (by
    match i with
    | ⟨0, _⟩ => show 0 + 1 * (x 0).val = (x 0).val; omega
    | ⟨1, _⟩ => show 0 + 1 * (x 1).val = (x 1).val; omega)

/-- A load of a whole array is the array. -/
theorem ld_all {a b : ℕ} (X : Vec Ideal ⟨2, ![a, b]⟩ .f32)
    (inb : ∀ i, (![0, 0] : Fin 2 → ℕ) i + (![a, b] : Fin 2 → ℕ) i ≤ (⟨2, ![a, b]⟩ : Shape).size i) :
    View.ld X (Rect.unit (s := ⟨2, ![a, b]⟩) ![0, 0] ![a, b] inb) = X :=
  funext fun x => congrArg X (emb_all inb x)

/-- What the body leaves, from the condition and a block of columns. -/
theorem out_block (C : FVec Ideal S8x1024 .f32) (W : FVec Ideal S1024x6144 .f32) (B : FVec Ideal S1x6144 .f32) (n : Fin 4) (r : Fin 8)
    (j : Fin 1536) :
    (out0_3 (F := Ideal) C (colsBlk W n) (colsBlk B n) (ix2 r j) : EReal)
      = cell C (fun k j => W (ix2 k j)) (fun j => B (ix2 0 j)) r ⟨1536 * n.val + j.val, by omega⟩ := by
  have e : out0_3 (F := Ideal) C (colsBlk W n) (colsBlk B n) = k0_pay1 C (colsBlk W n) (colsBlk B n) := by
    funext y
    rw [out0_3, ld_all C, ld_all (colsBlk W n), ld_all (colsBlk B n)]
    generalize k0_pay1 C (colsBlk W n) (colsBlk B n) = P
    refine View.canon_apply_of_pieces _ _ ?_ y (cover0_3 _ y)
    intro p hp
    simp only [List.mem_cons, List.not_mem_nil, or_false] at hp
    rcases hp with rfl
    exact fun x => congrArg P (emb_all inb_S8x1536_S8x1536_0_0 x).symm
  rw [e, pay_apply, cell, cell]
  exact congrArg₂ (· + ·) (Finset.sum_congr rfl fun k _ => rfl) rfl

/-! ## The result array -/

section Value

variable (m : (ℓ : Loc nD τ sig) → Buf (Elt Ideal) ℓ) (ρ : Dev nD → PrngReg)

/-- The index maps. -/
theorem index_at : ∀ t : Fin cfg0.N, (win0_0.index t (0 : Fin 2) = 0 ∧ win0_0.index t (1 : Fin 2) = 0)
    ∧ (win0_1.index t (0 : Fin 2) = 0 ∧ win0_1.index t (1 : Fin 2) = t.val) ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- The block of columns of a grid point. -/
abbrev ptN (t : Fin cfg0.N) : Fin 4 := ⟨t.val, lt_of_lt_of_eq t.isLt N_0⟩

/-- The condition. -/
theorem iblk0_eq (c : Dev nD) (t : Fin cfg0.N) : iblk m c 0 t = V m c main_arg0 := by
  obtain ⟨⟨e0, e1⟩, _⟩ := index_at t
  funext y
  show V m c main_arg0 (((cfg0.win 0).blk t).view.emb y) = V m c main_arg0 y
  congr 1
  funext a; apply Fin.ext
  match a with
  | ⟨0, _⟩ => show win0_0.index t (0 : Fin 2) * 8 + 1 * (y 0).val = (y 0).val; omega
  | ⟨1, _⟩ => show win0_0.index t (1 : Fin 2) * 1024 + 1 * (y 1).val = (y 1).val; omega

/-- The columns of the weights. -/
theorem iblk1_eq (c : Dev nD) (t : Fin cfg0.N) : iblk m c 1 t = colsBlk (V m c main_arg1) (ptN t) := by
  obtain ⟨_, ⟨e0, e1⟩, _⟩ := index_at t
  funext y
  show V m c main_arg1 (((cfg0.win 1).blk t).view.emb y) = V m c main_arg1 (ix2 _ _)
  congr 1
  funext a; apply Fin.ext
  match a with
  | ⟨0, _⟩ => show win0_1.index t (0 : Fin 2) * 1024 + 1 * (y 0).val = (y 0).val; omega
  | ⟨1, _⟩ => show win0_1.index t (1 : Fin 2) * 1536 + 1 * (y 1).val = 1536 * t.val + (y 1).val; omega

/-- The columns of the bias. -/
theorem iblk2_eq (c : Dev nD) (t : Fin cfg0.N) : iblk m c 2 t = colsBlk (V m c main_v0) (ptN t) := by
  obtain ⟨_, _, ⟨e0, e1⟩, _⟩ := index_at t
  funext y
  show V m c main_v0 (((cfg0.win 2).blk t).view.emb y) = V m c main_v0 (ix2 _ _)
  congr 1
  funext a; apply Fin.ext
  match a with
  | ⟨0, _⟩ => show win0_2.index t (0 : Fin 2) * 1 + 1 * (y 0).val = (y 0).val; omega
  | ⟨1, _⟩ => show win0_2.index t (1 : Fin 2) * 1536 + 1 * (y 1).val = 1536 * t.val + (y 1).val; omega

/-- The bias as the region finds it, at an index. -/
theorem V_bias (c : Dev nD) (j : Fin 6144) : ((V m c main_v0 : FVec Ideal S1x6144 .f32) (ix2 0 j) : EReal) = (m ((c : Thread nD τ).loc main_arg2) : FVec Ideal S6144 .f32) (ix1 j) := by
  have e : V m c main_v0 = shapeCast S1x6144 (m ((c : Thread nD τ).loc main_arg2) : FVec Ideal S6144 .f32) shapeCasts_S6144_S1x6144 := by
    unfold V
    simp only [hostOps0, List.flatten_cons, List.flatten_nil, List.append_nil, List.cons_append, List.nil_append]
    after_results_simp
    rfl
  exact (congrFun e _).trans (ValueIdx.shapeCast_a_1a_apply _ _ 0 j)

/-- An index of a block of the result, in the array. -/
theorem emb3 (t : Fin cfg0.N) (y : S8x1536.Idx) : ((cfg0.win 3).blk t).view.emb y
    = (ix2 (y 0) ⟨1536 * t.val + (y 1).val, by have h : (y 1).val < 1536 := (y 1).isLt; have h4 : t.val < 4 := (ptN t).isLt; omega⟩ : S8x6144.Idx) := by
  obtain ⟨_, _, _, ⟨e0, e1⟩⟩ := index_at t
  funext a; apply Fin.ext
  match a with
  | ⟨0, _⟩ => show win0_3.index t (0 : Fin 2) * 8 + 1 * (y 0).val = (y 0).val; omega
  | ⟨1, _⟩ => show win0_3.index t (1 : Fin 2) * 1536 + 1 * (y 1).val = 1536 * t.val + (y 1).val; omega

/-- The modulation of the arguments. -/
def result (c : Dev nD) : FVec Ideal S8x6144 .f32 :=
  whole (m ((c : Thread nD τ).loc main_arg0)) (m ((c : Thread nD τ).loc main_arg1)) (m ((c : Thread nD τ).loc main_arg2))

/-- What a grid point writes back is its block of the modulation. -/
theorem flushed_eq (c : Dev nD) (t : Fin cfg0.N) :
    (dats m 0 c).flushed 3 t = ((cfg0.win 3).blk t).view.read (Elt Ideal) (result m c) := by
  refine (Value.flushed3 m c t).trans ?_
  rw [iblk0_eq, iblk1_eq, iblk2_eq]
  funext y
  obtain ⟨r, j, rfl⟩ : ∃ (r : Fin 8) (j : Fin 1536), y = ix2 r j := ⟨y 0, y 1, funext fun a => match a with | ⟨0, _⟩ => rfl | ⟨1, _⟩ => rfl⟩
  refine (out_block _ _ _ (ptN t) r j).trans ?_
  refine Eq.trans ?_ (congrArg (result m c) (emb3 t (ix2 r j))).symm
  rw [funext (V_bias m c), V_main_arg0, V_main_arg1]
  exact (whole_apply _ _ _ _ _).symm

/-- The result array after the run. -/
theorem final (c : Dev nD) : (dats m 0 c).arrAt 3 cfg0.N = result m c :=
  (dats m 0 c).arrAt_eq_of_cover 3 (result m c) (fun t _ => flushed_eq m c t) fun i =>
    have h1 : (i 1).val < 6144 := (i 1).isLt
    have ht : (i 1).val / 1536 < grid0.N := by rw [N_0]; omega
    ⟨⟨(i 1).val / 1536, ht⟩, flush0_3 _, Eq.mp (congrArg (· ∈ ((cfg0.win 3).blk ⟨(i 1).val / 1536, ht⟩).view.set)
        ((emb3 ⟨(i 1).val / 1536, ht⟩ (ix2 (i 0) ⟨(i 1).val % 1536, Nat.mod_lt _ (by omega)⟩)).trans (funext fun a => Fin.ext (by
          match a with
          | ⟨0, _⟩ => rfl
          | ⟨1, _⟩ => show 1536 * ((i 1).val / 1536) + (i 1).val % 1536 = (i 1).val; omega))))
      (((cfg0.win 3).blk ⟨(i 1).val / 1536, ht⟩).view.emb_mem_set _)⟩

/-- The run of the program, with its result named. -/
theorem run_whole : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Value

/-! ## The reference -/

/-- The reference's result. -/
def out (C : FVec Ideal S8x1024 .f32) (W : FVec Ideal S1024x6144 .f32) (B : FVec Ideal S6144 .f32) : FVec Ideal S8x6144 .f32 :=
  addf (Host.dotGeneral (φ₁ := .f32) (φ₂ := .f32) Cert.Reference4Ideal.dot_S8x1024_S1024x6144_S8x6144_1_0_0_1_n_n none
    (mulf C (Host.divf (broadcastInDim S8x1024 ![] Cert.Reference4Ideal.Gen.bcast_S_S8x1024 (constant Cert.Reference4Ideal.S_ .f32 0x3F800000#32))
      (addf (broadcastInDim S8x1024 ![] Cert.Reference4Ideal.Gen.bcast_S_S8x1024 (constant Cert.Reference4Ideal.S_ .f32 0x3F800000#32))
        (Host.exp (Host.negf C))))) W)
    (broadcastInDim S8x6144 ![0, 1] Cert.Reference4Ideal.Gen.bcast_S1x6144_S8x6144_0_1
      (broadcastInDim S1x6144 ![1] Cert.Reference4Ideal.Gen.bcast_S6144_S1x6144_1 B))

/-- The reference's result is the whole modulation. -/
theorem out_eq (C : FVec Ideal S8x1024 .f32) (W : FVec Ideal S1024x6144 .f32) (B : FVec Ideal S6144 .f32) : out C W B = whole C W B := by
  funext i
  obtain ⟨r, j, rfl⟩ : ∃ r j, i = ix2 r j := ⟨i 0, i 1, funext fun a => match a with | ⟨0, _⟩ => rfl | ⟨1, _⟩ => rfl⟩
  show _ = cell C (fun k j => W (ix2 k j)) (fun j => B (ix1 j)) r j
  unfold cell gate
  pointwise [out]
  simp only [div_eq, one_mul]

/-! ## The claims -/

/-- The fourth reference runs, leaves its arguments and no counter above zero. -/
theorem frame_ref : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The fourth kernel's result is the fourth reference's. -/
theorem algebraic : Cert.algebraic_Kernel4Ideal_Reference4Ideal := by
  intro m ρ m' ρ' _ hagree
  refine ⟨fun c => result m c, run_whole m ρ, ?_⟩
  refine (θ_run Cert.Reference4Ideal.defs _ _).mono (fun _ h c => ⟨(h c).1.trans ?_, (h c).2⟩) (Cert.Reference4Ideal.Value.run m' ρ')
  obtain ⟨e0, e1, e2⟩ := hagree c
  rw [e0, e1, e2]
  exact out_eq _ _ _

end Cert.AdaClaim

end
-- ==== Proof.PostBlock.lean ====
/-
  What the body after the attentions leaves in its first two output blocks, entry by entry, as formulas in the blocks it reads.
-/
module

public import proofs.«01_k».proof.Proof.Gen.Kernel5Ideal.Value
public import proofs.«01_k».proof.Proof.PreBlock
public import Idealize.ShloMosaic.Lib.Pointwise
public import Idealize.ShloMosaic.Lib.WholeRead
public import Idealize.ShloMosaic.Lib.ValueLayout

@[expose] public section

set_option maxRecDepth 16384

noncomputable section

namespace Cert.Post

open Idealize.ShloMosaic Idealize.ShloMosaic.TcCoe
open Cert.Kernel5Ideal Cert.Kernel5Ideal.Gen
open Cert.Pre (modulated)

/-! ## The formulas of one row -/

/-- The two attentions' results of a row, one behind the other. -/
def mixed (a b : Fin 512 → EReal) (k : Fin 1024) : EReal :=
  if h : k.val < 512 then a ⟨k.val, h⟩ else b ⟨k.val - 512, by omega⟩

/-- A row plus its gated product. -/
def joined (x g : Fin 1024 → EReal) (a b : Fin 512 → EReal) (W : Fin 1024 → Fin 1024 → EReal) (j : Fin 1024) : EReal :=
  x j + g j * ∑ k : Fin 1024, mixed a b k * W k j

/-! ## The body's values at an index -/

/-- The row plus its gated product, at an index. -/
theorem pay8_apply (v5 : FVec Ideal S1x1x1024 .f32) (v11 v13 : FVec Ideal S1x512x512 .bf16) (v16 : FVec Ideal S1024x1024 .bf16)
    (v18 : FVec Ideal S1x512x1024 .f32) (r : Fin 512) (j : Fin 1024) :
    (k0_pay8 (F := Ideal) v5 v11 v13 v16 v18 (ix2 r j) : EReal)
      = joined (fun k => v18 (ix3 0 r k)) (fun k => v5 (ix3 0 0 k)) (fun k => v11 (ix3 0 r k)) (fun k => v13 (ix3 0 r k))
          (fun k j => v16 (ix2 k j)) j := by
  unfold joined mixed
  pointwise [k0_pay8]

/-- The row normalised and modulated, at an index. -/
theorem pay10_apply (v8 v10 : FVec Ideal S1x1024 .f32) (v22 : FVec Ideal S512x1024 .f32) (v26 : FVec Ideal S1x1024 .f32)
    (r : Fin 512) (j : Fin 1024) :
    (k0_pay10 (F := Ideal) v8 v10 v22 v26 (ix2 r j) : EReal)
      = modulated (fun k => v22 (ix2 r k)) (fun k => v8 (ix2 0 k)) (fun k => v10 (ix2 0 k)) (fun k => v26 (ix2 0 k)) j := by
  unfold modulated
  pointwise [k0_pay10]

section Run

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x6x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S40x1024 .f32) (harg8 : arg8.IsWhole) (arg9 : Memref sig .tc .vmem S40x1 .f32) (harg9 : arg9.IsWhole) (arg10 : Memref sig .tc .vmem S1x512x1024 .f32) (harg10 : arg10.IsWhole) (arg11 : Memref sig .tc .vmem S4096x128 .f32) (harg11 : arg11.IsWhole) (arg12 : Memref sig .tc .vmem S1x4x512 .i32) (harg12 : arg12.IsWhole) (arg13 : Memref sig .tc .vmem S1x2x512 .f32) (harg13 : arg13.IsWhole) (arg14 : Memref sig .tc .vmem S32x128 .f32) (harg14 : arg14.IsWhole) (arg15 : Memref sig .tc .vmem S32x128 .f32) (harg15 : arg15.IsWhole)
  (x0 : Vec Ideal S1x512x1024 .f32) (x1 x2 : Vec Ideal S1x512x512 .bf16) (x3 : Vec Ideal S1x6x1024 .f32) (x4 : Vec Ideal S1024x1024 .bf16)
  (x5 : Vec Ideal S1x1024 .f32) (x6 : Vec Ideal S40x1024 .f32) (x7 : Vec Ideal S40x1 .f32) (xs : Vec Ideal S32x128 .f32)

/-- A row of the sum. -/
def sumRow (r : Fin 512) : Fin 1024 → EReal :=
  joined (fun k => x0 (ix3 0 r k)) (fun k => x3 (ix3 0 2 k)) (fun k => x1 (ix3 0 r k)) (fun k => x2 (ix3 0 r k)) (fun k j => x4 (ix2 k j))

/-- The block of the sum. -/
def sumBlk : Vec Ideal S1x512x1024 .f32 := fun y => sumRow x0 x1 x2 x3 x4 (y 1) (y 2)

/-- The block of the normalised rows, each in eight lines of 128. -/
def normBlk : Vec Ideal S4096x128 .f32 := fun y =>
  have h0 : (y 0).val < 4096 := (y 0).isLt
  have h1 : (y 1).val < 128 := (y 1).isLt
  modulated (sumRow x0 x1 x2 x3 x4 ⟨(y 0).val / 8, by omega⟩) (fun k => x3 (ix3 0 3 k)) (fun k => x3 (ix3 0 4 k)) (fun k => x5 (ix2 0 k))
    ⟨128 * ((y 0).val % 8) + (y 1).val, by omega⟩

/-- Row `q` of the modulation. -/
def modRow (q : Fin 6) : Vec Ideal S1x1x1024 .f32 := fun y => x3 (ix3 0 q (y 2))

/-- What the body stores first is the sum's block. -/
theorem sum_piece (x : S1x512x1024.Idx) : (k0_pay9 (F := Ideal) (modRow x3 2) x1 x2 x4 x0 x : EReal) = sumBlk x0 x1 x2 x3 x4 x := by
  obtain ⟨u, r, j, rfl⟩ : ∃ (u : Fin 1) (r : Fin 512) (j : Fin 1024), x = ix3 u r j :=
    ⟨x 0, x 1, x 2, funext fun a => match a with | ⟨0, _⟩ => rfl | ⟨1, _⟩ => rfl | ⟨2, _⟩ => rfl⟩
  rw [k0_pay9]
  refine (ValueIdx.shapeCast_ab_1ab_apply _ _ u r j).trans ?_
  exact pay8_apply _ _ _ _ _ r j

/-- What the body stores second is the normalised rows' block. -/
theorem norm_piece (x : S4096x128.Idx) :
    (k0_pay11 (F := Ideal) (k0_pay6 (modRow x3 3)) (k0_pay7 (modRow x3 4)) (k0_pay8 (modRow x3 2) x1 x2 x4 x0) x5 x : EReal)
      = normBlk x0 x1 x2 x3 x4 x5 x := by
  have h0 : (x 0).val < 4096 := (x 0).isLt
  have h1 : (x 1).val < 128 := (x 1).isLt
  rw [k0_pay11]
  refine (shapeCast_apply _ _ x (ix2 ⟨(x 0).val / 8, by omega⟩ ⟨128 * ((x 0).val % 8) + (x 1).val, by omega⟩) ?_).trans ?_
  · rw [Shape.rowMajor_val_two, Shape.rowMajor_val_two]
    show (x 0).val / 8 * 1024 + (128 * ((x 0).val % 8) + (x 1).val) = (x 0).val * 128 + (x 1).val
    omega
  refine (pay10_apply _ _ _ _ _ _).trans ?_
  have e6 : ∀ k : Fin 1024, (k0_pay6 (F := Ideal) (modRow x3 3) (ix2 0 k) : EReal) = x3 (ix3 0 3 k) := fun k => by
    pointwise [k0_pay6, modRow]
  have e7 : ∀ k : Fin 1024, (k0_pay7 (F := Ideal) (modRow x3 4) (ix2 0 k) : EReal) = x3 (ix3 0 4 k) := fun k => by
    pointwise [k0_pay7, modRow]
  have e8 : ∀ (r : Fin 512) (k : Fin 1024), (k0_pay8 (F := Ideal) (modRow x3 2) x1 x2 x4 x0 (ix2 r k) : EReal) = sumRow x0 x1 x2 x3 x4 r k :=
    fun r k => pay8_apply _ _ _ _ _ r k
  rw [funext e6, funext e7, funext (e8 _)]
  rfl

/-- A load of a row of the modulation is that row. -/
theorem load_row (q : Fin 6) (inb) :
    View.readAt (Elt Ideal) arg5.view (Rect.unit (s := S1x6x1024) ![0, q.val, 0] S1x1x1024.size inb).toLoadRect (harg5.unread x3) = modRow x3 q := by
  funext y
  refine (Memref.IsWhole.readAt_unread _ _ _ _).trans ?_
  unfold modRow
  congr 1
  funext a; apply Fin.ext
  match a with
  | 0 => show 0 + 1 * (y 0).val = 0; have h0 : (y 0).val < 1 := (y 0).isLt; omega
  | 1 => show q.val + 1 * (y 1).val = q.val; have h0 : (y 1).val < 1 := (y 1).isLt; omega
  | 2 => show 0 + 1 * (y 2).val = (y 2).val; omega

/-- A load of a whole block is the block. -/
theorem load_whole {s : Shape} {e : EltTy} (M : Memref sig .tc .vmem s e) (hM : M.IsWhole) (X : Vec Ideal s e) {off : Fin s.rank → ℕ}
    (ho : off = fun _ => 0) (inb) : View.readAt (Elt Ideal) M.view (Rect.unit (s := s) off s.size inb).toLoadRect (hM.unread X) = X :=
  (congrArg (fun Y => View.ld Y (Rect.unit (s := s) off s.size inb)) (hM.read_unread X)).trans (View.ld_unit_zero ho inb X)

/-- Three zeros. -/
theorem zeros3 : (![0, 0, 0] : Fin 3 → ℕ) = fun _ => 0 := by decide
/-- Two zeros. -/
theorem zeros2 : (![0, 0] : Fin 2 → ℕ) = fun _ => 0 := by decide

/-- An index of the whole rectangle is that index. -/
theorem emb_whole {s : Shape} {off : Fin s.rank → ℕ} (ho : off = fun _ => 0) (inb) (x : s.Idx) :
    (Rect.unit (s := s) off s.size inb).emb x = x := by
  subst ho; exact Rect.emb_whole_apply _ x

/-- At the first point the first output block is the sum's. -/
theorem outA8_eq (hc0 : cond0_0 i) : out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
    = sumBlk x0 x1 x2 x3 x4 := by
  funext y
  rw [out0_A_8, View.read_writes_junk_eq_canon]
  refine View.canon_apply_of_pieces _ _ ?_ y (cover0_A_8 _ _ _ _ _ _ _ _ _ _ _ _ _ _ _ _ _ _ _ _ _ _ _ _ _ _ _ _ _ _ _ _ _ _ _ _ _ _ _ y)
  delta kernelRun0_A
  dsimp only
  intro p hp
  simp only [List.mem_cons, List.not_mem_nil, or_false] at hp
  rcases hp with rfl
  intro x
  dsimp only
  rw [load_whole arg2 harg2 x0 zeros3, load_whole arg3 harg3 x1 zeros3, load_whole arg4 harg4 x2 zeros3, load_whole arg6 harg6 x4 zeros2]
  refine (congrFun (congrArg (fun g => k0_pay9 (F := Ideal) g x1 x2 x4 x0) (load_row arg5 harg5 x3 2 _)) x).trans ?_
  refine (sum_piece x0 x1 x2 x3 x4 x).trans ?_
  exact congrArg (sumBlk x0 x1 x2 x3 x4) (emb_whole zeros3 _ x).symm

/-- At a later point too. -/
theorem outB8_eq (hc0 : ¬cond0_0 i) : out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs
    = sumBlk x0 x1 x2 x3 x4 := by
  funext y
  rw [out0_B_8, View.read_writes_junk_eq_canon]
  refine View.canon_apply_of_pieces _ _ ?_ y (cover0_B_8 _ _ _ _ _ _ _ _ _ _ _ _ _ _ _ _ _ _ _ _ _ _ _ _ _ _ _ _ _ _ _ _ _ _ _ _ _ _ _ _ y)
  delta kernelRun0_B
  dsimp only
  intro p hp
  simp only [List.mem_cons, List.not_mem_nil, or_false] at hp
  rcases hp with rfl
  intro x
  dsimp only
  rw [load_whole arg2 harg2 x0 zeros3, load_whole arg3 harg3 x1 zeros3, load_whole arg4 harg4 x2 zeros3, load_whole arg6 harg6 x4 zeros2]
  refine (congrFun (congrArg (fun g => k0_pay9 (F := Ideal) g x1 x2 x4 x0) (load_row arg5 harg5 x3 2 _)) x).trans ?_
  refine (sum_piece x0 x1 x2 x3 x4 x).trans ?_
  exact congrArg (sumBlk x0 x1 x2 x3 x4) (emb_whole zeros3 _ x).symm

/-- At the first point the second output block is the normalised rows'. -/
theorem outA9_eq (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
    = normBlk x0 x1 x2 x3 x4 x5 := by
  funext y
  rw [out0_A_9, View.read_writes_junk_eq_canon]
  refine View.canon_apply_of_pieces _ _ ?_ y (cover0_A_9 _ _ _ _ _ _ _ _ _ _ _ _ _ _ _ _ _ _ _ _ _ _ _ _ _ _ _ _ _ _ _ _ _ _ _ _ _ _ _ y)
  delta kernelRun0_A
  dsimp only
  intro p hp
  simp only [List.mem_cons, List.not_mem_nil, or_false] at hp
  rcases hp with rfl
  intro x
  dsimp only
  have e0 : kernelRun0_A.sl.r (F := Ideal) c arg5 harg5 x3 = k0_pay6 (modRow x3 3) := congrArg k0_pay6 (load_row arg5 harg5 x3 3 _)
  have e1 : kernelRun0_A.sl.r_1 (F := Ideal) c arg5 harg5 x3 = k0_pay7 (modRow x3 4) := congrArg k0_pay7 (load_row arg5 harg5 x3 4 _)
  have e2 : kernelRun0_A.sl.r_2 (F := Ideal) c arg2 harg2 arg3 harg3 arg4 harg4 arg5 harg5 arg6 harg6 x0 x1 x2 x3 x4
      = k0_pay8 (modRow x3 2) x1 x2 x4 x0 := by
    unfold kernelRun0_A.sl.r_2
    rw [load_whole arg2 harg2 x0 zeros3, load_whole arg3 harg3 x1 zeros3, load_whole arg4 harg4 x2 zeros3, load_whole arg6 harg6 x4 zeros2]
    exact congrArg (fun g => k0_pay8 (F := Ideal) g x1 x2 x4 x0) (load_row arg5 harg5 x3 2 _)
  have e3 : kernelRun0_A.sl.r_3 (F := Ideal) c arg7 harg7 x5 = x5 := load_whole arg7 harg7 x5 zeros2 _
  rw [e0, e1, e2, e3]
  refine (norm_piece x0 x1 x2 x3 x4 x5 x).trans ?_
  exact congrArg (normBlk x0 x1 x2 x3 x4 x5) (emb_whole zeros2 _ x).symm

/-- At a later point too. -/
theorem outB9_eq (hc0 : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs
    = normBlk x0 x1 x2 x3 x4 x5 := by
  funext y
  rw [out0_B_9, View.read_writes_junk_eq_canon]
  refine View.canon_apply_of_pieces _ _ ?_ y (cover0_B_9 _ _ _ _ _ _ _ _ _ _ _ _ _ _ _ _ _ _ _ _ _ _ _ _ _ _ _ _ _ _ _ _ _ _ _ _ _ _ _ _ y)
  delta kernelRun0_B
  dsimp only
  intro p hp
  simp only [List.mem_cons, List.not_mem_nil, or_false] at hp
  rcases hp with rfl
  intro x
  dsimp only
  have e0 : kernelRun0_B.sl.r (F := Ideal) c arg5 harg5 x3 = k0_pay6 (modRow x3 3) := congrArg k0_pay6 (load_row arg5 harg5 x3 3 _)
  have e1 : kernelRun0_B.sl.r_1 (F := Ideal) c arg5 harg5 x3 = k0_pay7 (modRow x3 4) := congrArg k0_pay7 (load_row arg5 harg5 x3 4 _)
  have e2 : kernelRun0_B.sl.r_2 (F := Ideal) c arg2 harg2 arg3 harg3 arg4 harg4 arg5 harg5 arg6 harg6 x0 x1 x2 x3 x4
      = k0_pay8 (modRow x3 2) x1 x2 x4 x0 := by
    unfold kernelRun0_B.sl.r_2
    rw [load_whole arg2 harg2 x0 zeros3, load_whole arg3 harg3 x1 zeros3, load_whole arg4 harg4 x2 zeros3, load_whole arg6 harg6 x4 zeros2]
    exact congrArg (fun g => k0_pay8 (F := Ideal) g x1 x2 x4 x0) (load_row arg5 harg5 x3 2 _)
  have e3 : kernelRun0_B.sl.r_3 (F := Ideal) c arg7 harg7 x5 = x5 := load_whole arg7 harg7 x5 zeros2 _
  rw [e0, e1, e2, e3]
  refine (norm_piece x0 x1 x2 x3 x4 x5 x).trans ?_
  exact congrArg (normBlk x0 x1 x2 x3 x4 x5) (emb_whole zeros2 _ x).symm

end Run

end Cert.Post

end
-- ==== Proof.PostRef.lean ====
/- The fifth reference's results, read at an index. -/
module

public import proofs.«01_k».proof.Proof.Gen.Reference5Ideal.Run
public import proofs.«01_k».proof.Proof.PostBlock

@[expose] public section

set_option maxRecDepth 16384

noncomputable section

namespace Cert.PostRef

open Idealize.ShloMosaic Idealize.ShloMosaic.TcCoe Idealize.SL.Sem
open Cert.Reference5Ideal Cert.Reference5Ideal.Gen
open Cert.Pre (modulated)
open Cert.Post (mixed joined)

/-- The tokens plus the gated product of the two attentions' results. -/
def sumArr (X : FVec Ideal S8x8192x1024 .f32) (A B : FVec Ideal S8x8192x512 .bf16) (M : FVec Ideal S8x6x1024 .f32)
    (W : FVec Ideal S1024x1024 .bf16) : FVec Ideal S8x8192x1024 .f32 :=
  addf X (mulf (broadcastInDim S8x8192x1024 ![0, 1, 2] bcast_S8x1x1024_S8x8192x1024_0_1_2
      (extractStridedSlice S8x1x1024 ![0, 2, 0] M slices_S8x6x1024_S8x1x1024_0_2_0))
    (Host.dotGeneral (φ₁ := .f32) (φ₂ := .f32) dot_S8x8192x1024_S1024x1024_S8x8192x1024_2_0_01_1_n_n none
      (extf .f32 (concatenate S8x8192x1024 2 [⟨S8x8192x512, A⟩, ⟨S8x8192x512, B⟩] concatenates_S8x8192x512_S8x8192x512_S8x8192x1024_d2) bitsLt_bf16_f32)
      (extf .f32 W bitsLt_bf16_f32)))

/-- Rows divided by their root mean square, times the gain, then scaled and shifted. -/
def normArr (X : FVec Ideal S8x8192x1024 .f32) (M : FVec Ideal S8x6x1024 .f32) (G : FVec Ideal S1x1024 .f32) : FVec Ideal S8x8192x1024 .f32 :=
  addf (mulf (mulf (mulf X (broadcastInDim S8x8192x1024 ![0, 1, 2] bcast_S8x8192x1_S8x8192x1024_0_1_2
      (Host.rsqrt (addf (Host.divf (broadcastInDim S8x8192x1 ![0, 1] bcast_S8x8192_S8x8192x1_0_1
        (Host.reduceAdd (mulf X X) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![1, 2] bcast_S1x1024_S1x1x1024_1_2 G)))
    (broadcastInDim S8x8192x1024 ![0, 1, 2] bcast_S8x1x1024_S8x8192x1024_0_1_2
      (addf (broadcastInDim S8x1x1024 ![] bcast_S_S8x1x1024 (constant S_ .f32 0x3F800000#32))
        (extractStridedSlice S8x1x1024 ![0, 4, 0] M slices_S8x6x1024_S8x1x1024_0_4_0))))
    (broadcastInDim S8x8192x1024 ![0, 1, 2] bcast_S8x1x1024_S8x8192x1024_0_1_2
      (extractStridedSlice S8x1x1024 ![0, 3, 0] M slices_S8x6x1024_S8x1x1024_0_3_0))

/-- The normalised rows, each in eight lines of 128. -/
def linesArr (X : FVec Ideal S8x8192x1024 .f32) : FVec Ideal S524288x128 .f32 :=
  shapeCast S524288x128 X shapeCasts_S8x8192x1024_S524288x128

/-- The sum at an index. -/
theorem sumArr_apply (X : FVec Ideal S8x8192x1024 .f32) (A B : FVec Ideal S8x8192x512 .bf16) (M : FVec Ideal S8x6x1024 .f32)
    (W : FVec Ideal S1024x1024 .bf16) (b : Fin 8) (s : Fin 8192) (j : Fin 1024) :
    (sumArr X A B M W (ix3 b s j) : EReal)
      = joined (fun k => X (ix3 b s k)) (fun k => M (ix3 b 2 k)) (fun k => A (ix3 b s k)) (fun k => B (ix3 b s k)) (fun k j => W (ix2 k j)) j := by
  unfold joined mixed
  pointwise [sumArr]

/-- The normalised rows at an index. -/
theorem normArr_apply (X : FVec Ideal S8x8192x1024 .f32) (M : FVec Ideal S8x6x1024 .f32) (G : FVec Ideal S1x1024 .f32)
    (b : Fin 8) (s : Fin 8192) (j : Fin 1024) :
    (normArr X M G (ix3 b s j) : EReal)
      = modulated (fun k => X (ix3 b s k)) (fun k => M (ix3 b 3 k)) (fun k => M (ix3 b 4 k)) (fun k => G (ix2 0 k)) j := by
  unfold modulated
  pointwise [normArr]

/-- Line `8 (8192 b + s) + q` is the `q`-th piece of row `s` of batch `b`. -/
theorem linesArr_apply (X : FVec Ideal S8x8192x1024 .f32) (i : S524288x128.Idx) (b : Fin 8) (s : Fin 8192) (j : Fin 1024)
    (h : 128 * (i 0).val + (i 1).val = 1024 * (8192 * b.val + s.val) + j.val) :
    (linesArr X i : EReal) = X (ix3 b s j) := by
  refine shapeCast_apply _ _ i (ix3 b s j) ?_
  rw [Shape.rowMajor_val_two, Shape.rowMajor_val_three]
  show (b.val * 8192 + s.val) * 1024 + j.val = (i 0).val * 128 + (i 1).val
  omega

end Cert.PostRef

end
-- ==== Proof.PostRoute.lean ====
/-
  How a token's two experts are weighed: the largest entry of a row and the first place it stands at, the best group, its two
  best experts, and the weights — and the body's values that compute them, entry by entry.
-/
module

public import proofs.«01_k».proof.Proof.PostBlock

@[expose] public section

set_option maxRecDepth 16384

noncomputable section

namespace Cert.PostRoute

open Idealize.ShloMosaic Idealize.ShloMosaic.TcCoe
open Cert.Kernel5Ideal Cert.Kernel5Ideal.Gen
open Cert.Pre (modulated)

/-! ## The formulas of one row -/

/-- The largest entry. -/
def top {n : ℕ} (f : Fin n → EReal) : EReal := Finset.univ.sup f

/-- The first place of the largest entry, `N` where there is none. -/
def place {n : ℕ} (N : EReal) (f : Fin n → EReal) : EReal :=
  Finset.univ.inf fun k => if f k = top f then ((k.val : ℝ) : EReal) else N

section Row

variable (g : Fin 4 → EReal) (f : Fin 32 → EReal)

/-- The pattern of four. -/
abbrev four : EReal := Ideal.ofBits FTy.f32 0x40800000#32
/-- The pattern of thirty-two. -/
abbrev many : EReal := Ideal.ofBits FTy.f32 0x42000000#32
/-- The pattern of one. -/
abbrev unit : EReal := Ideal.ofBits FTy.f32 0x3F800000#32

/-- The best group's softmax weight. -/
def groupProb : EReal := Ideal.div unit (∑ k : Fin 4, Ideal.exp (g k - top g))

/-- The experts of the best group, the others at minus infinity. -/
def chosen (k : Fin 32) : EReal := if (((k.val / 8 : ℕ) : ℝ) : EReal) = place four g then f k else ⊥

/-- The chosen experts without the best. -/
def rest (k : Fin 32) : EReal := if ((k.val : ℝ) : EReal) = place many (chosen g f) then ⊥ else chosen g f k

/-- The second best against the best. -/
def odds : EReal := Ideal.exp (top (rest g f) - top (chosen g f))

/-- The two weights. -/
def weight (q : Fin 2) : EReal :=
  groupProb g * (if q.val = 0 then Ideal.div unit (unit + odds g f) else Ideal.div (odds g f) (unit + odds g f))

end Row

/-- The pattern of minus infinity denotes it. -/
theorem ofBits_bot : Ideal.ofBits FTy.f32 4286578688#32 = ⊥ := by
  simp [Ideal.ofBits, Ideal.ieee]

/-- The pattern of infinity denotes it. -/
theorem ofBits_top : Ideal.ofBits FTy.f32 2139095040#32 = ⊤ := by
  simp [Ideal.ofBits, Ideal.ieee]

/-- A small count read as a number. -/
theorem count_num (k : Fin 32) : (FloatOps.sitofp FTy.f32 (BitVec.ofNat 32 k.val) : Ideal FTy.f32) = (((k.val : ℝ)) : EReal) := by
  have h : (BitVec.ofNat 32 k.val).toInt = (k.val : ℤ) := (by decide : ∀ k : Fin 32, (BitVec.ofNat 32 k.val).toInt = (k.val : ℤ)) k
  show (((BitVec.ofNat 32 k.val).toInt : ℝ) : EReal) = _
  rw [h]
  norm_cast

/-- A group's number. -/
theorem group_num (k : Fin 32) : (FloatOps.sitofp FTy.f32 (BitVec.ofNat 32 (k.val / 8)) : Ideal FTy.f32) = ((((k.val / 8 : ℕ) : ℝ)) : EReal) :=
  count_num ⟨k.val / 8, by omega⟩

/-- A fold of minima from the greatest element is the infimum. -/
theorem fold_min {n : ℕ} (f : Fin n → EReal) : Finset.univ.fold min ⊤ f = Finset.univ.inf f := rfl

/-- A fold of maxima from the least element is the supremum. -/
theorem fold_max {n : ℕ} (f : Fin n → EReal) : Finset.univ.fold max ⊥ f = Finset.univ.sup f := rfl

/-! ## The body's values at an index -/

/-- The chosen experts. -/
theorem pay21_apply (v52 : FVec Ideal S32x512 .f32) (v63 : FVec Ideal S1x512 .f32) (k : Fin 32) (t : Fin 512) :
    (k0_pay21 (F := Ideal) v52 v63 (ix2 k t) : EReal) = if (((k.val / 8 : ℕ) : ℝ) : EReal) = v63 (ix2 0 t) then v52 (ix2 k t) else ⊥ := by
  pointwise [k0_pay21]
  rw [ofBits_bot, ← group_num k]
  have h : ∀ k : Fin 32, Scalar.select
              (IntOp.andi
                (IntOp.cmpi CmpIPredicate.ne
                  (IntOp.subi (BitVec.setWidth 32 (IntOp.cmpi CmpIPredicate.sgt (BitVec.ofNat 32 k.val) 0#32))
                    (BitVec.setWidth 32 (IntOp.cmpi CmpIPredicate.slt (BitVec.ofNat 32 k.val) 0#32)))
                  (Scalar.subi (Scalar.extui (Scalar.cmpi CmpIPredicate.sgt 8#32 0#32))
                    (Scalar.extui (Scalar.cmpi CmpIPredicate.slt 8#32 0#32))))
                (IntOp.cmpi CmpIPredicate.ne (IntOp.remsi ArithUnit.vector (BitVec.ofNat 32 k.val) 8#32) 0#32))
              (IntOp.subi (IntOp.divsi ArithUnit.vector (BitVec.ofNat 32 k.val) 8#32) 1#32)
              (IntOp.divsi ArithUnit.vector (BitVec.ofNat 32 k.val) 8#32) = BitVec.ofNat 32 (k.val / 8) := by
    decide
  rw [h k]

/-- The largest entry of each column. -/
theorem pay22_apply (v52 : FVec Ideal S32x512 .f32) (v63 : FVec Ideal S1x512 .f32) (t : Fin 512) :
    (k0_pay22 (F := Ideal) v52 v63 (ix2 0 t) : EReal) = top fun k => k0_pay21 (F := Ideal) v52 v63 (ix2 k t) := by
  unfold top
  pointwise [k0_pay22]
  rw [ofBits_bot]
  rfl

/-- The place of the largest entry of each column. -/
theorem pay23_apply (v52 : FVec Ideal S32x512 .f32) (v63 : FVec Ideal S1x512 .f32) (t : Fin 512) :
    (k0_pay23 (F := Ideal) v52 v63 (ix2 0 t) : EReal) = place many fun k => k0_pay21 (F := Ideal) v52 v63 (ix2 k t) := by
  unfold place
  pointwise [k0_pay23, k0_pay20]
  rw [ofBits_top, pay22_apply, fold_min]
  exact Finset.inf_congr rfl fun k _ => by rw [count_num k]

/-- Without the best. -/
theorem pay25_apply (v52 : FVec Ideal S32x512 .f32) (v63 : FVec Ideal S1x512 .f32) (k : Fin 32) (t : Fin 512) :
    (k0_pay25 (F := Ideal) v52 v63 (ix2 k t) : EReal)
      = if ((k.val : ℝ) : EReal) = k0_pay23 (F := Ideal) v52 v63 (ix2 0 t) then ⊥ else k0_pay21 (F := Ideal) v52 v63 (ix2 k t) := by
  pointwise [k0_pay25, k0_pay24, k0_pay20]
  rw [ofBits_bot, count_num k]

/-- The second largest entry of each column. -/
theorem pay26_apply (v52 : FVec Ideal S32x512 .f32) (v63 : FVec Ideal S1x512 .f32) (t : Fin 512) :
    (k0_pay26 (F := Ideal) v52 v63 (ix2 0 t) : EReal) = top fun k => k0_pay25 (F := Ideal) v52 v63 (ix2 k t) := by
  unfold top
  pointwise [k0_pay26]
  rw [ofBits_bot]
  rfl

/-- The two weights, one below the other. -/
theorem pay4_apply (v70 v103 v115 : FVec Ideal S1x512 .f32) (q : Fin 2) (t : Fin 512) :
    (k0_pay4 (F := Ideal) (k0_pay31 v70 v103 v115) (k0_pay32 v70 v103 v115) (ix3 0 q t) : EReal)
      = v70 (ix2 0 t) * (if q.val = 0 then Ideal.div unit (unit + Ideal.exp (v115 (ix2 0 t) - v103 (ix2 0 t)))
          else Ideal.div (Ideal.exp (v115 (ix2 0 t) - v103 (ix2 0 t))) (unit + Ideal.exp (v115 (ix2 0 t) - v103 (ix2 0 t)))) := by
  match q with
  | 0 => pointwise [k0_pay4, k0_pay31, k0_pay32, k0_pay30]
  | 1 => pointwise [k0_pay4, k0_pay31, k0_pay32, k0_pay30]

section Columns

variable (v8 v10 : FVec Ideal S1x1024 .f32) (v22 : FVec Ideal S512x1024 .f32) (v26 : FVec Ideal S1x1024 .f32)
  (v47 : FVec Ideal S40x1024 .f32) (v49 : FVec Ideal S40x1 .f32)

/-- The router's products at an index. -/
theorem pay12_apply (r : Fin 40) (t : Fin 512) :
    (k0_pay12 (F := Ideal) v8 v10 v22 v26 v47 v49 (ix2 r t) : EReal)
      = (∑ k : Fin 1024, v47 (ix2 r k) * k0_pay10 (F := Ideal) v8 v10 v22 v26 (ix2 t k)) + v49 (ix2 r 0) := by
  pointwise [k0_pay12]

/-- The experts' products. -/
theorem pay13_apply (k : Fin 32) (t : Fin 512) :
    (k0_pay13 (F := Ideal) v8 v10 v22 v26 v47 v49 (ix2 k t) : EReal)
      = k0_pay12 (F := Ideal) v8 v10 v22 v26 v47 v49 (ix2 ⟨k.val, by omega⟩ t) := by
  pointwise [k0_pay13]

/-- The groups' products. -/
theorem pay14_apply (k : Fin 4) (t : Fin 512) :
    (k0_pay14 (F := Ideal) v8 v10 v22 v26 v47 v49 (ix2 k t) : EReal)
      = k0_pay12 (F := Ideal) v8 v10 v22 v26 v47 v49 (ix2 ⟨32 + k.val, by omega⟩ t) := by
  pointwise [k0_pay14]

/-- The best group's product. -/
theorem pay15_apply (t : Fin 512) :
    (k0_pay15 (F := Ideal) v8 v10 v22 v26 v47 v49 (ix2 0 t) : EReal) = top fun k => k0_pay14 (F := Ideal) v8 v10 v22 v26 v47 v49 (ix2 k t) := by
  unfold top
  pointwise [k0_pay15]
  rw [ofBits_bot]
  rfl

/-- The best group. -/
theorem pay16_apply (t : Fin 512) :
    (k0_pay16 (F := Ideal) v8 v10 v22 v26 v47 v49 (ix2 0 t) : EReal) = place four fun k => k0_pay14 (F := Ideal) v8 v10 v22 v26 v47 v49 (ix2 k t) := by
  unfold place
  pointwise [k0_pay16]
  rw [ofBits_top, pay15_apply, fold_min]
  exact Finset.inf_congr rfl fun k _ => by rw [count_num ⟨k.val, by omega⟩]

/-- The best group's weight. -/
theorem pay19_apply (t : Fin 512) :
    (k0_pay19 (F := Ideal) (k0_pay17 v8 v10 v22 v26 v47 v49) k0_pay18 (ix2 0 t) : EReal)
      = groupProb fun k => k0_pay14 (F := Ideal) v8 v10 v22 v26 v47 v49 (ix2 k t) := by
  unfold groupProb
  pointwise [k0_pay19, k0_pay17, k0_pay18]
  rw [pay15_apply]

/-- What the body stores as weights, of the products. -/
theorem weight_cols (q : Fin 2) (t : Fin 512) :
    (k0_pay4 (F := Ideal)
      (k0_pay31 (k0_pay19 (k0_pay17 v8 v10 v22 v26 v47 v49) k0_pay18)
        (k0_pay22 (k0_pay13 v8 v10 v22 v26 v47 v49) (k0_pay16 v8 v10 v22 v26 v47 v49))
        (k0_pay26 (k0_pay13 v8 v10 v22 v26 v47 v49) (k0_pay16 v8 v10 v22 v26 v47 v49)))
      (k0_pay32 (k0_pay19 (k0_pay17 v8 v10 v22 v26 v47 v49) k0_pay18)
        (k0_pay22 (k0_pay13 v8 v10 v22 v26 v47 v49) (k0_pay16 v8 v10 v22 v26 v47 v49))
        (k0_pay26 (k0_pay13 v8 v10 v22 v26 v47 v49) (k0_pay16 v8 v10 v22 v26 v47 v49))) (ix3 0 q t) : EReal)
      = weight (fun k => k0_pay12 (F := Ideal) v8 v10 v22 v26 v47 v49 (ix2 ⟨32 + k.val, by omega⟩ t))
          (fun k => k0_pay12 (F := Ideal) v8 v10 v22 v26 v47 v49 (ix2 ⟨k.val, by omega⟩ t)) q := by
  have hg : (fun k : Fin 4 => (k0_pay14 (F := Ideal) v8 v10 v22 v26 v47 v49 (ix2 k t) : EReal))
      = fun k => k0_pay12 (F := Ideal) v8 v10 v22 v26 v47 v49 (ix2 ⟨32 + k.val, by omega⟩ t) := funext fun k => pay14_apply _ _ _ _ _ _ k t
  have h21 : (fun k : Fin 32 => (k0_pay21 (F := Ideal) (k0_pay13 v8 v10 v22 v26 v47 v49) (k0_pay16 v8 v10 v22 v26 v47 v49) (ix2 k t) : EReal))
      = chosen (fun k => k0_pay12 (F := Ideal) v8 v10 v22 v26 v47 v49 (ix2 ⟨32 + k.val, by omega⟩ t))
          (fun k => k0_pay12 (F := Ideal) v8 v10 v22 v26 v47 v49 (ix2 ⟨k.val, by omega⟩ t)) := by
    funext k
    rw [pay21_apply, pay16_apply, pay13_apply, hg]
    rfl
  have h25 : (fun k : Fin 32 => (k0_pay25 (F := Ideal) (k0_pay13 v8 v10 v22 v26 v47 v49) (k0_pay16 v8 v10 v22 v26 v47 v49) (ix2 k t) : EReal))
      = rest (fun k => k0_pay12 (F := Ideal) v8 v10 v22 v26 v47 v49 (ix2 ⟨32 + k.val, by omega⟩ t))
          (fun k => k0_pay12 (F := Ideal) v8 v10 v22 v26 v47 v49 (ix2 ⟨k.val, by omega⟩ t)) := by
    funext k
    rw [pay25_apply, pay23_apply, h21]
    exact if_congr Iff.rfl rfl (congrFun h21 k)
  rw [pay4_apply, pay19_apply, pay22_apply, pay26_apply, h21, h25, hg]
  rfl

end Columns

end Cert.PostRoute

end
-- ==== Proof.PostWeight.lean ====
/- The body's block of the experts' weights, as a formula in the blocks it reads. -/
module

public import proofs.«01_k».proof.Proof.PostRoute

@[expose] public section

set_option maxRecDepth 16384

noncomputable section

namespace Cert.PostRoute

open Idealize.ShloMosaic Idealize.ShloMosaic.TcCoe
open Cert.Kernel5Ideal Cert.Kernel5Ideal.Gen
open Cert.Pre (modulated)
open Cert.Post

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x6x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S40x1024 .f32) (harg8 : arg8.IsWhole) (arg9 : Memref sig .tc .vmem S40x1 .f32) (harg9 : arg9.IsWhole) (arg10 : Memref sig .tc .vmem S1x512x1024 .f32) (harg10 : arg10.IsWhole) (arg11 : Memref sig .tc .vmem S4096x128 .f32) (harg11 : arg11.IsWhole) (arg12 : Memref sig .tc .vmem S1x4x512 .i32) (harg12 : arg12.IsWhole) (arg13 : Memref sig .tc .vmem S1x2x512 .f32) (harg13 : arg13.IsWhole) (arg14 : Memref sig .tc .vmem S32x128 .f32) (harg14 : arg14.IsWhole) (arg15 : Memref sig .tc .vmem S32x128 .f32) (harg15 : arg15.IsWhole)
  (x0 : Vec Ideal S1x512x1024 .f32) (x1 x2 : Vec Ideal S1x512x512 .bf16) (x3 : Vec Ideal S1x6x1024 .f32) (x4 : Vec Ideal S1024x1024 .bf16)
  (x5 : Vec Ideal S1x1024 .f32) (x6 : Vec Ideal S40x1024 .f32) (x7 : Vec Ideal S40x1 .f32) (xs : Vec Ideal S32x128 .f32)

/-- A normalised and modulated row. -/
def normRow (t : Fin 512) : Fin 1024 → EReal :=
  modulated (sumRow x0 x1 x2 x3 x4 t) (fun k => x3 (ix3 0 3 k)) (fun k => x3 (ix3 0 4 k)) (fun k => x5 (ix2 0 k))

/-- The router's products of a row. -/
def logitRow (t : Fin 512) (r : Fin 40) : EReal := (∑ k : Fin 1024, x6 (ix2 r k) * normRow x0 x1 x2 x3 x4 x5 t k) + x7 (ix2 r 0)

/-- The block of the weights. -/
def weightBlk : Vec Ideal S1x2x512 .f32 := fun y =>
  weight (fun k => logitRow x0 x1 x2 x3 x4 x5 x6 x7 (y 2) ⟨32 + k.val, by omega⟩)
    (fun k => logitRow x0 x1 x2 x3 x4 x5 x6 x7 (y 2) ⟨k.val, by omega⟩) (y 1)

/-- The router's products of the body, at an index. -/
theorem logit_piece (r : Fin 40) (t : Fin 512) :
    (k0_pay12 (F := Ideal) (k0_pay6 (modRow x3 3)) (k0_pay7 (modRow x3 4)) (k0_pay8 (modRow x3 2) x1 x2 x4 x0) x5 x6 x7 (ix2 r t) : EReal)
      = logitRow x0 x1 x2 x3 x4 x5 x6 x7 t r := by
  have e6 : ∀ k : Fin 1024, (k0_pay6 (F := Ideal) (modRow x3 3) (ix2 0 k) : EReal) = x3 (ix3 0 3 k) := fun k => by
    pointwise [k0_pay6, modRow]
  have e7 : ∀ k : Fin 1024, (k0_pay7 (F := Ideal) (modRow x3 4) (ix2 0 k) : EReal) = x3 (ix3 0 4 k) := fun k => by
    pointwise [k0_pay7, modRow]
  have e8 : ∀ (r : Fin 512) (k : Fin 1024), (k0_pay8 (F := Ideal) (modRow x3 2) x1 x2 x4 x0 (ix2 r k) : EReal) = sumRow x0 x1 x2 x3 x4 r k :=
    fun r k => pay8_apply _ _ _ _ _ r k
  have e10 : ∀ k : Fin 1024, (k0_pay10 (F := Ideal) (k0_pay6 (modRow x3 3)) (k0_pay7 (modRow x3 4)) (k0_pay8 (modRow x3 2) x1 x2 x4 x0) x5 (ix2 t k) : EReal)
      = normRow x0 x1 x2 x3 x4 x5 t k := fun k => by
    refine (pay10_apply _ _ _ _ _ _).trans ?_
    rw [funext e6, funext e7, funext (e8 _)]
    rfl
  refine (pay12_apply _ _ _ _ _ _ r t).trans ?_
  exact congrArg (fun z : EReal => z + x7 (ix2 r 0)) (Finset.sum_congr rfl fun k _ => congrArg (fun z : EReal => x6 (ix2 r k) * z) (e10 k))

/-- What the body stores as weights is their block. -/
theorem weight_piece (v8 v10 : FVec Ideal S1x1024 .f32) (v22 : FVec Ideal S512x1024 .f32) (v26 : FVec Ideal S1x1024 .f32)
    (v47 : FVec Ideal S40x1024 .f32) (v49 : FVec Ideal S40x1 .f32)
    (e8 : v8 = k0_pay6 (modRow x3 3)) (e10 : v10 = k0_pay7 (modRow x3 4)) (e22 : v22 = k0_pay8 (modRow x3 2) x1 x2 x4 x0) (e26 : v26 = x5)
    (e47 : v47 = x6) (e49 : v49 = x7) (x : S1x2x512.Idx) :
    (k0_pay4 (F := Ideal)
      (k0_pay31 (k0_pay19 (k0_pay17 v8 v10 v22 v26 v47 v49) k0_pay18)
        (k0_pay22 (k0_pay13 v8 v10 v22 v26 v47 v49) (k0_pay16 v8 v10 v22 v26 v47 v49))
        (k0_pay26 (k0_pay13 v8 v10 v22 v26 v47 v49) (k0_pay16 v8 v10 v22 v26 v47 v49)))
      (k0_pay32 (k0_pay19 (k0_pay17 v8 v10 v22 v26 v47 v49) k0_pay18)
        (k0_pay22 (k0_pay13 v8 v10 v22 v26 v47 v49) (k0_pay16 v8 v10 v22 v26 v47 v49))
        (k0_pay26 (k0_pay13 v8 v10 v22 v26 v47 v49) (k0_pay16 v8 v10 v22 v26 v47 v49))) x : EReal)
      = weightBlk x0 x1 x2 x3 x4 x5 x6 x7 x := by
  subst e8 e10 e22 e26 e47 e49
  obtain ⟨u, q, t, rfl⟩ : ∃ (u : Fin 1) (q : Fin 2) (t : Fin 512), x = ix3 u q t :=
    ⟨x 0, x 1, x 2, funext fun a => match a with | ⟨0, _⟩ => rfl | ⟨1, _⟩ => rfl | ⟨2, _⟩ => rfl⟩
  obtain rfl : u = 0 := Subsingleton.elim _ _
  refine (weight_cols _ _ _ _ _ _ q t).trans ?_
  exact congrArg₂ (fun g f => weight g f q) (funext fun k => logit_piece x0 x1 x2 x3 x4 _ _ _ _ t)
    (funext fun k => logit_piece x0 x1 x2 x3 x4 _ _ _ _ t)

/-- At the first point the fourth output block is the weights'. -/
theorem outA11_eq (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
    = weightBlk x0 x1 x2 x3 x4 x5 x6 x7 := by
  funext y
  rw [out0_A_11, View.read_writes_junk_eq_canon]
  refine View.canon_apply_of_pieces _ _ ?_ y (cover0_A_11 _ _ _ _ _ _ _ _ _ _ _ _ _ _ _ _ _ _ _ _ _ _ _ _ _ _ _ _ _ _ _ _ _ _ _ _ _ _ _ y)
  delta kernelRun0_A
  dsimp only
  intro p hp
  simp only [List.mem_cons, List.not_mem_nil, or_false] at hp
  rcases hp with rfl
  intro x
  dsimp only
  have e0 : kernelRun0_A.sl.r (F := Ideal) c arg5 harg5 x3 = k0_pay6 (modRow x3 3) := congrArg k0_pay6 (load_row arg5 harg5 x3 3 _)
  have e1 : kernelRun0_A.sl.r_1 (F := Ideal) c arg5 harg5 x3 = k0_pay7 (modRow x3 4) := congrArg k0_pay7 (load_row arg5 harg5 x3 4 _)
  have e2 : kernelRun0_A.sl.r_2 (F := Ideal) c arg2 harg2 arg3 harg3 arg4 harg4 arg5 harg5 arg6 harg6 x0 x1 x2 x3 x4
      = k0_pay8 (modRow x3 2) x1 x2 x4 x0 := by
    unfold kernelRun0_A.sl.r_2
    rw [load_whole arg2 harg2 x0 zeros3, load_whole arg3 harg3 x1 zeros3, load_whole arg4 harg4 x2 zeros3, load_whole arg6 harg6 x4 zeros2]
    exact congrArg (fun g => k0_pay8 (F := Ideal) g x1 x2 x4 x0) (load_row arg5 harg5 x3 2 _)
  have e3 : kernelRun0_A.sl.r_3 (F := Ideal) c arg7 harg7 x5 = x5 := load_whole arg7 harg7 x5 zeros2 _
  simp only [kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  refine (weight_piece x0 x1 x2 x3 x4 x5 x6 x7 _ _ _ _ _ _ e0 e1 e2 e3 (load_whole arg8 harg8 x6 zeros2 _) (load_whole arg9 harg9 x7 zeros2 _) x).trans ?_
  exact congrArg (weightBlk x0 x1 x2 x3 x4 x5 x6 x7) (emb_whole zeros3 _ x).symm

/-- At a later point too. -/
theorem outB11_eq (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs
    = weightBlk x0 x1 x2 x3 x4 x5 x6 x7 := by
  funext y
  rw [out0_B_11, View.read_writes_junk_eq_canon]
  refine View.canon_apply_of_pieces _ _ ?_ y (cover0_B_11 _ _ _ _ _ _ _ _ _ _ _ _ _ _ _ _ _ _ _ _ _ _ _ _ _ _ _ _ _ _ _ _ _ _ _ _ _ _ _ _ y)
  delta kernelRun0_B
  dsimp only
  intro p hp
  simp only [List.mem_cons, List.not_mem_nil, or_false] at hp
  rcases hp with rfl
  intro x
  dsimp only
  have e0 : kernelRun0_B.sl.r (F := Ideal) c arg5 harg5 x3 = k0_pay6 (modRow x3 3) := congrArg k0_pay6 (load_row arg5 harg5 x3 3 _)
  have e1 : kernelRun0_B.sl.r_1 (F := Ideal) c arg5 harg5 x3 = k0_pay7 (modRow x3 4) := congrArg k0_pay7 (load_row arg5 harg5 x3 4 _)
  have e2 : kernelRun0_B.sl.r_2 (F := Ideal) c arg2 harg2 arg3 harg3 arg4 harg4 arg5 harg5 arg6 harg6 x0 x1 x2 x3 x4
      = k0_pay8 (modRow x3 2) x1 x2 x4 x0 := by
    unfold kernelRun0_B.sl.r_2
    rw [load_whole arg2 harg2 x0 zeros3, load_whole arg3 harg3 x1 zeros3, load_whole arg4 harg4 x2 zeros3, load_whole arg6 harg6 x4 zeros2]
    exact congrArg (fun g => k0_pay8 (F := Ideal) g x1 x2 x4 x0) (load_row arg5 harg5 x3 2 _)
  have e3 : kernelRun0_B.sl.r_3 (F := Ideal) c arg7 harg7 x5 = x5 := load_whole arg7 harg7 x5 zeros2 _
  simp only [kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16]
  refine (weight_piece x0 x1 x2 x3 x4 x5 x6 x7 _ _ _ _ _ _ e0 e1 e2 e3 (load_whole arg8 harg8 x6 zeros2 _) (load_whole arg9 harg9 x7 zeros2 _) x).trans ?_
  exact congrArg (weightBlk x0 x1 x2 x3 x4 x5 x6 x7) (emb_whole zeros3 _ x).symm

end Cert.PostRoute

end
-- ==== Proof.PostWeightRef.lean ====
/- The fifth reference's weights of the experts, read at an index. -/
module

public import proofs.«01_k».proof.Proof.PostRef
public import proofs.«01_k».proof.Proof.PostRoute

@[expose] public section

set_option maxRecDepth 16384

noncomputable section

namespace Cert.PostWeightRef

open Idealize.ShloMosaic Idealize.ShloMosaic.TcCoe Idealize.SL.Sem
open Cert.Reference5Ideal Cert.Reference5Ideal.Gen
open Cert.PostRoute (top place chosen rest odds weight groupProb four many unit ofBits_bot ofBits_top fold_min fold_max count_num group_num)

/-- The router's products. -/
def logitArr (H : FVec Ideal S8x8192x1024 .f32) (W : FVec Ideal S40x1024 .f32) (B : FVec Ideal S40x1 .f32) : FVec Ideal S8x8192x40 .f32 :=
  addf (Host.dotGeneral dot_S8x8192x1024_S1024x40_S8x8192x40_2_0_01_1_n_n none H (transpose S1024x40 [1, 0] W transposes_S40x1024_S1024x40_1_0))
    (broadcastInDim S8x8192x40 ![0, 1, 2] bcast_S1x1x40_S8x8192x40_0_1_2 (broadcastInDim S1x1x40 ![2] bcast_S40_S1x1x40_2
      (shapeCast _ B shapeCasts_S40x1_S40)))

/-- The groups' products. -/
def groupArr (L : FVec Ideal S8x8192x40 .f32) : FVec Ideal S8x8192x4 .f32 :=
  extractStridedSlice S8x8192x4 ![0, 0, 32] L slices_S8x8192x40_S8x8192x4_0_0_32

/-- The largest of the groups'. -/
def groupTop (G : FVec Ideal S8x8192x4 .f32) : FVec Ideal S8x8192x1 .f32 :=
  broadcastInDim S8x8192x1 ![0, 1] bcast_S8x8192_S8x8192x1_0_1
    (Host.reduce FloatOps.maximumf G (constant S_ .f32 0xFF800000#32) reducesTo_S8x8192x4_S8x8192_d2 h_S_)

/-- The best group's place. -/
def groupPlace (G : FVec Ideal S8x8192x4 .f32) : FVec Ideal S8x8192x1 .f32 :=
  broadcastInDim S8x8192x1 ![0, 1] bcast_S8x8192_S8x8192x1_0_1
    (Host.reduce FloatOps.minimumf (select (cmpf .oeq G (broadcastInDim S8x8192x4 ![0, 1, 2] bcast_S8x8192x1_S8x8192x4_0_1_2 (groupTop G)))
      (sitofp .f32 (iotaInDim S8x8192x4 32 2)) (broadcastInDim S8x8192x4 ![] bcast_S_S8x8192x4 (constant S_ .f32 0x40800000#32)))
      (constant S_ .f32 0x7F800000#32) reducesTo_S8x8192x4_S8x8192_d2 h_S_)

/-- The best group's weight. -/
def groupProbArr (G : FVec Ideal S8x8192x4 .f32) : FVec Ideal S8x8192x1 .f32 :=
  Host.divf (broadcastInDim S8x8192x1 ![] bcast_S_S8x8192x1 (constant S_ .f32 0x3F800000#32))
    (broadcastInDim S8x8192x1 ![0, 1] bcast_S8x8192_S8x8192x1_0_1
      (Host.reduceAdd (Host.exp (subf G (broadcastInDim S8x8192x4 ![0, 1, 2] bcast_S8x8192x1_S8x8192x4_0_1_2 (groupTop G))))
        (constant S_ .f32 0x00000000#32) reducesTo_S8x8192x4_S8x8192_d2 h_S_))

/-- The experts of the best group. -/
def chosenArr (L : FVec Ideal S8x8192x40 .f32) (P : FVec Ideal S8x8192x1 .f32) : FVec Ideal S8x8192x32 .f32 :=
  select (cmpf .oeq (sitofp .f32 (Host.divsi (iotaInDim S8x8192x32 32 2) (broadcastInDim S8x8192x32 ![] bcast_S_S8x8192x32 (constantI S_ 32 8#32))) : FVec Ideal S8x8192x32 .f32)
      (broadcastInDim S8x8192x32 ![0, 1, 2] bcast_S8x8192x1_S8x8192x32_0_1_2 P))
    (extractStridedSlice S8x8192x32 ![0, 0, 0] L slices_S8x8192x40_S8x8192x32_0_0_0)
    (broadcastInDim S8x8192x32 ![] bcast_S_S8x8192x32 (constant S_ .f32 0xFF800000#32))

/-- The largest of 32. -/
def topArr (C : FVec Ideal S8x8192x32 .f32) : FVec Ideal S8x8192x1 .f32 :=
  broadcastInDim S8x8192x1 ![0, 1] bcast_S8x8192_S8x8192x1_0_1
    (Host.reduce FloatOps.maximumf C (constant S_ .f32 0xFF800000#32) reducesTo_S8x8192x32_S8x8192_d2 h_S_)

/-- The place of the largest of 32. -/
def placeArr (C : FVec Ideal S8x8192x32 .f32) : FVec Ideal S8x8192x1 .f32 :=
  broadcastInDim S8x8192x1 ![0, 1] bcast_S8x8192_S8x8192x1_0_1
    (Host.reduce FloatOps.minimumf (select (cmpf .oeq C (broadcastInDim S8x8192x32 ![0, 1, 2] bcast_S8x8192x1_S8x8192x32_0_1_2 (topArr C)))
      (sitofp .f32 (iotaInDim S8x8192x32 32 2)) (broadcastInDim S8x8192x32 ![] bcast_S_S8x8192x32 (constant S_ .f32 0x42000000#32)))
      (constant S_ .f32 0x7F800000#32) reducesTo_S8x8192x32_S8x8192_d2 h_S_)

/-- The chosen experts without the best. -/
def restArr (C : FVec Ideal S8x8192x32 .f32) : FVec Ideal S8x8192x32 .f32 :=
  select (cmpf .oeq (sitofp .f32 (iotaInDim S8x8192x32 32 2) : FVec Ideal S8x8192x32 .f32)
      (broadcastInDim S8x8192x32 ![0, 1, 2] bcast_S8x8192x1_S8x8192x32_0_1_2 (placeArr C)))
    (broadcastInDim S8x8192x32 ![] bcast_S_S8x8192x32 (constant S_ .f32 0xFF800000#32)) C

/-- The two weights of each token. -/
def pairArr (P E : FVec Ideal S8x8192x1 .f32) : FVec Ideal S8x8192x2 .f32 :=
  mulf (broadcastInDim S8x8192x2 ![0, 1, 2] bcast_S8x8192x1_S8x8192x2_0_1_2 P)
    (concatenate S8x8192x2 2 [⟨S8x8192x1, (Host.divf (broadcastInDim S8x8192x1 ![] bcast_S_S8x8192x1 (constant S_ .f32 0x3F800000#32))
        (addf (broadcastInDim S8x8192x1 ![] bcast_S_S8x8192x1 (constant S_ .f32 0x3F800000#32)) E))⟩,
      ⟨S8x8192x1, (Host.divf E (addf (broadcastInDim S8x8192x1 ![] bcast_S_S8x8192x1 (constant S_ .f32 0x3F800000#32)) E))⟩]
      concatenates_S8x8192x1_S8x8192x1_S8x8192x2_d2)

/-- The weights in blocks of 512 tokens, a row for each of the two. -/
def blocksArr (X : FVec Ideal S8x8192x2 .f32) : FVec Ideal S128x2x512 .f32 :=
  transpose S128x2x512 [0, 2, 1] (shapeCast _ X shapeCasts_S8x8192x2_S128x512x2) transposes_S128x512x2_S128x2x512_0_2_1

/-- The weights from the products. -/
def weightOf (L : FVec Ideal S8x8192x40 .f32) : FVec Ideal S8x8192x2 .f32 :=
  pairArr (groupProbArr (groupArr L))
    (Host.exp (subf (topArr (restArr (chosenArr L (groupPlace (groupArr L))))) (topArr (chosenArr L (groupPlace (groupArr L))))))

variable (b : Fin 8) (s : Fin 8192)

/-- The quotient of a count by eight. -/
theorem group_of : ∀ k : Fin 32, IntOp.divsi ArithUnit.host (BitVec.ofNat 32 k.val) 8#32 = BitVec.ofNat 32 (k.val / 8) := by
  decide +kernel

/-- The products at an index. -/
theorem logitArr_apply (H : FVec Ideal S8x8192x1024 .f32) (W : FVec Ideal S40x1024 .f32) (B : FVec Ideal S40x1 .f32) (r : Fin 40) :
    (logitArr H W B (ix3 b s r) : EReal) = (∑ k : Fin 1024, W (ix2 r k) * H (ix3 b s k)) + B (ix2 r 0) := by
  refine Eq.trans ?_ (congrArg (fun z : EReal => z + B (ix2 r 0)) (Finset.sum_congr rfl fun k _ => mul_comm (H (ix3 b s k) : EReal) (W (ix2 r k))))
  pointwise [logitArr]

/-- The groups' products at an index. -/
theorem groupArr_apply (L : FVec Ideal S8x8192x40 .f32) (k : Fin 4) :
    (groupArr L (ix3 b s k) : EReal) = L (ix3 b s ⟨32 + k.val, by omega⟩) := by
  pointwise [groupArr]

/-- The largest of the groups'. -/
theorem groupTop_apply (G : FVec Ideal S8x8192x4 .f32) : (groupTop G (ix3 b s 0) : EReal) = top fun k => G (ix3 b s k) := by
  unfold top
  pointwise [groupTop]
  rw [ofBits_bot]
  rfl

/-- The best group's place. -/
theorem groupPlace_apply (G : FVec Ideal S8x8192x4 .f32) : (groupPlace G (ix3 b s 0) : EReal) = place four fun k => G (ix3 b s k) := by
  unfold place
  pointwise [groupPlace]
  rw [ofBits_top, groupTop_apply, fold_min]
  exact Finset.inf_congr rfl fun k _ => by rw [count_num ⟨k.val, by omega⟩]

/-- The best group's weight. -/
theorem groupProbArr_apply (G : FVec Ideal S8x8192x4 .f32) : (groupProbArr G (ix3 b s 0) : EReal) = groupProb fun k => G (ix3 b s k) := by
  unfold groupProb
  pointwise [groupProbArr]
  rw [groupTop_apply]

/-- The experts of the best group. -/
theorem chosenArr_apply (L : FVec Ideal S8x8192x40 .f32) (P : FVec Ideal S8x8192x1 .f32) (k : Fin 32) :
    (chosenArr L P (ix3 b s k) : EReal) = if (((k.val / 8 : ℕ) : ℝ) : EReal) = P (ix3 b s 0) then L (ix3 b s ⟨k.val, by omega⟩) else ⊥ := by
  pointwise [chosenArr]
  rw [ofBits_bot, group_of k, group_num k]

/-- The largest of 32. -/
theorem topArr_apply (C : FVec Ideal S8x8192x32 .f32) : (topArr C (ix3 b s 0) : EReal) = top fun k => C (ix3 b s k) := by
  unfold top
  pointwise [topArr]
  rw [ofBits_bot]
  rfl

/-- The place of the largest of 32. -/
theorem placeArr_apply (C : FVec Ideal S8x8192x32 .f32) : (placeArr C (ix3 b s 0) : EReal) = place many fun k => C (ix3 b s k) := by
  unfold place
  pointwise [placeArr]
  rw [ofBits_top, topArr_apply, fold_min]
  exact Finset.inf_congr rfl fun k _ => by rw [count_num k]

/-- The chosen experts without the best. -/
theorem restArr_apply (C : FVec Ideal S8x8192x32 .f32) (k : Fin 32) :
    (restArr C (ix3 b s k) : EReal) = if ((k.val : ℝ) : EReal) = placeArr C (ix3 b s 0) then ⊥ else C (ix3 b s k) := by
  pointwise [restArr]
  rw [ofBits_bot, count_num k]

/-- The two weights of a token. -/
theorem pairArr_apply (P E : FVec Ideal S8x8192x1 .f32) (q : Fin 2) :
    (pairArr P E (ix3 b s q) : EReal)
      = P (ix3 b s 0) * (if q.val = 0 then Ideal.div unit (unit + E (ix3 b s 0)) else Ideal.div (E (ix3 b s 0)) (unit + E (ix3 b s 0))) := by
  match q with
  | 0 => pointwise [pairArr]
  | 1 => pointwise [pairArr]

/-- The weights at an index. -/
theorem weightOf_apply (L : FVec Ideal S8x8192x40 .f32) (q : Fin 2) :
    (weightOf L (ix3 b s q) : EReal)
      = weight (fun k => L (ix3 b s ⟨32 + k.val, by omega⟩)) (fun k => L (ix3 b s ⟨k.val, by omega⟩)) q := by
  have hg : (fun k : Fin 4 => (groupArr L (ix3 b s k) : EReal)) = fun k => L (ix3 b s ⟨32 + k.val, by omega⟩) :=
    funext fun k => groupArr_apply b s L k
  have hc : (fun k : Fin 32 => (chosenArr L (groupPlace (groupArr L)) (ix3 b s k) : EReal))
      = chosen (fun k => L (ix3 b s ⟨32 + k.val, by omega⟩)) (fun k => L (ix3 b s ⟨k.val, by omega⟩)) := by
    funext k
    rw [chosenArr_apply, groupPlace_apply, hg]
    rfl
  have hr : (fun k : Fin 32 => (restArr (chosenArr L (groupPlace (groupArr L))) (ix3 b s k) : EReal))
      = rest (fun k => L (ix3 b s ⟨32 + k.val, by omega⟩)) (fun k => L (ix3 b s ⟨k.val, by omega⟩)) := by
    funext k
    rw [restArr_apply, placeArr_apply, hc]
    exact if_congr Iff.rfl rfl (congrFun hc k)
  have ho : (Host.exp (subf (topArr (restArr (chosenArr L (groupPlace (groupArr L))))) (topArr (chosenArr L (groupPlace (groupArr L))))) (ix3 b s 0) : EReal)
      = odds (fun k => L (ix3 b s ⟨32 + k.val, by omega⟩)) (fun k => L (ix3 b s ⟨k.val, by omega⟩)) := by
    refine Eq.trans (b := Ideal.exp (topArr (restArr (chosenArr L (groupPlace (groupArr L)))) (ix3 b s 0) - topArr (chosenArr L (groupPlace (groupArr L))) (ix3 b s 0))) ?_ ?_
    · pointwise
    · rw [topArr_apply, topArr_apply, hr, hc]
      rfl
  rw [weightOf, pairArr_apply, ho, groupProbArr_apply, hg]
  rfl

/-- Block `p`'s row `q` at token `t` is the weight `q` of that token. -/
theorem blocksArr_apply (X : FVec Ideal S8x8192x2 .f32) (p : Fin 128) (q : Fin 2) (t : Fin 512) (h : 512 * p.val + t.val = 8192 * b.val + s.val) :
    (blocksArr X (ix3 p q t) : EReal) = X (ix3 b s q) := by
  refine Eq.trans (b := (shapeCast S128x512x2 X shapeCasts_S8x8192x2_S128x512x2 (ix3 p t q) : EReal)) ?_ ?_
  · pointwise [blocksArr]
  · refine shapeCast_apply _ _ (ix3 p t q) (ix3 b s q) ?_
    rw [Shape.rowMajor_val_three, Shape.rowMajor_val_three]
    show (b.val * 8192 + s.val) * 2 + q.val = (p.val * 512 + t.val) * 2 + q.val
    omega

end Cert.PostWeightRef

end
-- ==== Proof.PostClaim.lean ====
/- The sum, the normalised rows and the weights of the fifth kernel are the fifth reference's. -/
module

public import proofs.«01_k».proof.Proof.PostRef
public import proofs.«01_k».proof.Proof.PostWeight
public import proofs.«01_k».proof.Proof.PostWeightRef
public import proofs.«01_k».proof.Defs
public import Idealize.ShloMosaic.Lib.Quiescent

@[expose] public section

set_option maxRecDepth 16384

noncomputable section

namespace Cert.PostClaim

open Idealize.ShloMosaic Idealize.ShloMosaic.TcCoe Idealize.SL.Sem
open Cert.Kernel5Ideal Cert.Kernel5Ideal.Gen
open Cert.Pre (modulated)
open Cert.Post (joined sumRow sumBlk normBlk)
open Cert.PostRoute (weight normRow logitRow weightBlk outA11_eq outB11_eq)
open Cert.PostWeightRef (logitArr weightOf blocksArr logitArr_apply weightOf_apply blocksArr_apply)
open Cert.PostRef (sumArr normArr linesArr sumArr_apply normArr_apply linesArr_apply)

/-- The index maps of the windows over the tokens, the two attentions' results and the modulation. -/
theorem index_moving : ∀ t : Fin cfg0.N, ∀ a : Fin 3, win0_0.index t a = ![t.val / 16, t.val % 16, 0] a
    ∧ win0_1.index t a = ![t.val / 16, t.val % 16, 0] a ∧ win0_2.index t a = ![t.val / 16, t.val % 16, 0] a
    ∧ win0_3.index t a = ![t.val / 16, 0, 0] a ∧ win0_8.index t a = ![t.val / 16, t.val % 16, 0] a :=
  (by decide +kernel : ∀ t : Fin grid0.N, ∀ a : Fin 3, _)

/-- The index maps of the windows over the weights, the gain and the normalised rows. -/
theorem index_fixed : ∀ t : Fin cfg0.N, ∀ a : Fin 2, win0_4.index t a = 0 ∧ win0_5.index t a = 0 ∧ win0_9.index t a = ![t.val, 0] a :=
  (by decide +kernel : ∀ t : Fin grid0.N, ∀ a : Fin 2, _)

/-- The index maps of the windows over the router's weights and bias and over the experts' weights. -/
theorem index_route : ∀ t : Fin cfg0.N, (∀ a : Fin 2, win0_6.index t a = 0 ∧ win0_7.index t a = 0)
    ∧ ∀ a : Fin 3, win0_11.index t a = ![t.val, 0, 0] a :=
  (by decide +kernel : ∀ t : Fin grid0.N, (∀ a : Fin 2, _) ∧ ∀ a : Fin 3, _)

/-- A grid point is below 128. -/
theorem point_lt (t : Fin cfg0.N) : t.val < 128 := lt_of_lt_of_eq t.isLt N_0

/-- The batch of a grid point. -/
abbrev ptB (t : Fin cfg0.N) : Fin 8 := ⟨t.val / 16, by have := point_lt t; omega⟩
/-- The block of rows of a grid point. -/
abbrev ptN (t : Fin cfg0.N) : Fin 16 := ⟨t.val % 16, by omega⟩
/-- Row `r` of the block of rows `n`. -/
abbrev rowOf (n : Fin 16) (r : Fin 512) : Fin 8192 := ⟨512 * n.val + r.val, by omega⟩

/-- The rows `n` of batch `b`. -/
def rowsBlk {w : ℕ} {e : EltTy} (X : Vec Ideal ⟨3, ![8, 8192, w]⟩ e) (b : Fin 8) (n : Fin 16) : Vec Ideal ⟨3, ![1, 512, w]⟩ e := fun y =>
  X (ix3 b (rowOf n (y 1)) (y 2))

/-- The modulation of batch `b`. -/
def modBlk (M : Vec Ideal S8x6x1024 .f32) (b : Fin 8) : Vec Ideal S1x6x1024 .f32 := fun y => M (ix3 b (y 1) (y 2))

section Value

variable (m : (ℓ : Loc nD τ sig) → Buf (Elt Ideal) ℓ) (ρ : Dev nD → PrngReg)

/-- The tokens. -/
theorem iblk0_eq (c : Dev nD) (t : Fin cfg0.N) : iblk m c 0 t = rowsBlk (w := 1024) (V m c main_arg0) (ptB t) (ptN t) := by
  have e := index_moving t
  funext y
  show V m c main_arg0 (((cfg0.win 0).blk t).view.emb y) = V m c main_arg0 (ix3 _ _ _)
  congr 1
  funext a; apply Fin.ext
  match a with
  | ⟨0, _⟩ => show win0_0.index t (0 : Fin 3) * 1 + 1 * (y 0).val = t.val / 16; rw [(e 0).1]; have h : (y 0).val < 1 := (y 0).isLt; dsimp only [Matrix.cons_val]; omega
  | ⟨1, _⟩ => show win0_0.index t (1 : Fin 3) * 512 + 1 * (y 1).val = 512 * (t.val % 16) + (y 1).val; rw [(e 1).1]; dsimp only [Matrix.cons_val]; omega
  | ⟨2, _⟩ => show win0_0.index t (2 : Fin 3) * 1024 + 1 * (y 2).val = (y 2).val; rw [(e 2).1]; dsimp only [Matrix.cons_val]; omega

/-- The first attention's result. -/
theorem iblk1_eq (c : Dev nD) (t : Fin cfg0.N) : iblk m c 1 t = rowsBlk (w := 512) (V m c main_arg1) (ptB t) (ptN t) := by
  have e := index_moving t
  funext y
  show V m c main_arg1 (((cfg0.win 1).blk t).view.emb y) = V m c main_arg1 (ix3 _ _ _)
  congr 1
  funext a; apply Fin.ext
  match a with
  | ⟨0, _⟩ => show win0_1.index t (0 : Fin 3) * 1 + 1 * (y 0).val = t.val / 16; rw [(e 0).2.1]; have h : (y 0).val < 1 := (y 0).isLt; dsimp only [Matrix.cons_val]; omega
  | ⟨1, _⟩ => show win0_1.index t (1 : Fin 3) * 512 + 1 * (y 1).val = 512 * (t.val % 16) + (y 1).val; rw [(e 1).2.1]; dsimp only [Matrix.cons_val]; omega
  | ⟨2, _⟩ => show win0_1.index t (2 : Fin 3) * 512 + 1 * (y 2).val = (y 2).val; rw [(e 2).2.1]; dsimp only [Matrix.cons_val]; omega

/-- The second attention's result. -/
theorem iblk2_eq (c : Dev nD) (t : Fin cfg0.N) : iblk m c 2 t = rowsBlk (w := 512) (V m c main_arg2) (ptB t) (ptN t) := by
  have e := index_moving t
  funext y
  show V m c main_arg2 (((cfg0.win 2).blk t).view.emb y) = V m c main_arg2 (ix3 _ _ _)
  congr 1
  funext a; apply Fin.ext
  match a with
  | ⟨0, _⟩ => show win0_2.index t (0 : Fin 3) * 1 + 1 * (y 0).val = t.val / 16; rw [(e 0).2.2.1]; have h : (y 0).val < 1 := (y 0).isLt; dsimp only [Matrix.cons_val]; omega
  | ⟨1, _⟩ => show win0_2.index t (1 : Fin 3) * 512 + 1 * (y 1).val = 512 * (t.val % 16) + (y 1).val; rw [(e 1).2.2.1]; dsimp only [Matrix.cons_val]; omega
  | ⟨2, _⟩ => show win0_2.index t (2 : Fin 3) * 512 + 1 * (y 2).val = (y 2).val; rw [(e 2).2.2.1]; dsimp only [Matrix.cons_val]; omega

/-- The modulation. -/
theorem iblk3_eq (c : Dev nD) (t : Fin cfg0.N) : iblk m c 3 t = modBlk (V m c main_arg3) (ptB t) := by
  have e := index_moving t
  funext y
  show V m c main_arg3 (((cfg0.win 3).blk t).view.emb y) = V m c main_arg3 (ix3 _ _ _)
  congr 1
  funext a; apply Fin.ext
  match a with
  | ⟨0, _⟩ => show win0_3.index t (0 : Fin 3) * 1 + 1 * (y 0).val = t.val / 16; rw [(e 0).2.2.2.1]; have h : (y 0).val < 1 := (y 0).isLt; dsimp only [Matrix.cons_val]; omega
  | ⟨1, _⟩ => show win0_3.index t (1 : Fin 3) * 6 + 1 * (y 1).val = (y 1).val; rw [(e 1).2.2.2.1]; dsimp only [Matrix.cons_val]; omega
  | ⟨2, _⟩ => show win0_3.index t (2 : Fin 3) * 1024 + 1 * (y 2).val = (y 2).val; rw [(e 2).2.2.2.1]; dsimp only [Matrix.cons_val]; omega

/-- The weights. -/
theorem iblk4_eq (c : Dev nD) (t : Fin cfg0.N) : iblk m c 4 t = V m c main_arg4 := by
  have e := index_fixed t
  funext y
  show V m c main_arg4 (((cfg0.win 4).blk t).view.emb y) = V m c main_arg4 y
  congr 1
  funext a; apply Fin.ext
  match a with
  | ⟨0, _⟩ => show win0_4.index t (0 : Fin 2) * 1024 + 1 * (y 0).val = (y 0).val; rw [(e 0).1]; omega
  | ⟨1, _⟩ => show win0_4.index t (1 : Fin 2) * 1024 + 1 * (y 1).val = (y 1).val; rw [(e 1).1]; omega

/-- The gain. -/
theorem iblk5_eq (c : Dev nD) (t : Fin cfg0.N) : iblk m c 5 t = V m c main_arg5 := by
  have e := index_fixed t
  funext y
  show V m c main_arg5 (((cfg0.win 5).blk t).view.emb y) = V m c main_arg5 y
  congr 1
  funext a; apply Fin.ext
  match a with
  | ⟨0, _⟩ => show win0_5.index t (0 : Fin 2) * 1 + 1 * (y 0).val = (y 0).val; rw [(e 0).2.1]; omega
  | ⟨1, _⟩ => show win0_5.index t (1 : Fin 2) * 1024 + 1 * (y 1).val = (y 1).val; rw [(e 1).2.1]; omega

/-- The router's weights. -/
theorem iblk6_eq (c : Dev nD) (t : Fin cfg0.N) : iblk m c 6 t = V m c main_arg6 := by
  have e := (index_route t).1
  funext y
  show V m c main_arg6 (((cfg0.win 6).blk t).view.emb y) = V m c main_arg6 y
  congr 1
  funext a; apply Fin.ext
  match a with
  | ⟨0, _⟩ => show win0_6.index t (0 : Fin 2) * 40 + 1 * (y 0).val = (y 0).val; rw [(e 0).1]; omega
  | ⟨1, _⟩ => show win0_6.index t (1 : Fin 2) * 1024 + 1 * (y 1).val = (y 1).val; rw [(e 1).1]; omega

/-- The router's bias. -/
theorem iblk7_eq (c : Dev nD) (t : Fin cfg0.N) : iblk m c 7 t = V m c main_arg7 := by
  have e := (index_route t).1
  funext y
  show V m c main_arg7 (((cfg0.win 7).blk t).view.emb y) = V m c main_arg7 y
  congr 1
  funext a; apply Fin.ext
  match a with
  | ⟨0, _⟩ => show win0_7.index t (0 : Fin 2) * 40 + 1 * (y 0).val = (y 0).val; rw [(e 0).2]; omega
  | ⟨1, _⟩ => show win0_7.index t (1 : Fin 2) * 1 + 1 * (y 1).val = (y 1).val; rw [(e 1).2]; omega

/-- An index of a block of the sum, in the array. -/
theorem emb8 (t : Fin cfg0.N) (y : S1x512x1024.Idx) : ((cfg0.win 8).blk t).view.emb y = (ix3 (ptB t) (rowOf (ptN t) (y 1)) (y 2) : S8x8192x1024.Idx) := by
  have e := index_moving t
  funext a; apply Fin.ext
  match a with
  | ⟨0, _⟩ => show win0_8.index t (0 : Fin 3) * 1 + 1 * (y 0).val = t.val / 16; rw [(e 0).2.2.2.2]; have h : (y 0).val < 1 := (y 0).isLt; dsimp only [Matrix.cons_val]; omega
  | ⟨1, _⟩ => show win0_8.index t (1 : Fin 3) * 512 + 1 * (y 1).val = 512 * (t.val % 16) + (y 1).val; rw [(e 1).2.2.2.2]; dsimp only [Matrix.cons_val]; omega
  | ⟨2, _⟩ => show win0_8.index t (2 : Fin 3) * 1024 + 1 * (y 2).val = (y 2).val; rw [(e 2).2.2.2.2]; dsimp only [Matrix.cons_val]; omega

/-- The line of the array that a line of a block is. -/
abbrev lineOf (t : Fin cfg0.N) (p : Fin 4096) : Fin 524288 := ⟨4096 * t.val + p.val, by have := point_lt t; omega⟩

/-- An index of a block of the normalised rows, in the array. -/
theorem emb9 (t : Fin cfg0.N) (y : S4096x128.Idx) : ((cfg0.win 9).blk t).view.emb y = (ix2 (lineOf t (y 0)) (y 1) : S524288x128.Idx) := by
  have e := index_fixed t
  funext a; apply Fin.ext
  match a with
  | ⟨0, _⟩ => show win0_9.index t (0 : Fin 2) * 4096 + 1 * (y 0).val = 4096 * t.val + (y 0).val; rw [(e 0).2.2]; dsimp only [Matrix.cons_val]; omega
  | ⟨1, _⟩ => show win0_9.index t (1 : Fin 2) * 128 + 1 * (y 1).val = (y 1).val; rw [(e 1).2.2]; dsimp only [Matrix.cons_val]; omega

/-- An index of a block of the experts' weights, in the array. -/
theorem emb11 (t : Fin cfg0.N) (y : S1x2x512.Idx) : ((cfg0.win 11).blk t).view.emb y = (ix3 ⟨t.val, point_lt t⟩ (y 1) (y 2) : S128x2x512.Idx) := by
  have e := (index_route t).2
  funext a; apply Fin.ext
  match a with
  | ⟨0, _⟩ => show win0_11.index t (0 : Fin 3) * 1 + 1 * (y 0).val = t.val; rw [e 0]; have h : (y 0).val < 1 := (y 0).isLt; dsimp only [Matrix.cons_val]; omega
  | ⟨1, _⟩ => show win0_11.index t (1 : Fin 3) * 2 + 1 * (y 1).val = (y 1).val; rw [e 1]; dsimp only [Matrix.cons_val]; omega
  | ⟨2, _⟩ => show win0_11.index t (2 : Fin 3) * 512 + 1 * (y 2).val = (y 2).val; rw [e 2]; dsimp only [Matrix.cons_val]; omega

/-- The sum, of the arguments. -/
def sumOf (c : Dev nD) : FVec Ideal S8x8192x1024 .f32 :=
  sumArr (m ((c : Thread nD τ).loc main_arg0)) (m ((c : Thread nD τ).loc main_arg1)) (m ((c : Thread nD τ).loc main_arg2))
    (m ((c : Thread nD τ).loc main_arg3)) (m ((c : Thread nD τ).loc main_arg4))

/-- The normalised rows in lines of 128, of the arguments. -/
def normOf (c : Dev nD) : FVec Ideal S524288x128 .f32 :=
  linesArr (normArr (sumOf m c) (m ((c : Thread nD τ).loc main_arg3)) (m ((c : Thread nD τ).loc main_arg5)))

/-- The router's products, of the arguments. -/
def logitOf (c : Dev nD) : FVec Ideal Cert.Reference5Ideal.S8x8192x40 .f32 :=
  logitArr (normArr (sumOf m c) (m ((c : Thread nD τ).loc main_arg3)) (m ((c : Thread nD τ).loc main_arg5)))
    (m ((c : Thread nD τ).loc main_arg6)) (m ((c : Thread nD τ).loc main_arg7))

/-- The experts' weights in blocks, of the arguments. -/
def weightsOf (c : Dev nD) : FVec Ideal S128x2x512 .f32 := blocksArr (weightOf (logitOf m c))

/-- The sum's block of a grid point is that block of the sum. -/
theorem sum_at (c : Dev nD) (b : Fin 8) (n : Fin 16) (r : Fin 512) (j : Fin 1024) :
    sumRow (rowsBlk (w := 1024) (V m c main_arg0) b n) (rowsBlk (w := 512) (V m c main_arg1) b n) (rowsBlk (w := 512) (V m c main_arg2) b n)
      (modBlk (V m c main_arg3) b) (V m c main_arg4) r j = sumOf m c (ix3 b (rowOf n r) j) :=
  (sumArr_apply _ _ _ _ _ b (rowOf n r) j).symm

/-- The sum's block of a grid point. -/
theorem sum_blk (c : Dev nD) (t : Fin cfg0.N) (y : S1x512x1024.Idx) :
    sumBlk (iblk m c 0 t) (iblk m c 1 t) (iblk m c 2 t) (iblk m c 3 t) (iblk m c 4 t) y = sumOf m c (((cfg0.win 8).blk t).view.emb y) := by
  rw [iblk0_eq, iblk1_eq, iblk2_eq, iblk3_eq, iblk4_eq, emb8]
  exact sum_at m c (ptB t) (ptN t) (y 1) (y 2)

/-- The normalised rows' block of a grid point. -/
theorem norm_blk (c : Dev nD) (t : Fin cfg0.N) (y : S4096x128.Idx) :
    normBlk (iblk m c 0 t) (iblk m c 1 t) (iblk m c 2 t) (iblk m c 3 t) (iblk m c 4 t) (iblk m c 5 t) y
      = normOf m c (((cfg0.win 9).blk t).view.emb y) := by
  have h0 : (y 0).val < 4096 := (y 0).isLt
  have h1 : (y 1).val < 128 := (y 1).isLt
  have ht := point_lt t
  rw [iblk0_eq, iblk1_eq, iblk2_eq, iblk3_eq, iblk4_eq, iblk5_eq, emb9]
  refine Eq.trans ?_ (linesArr_apply _ _ (ptB t) (rowOf (ptN t) ⟨(y 0).val / 8, by omega⟩) ⟨128 * ((y 0).val % 8) + (y 1).val, by omega⟩ ?_).symm
  · refine Eq.trans ?_ (normArr_apply _ _ _ _ _ _).symm
    exact congrArg (fun R => modulated R (fun k => V m c main_arg3 (ix3 (ptB t) 3 k)) (fun k => V m c main_arg3 (ix3 (ptB t) 4 k))
      (fun k => V m c main_arg5 (ix2 0 k)) ⟨128 * ((y 0).val % 8) + (y 1).val, by omega⟩)
      (funext (sum_at m c (ptB t) (ptN t) ⟨(y 0).val / 8, by omega⟩))
  · show 128 * (4096 * t.val + (y 0).val) + (y 1).val
      = 1024 * (8192 * (t.val / 16) + (512 * (t.val % 16) + (y 0).val / 8)) + (128 * ((y 0).val % 8) + (y 1).val)
    omega

/-- The router's products of a grid point's rows are those rows of the products. -/
theorem logit_at (c : Dev nD) (b : Fin 8) (n : Fin 16) (r : Fin 512) (j : Fin 40) :
    logitRow (rowsBlk (w := 1024) (V m c main_arg0) b n) (rowsBlk (w := 512) (V m c main_arg1) b n) (rowsBlk (w := 512) (V m c main_arg2) b n)
      (modBlk (V m c main_arg3) b) (V m c main_arg4) (V m c main_arg5) (V m c main_arg6) (V m c main_arg7) r j = logitOf m c (ix3 b (rowOf n r) j) := by
  refine Eq.trans ?_ (logitArr_apply b (rowOf n r) _ _ _ j).symm
  refine congrArg (fun z : EReal => z + (show EReal from V m c main_arg7 (ix2 j 0))) (Finset.sum_congr rfl fun k _ => ?_)
  refine congrArg (HMul.hMul (show EReal from V m c main_arg6 (ix2 j k))) ?_
  refine Eq.trans ?_ (normArr_apply _ _ _ _ _ _).symm
  exact congrArg (fun R => modulated R (fun k => V m c main_arg3 (ix3 b 3 k)) (fun k => V m c main_arg3 (ix3 b 4 k))
    (fun k => V m c main_arg5 (ix2 0 k)) k) (funext (sum_at m c b n r))

/-- The experts' weights' block of a grid point. -/
theorem weight_blk (c : Dev nD) (t : Fin cfg0.N) (y : S1x2x512.Idx) :
    weightBlk (iblk m c 0 t) (iblk m c 1 t) (iblk m c 2 t) (iblk m c 3 t) (iblk m c 4 t) (iblk m c 5 t) (iblk m c 6 t) (iblk m c 7 t) y
      = weightsOf m c (((cfg0.win 11).blk t).view.emb y) := by
  have ht := point_lt t
  rw [iblk0_eq, iblk1_eq, iblk2_eq, iblk3_eq, iblk4_eq, iblk5_eq, iblk6_eq, iblk7_eq, emb11]
  refine Eq.trans ?_ (blocksArr_apply (ptB t) (rowOf (ptN t) (y 2)) _ ⟨t.val, ht⟩ (y 1) (y 2) ?_).symm
  · refine Eq.trans ?_ (weightOf_apply _ _ _ _).symm
    exact congrArg₂ (fun g f => weight g f (y 1)) (funext fun k => logit_at m c (ptB t) (ptN t) (y 2) ⟨32 + k.val, by omega⟩)
      (funext fun k => logit_at m c (ptB t) (ptN t) (y 2) ⟨k.val, by omega⟩)
  · show 512 * t.val + (y 2).val = 8192 * (t.val / 16) + (512 * (t.val % 16) + (y 2).val)
    omega

/-- What a grid point writes back of the sum is its block of it. -/
theorem flushed8_eq (c : Dev nD) (t : Fin cfg0.N) :
    (dats m 0 c).flushed 8 t = ((cfg0.win 8).blk t).view.read (Elt Ideal) (sumOf m c) := by
  by_cases h0 : t.val % 128 = 0
  · rw [Value.flushed8_A m c t h0, Cert.Post.outA8_eq]
    exact funext fun y => sum_blk m c t y
  · rw [Value.flushed8_B m c t h0, Cert.Post.outB8_eq]
    exact funext fun y => sum_blk m c t y

/-- What a grid point writes back of the normalised rows is its block of them. -/
theorem flushed9_eq (c : Dev nD) (t : Fin cfg0.N) :
    (dats m 0 c).flushed 9 t = ((cfg0.win 9).blk t).view.read (Elt Ideal) (normOf m c) := by
  by_cases h0 : t.val % 128 = 0
  · rw [Value.flushed9_A m c t h0, Cert.Post.outA9_eq]
    exact funext fun y => norm_blk m c t y
  · rw [Value.flushed9_B m c t h0, Cert.Post.outB9_eq]
    exact funext fun y => norm_blk m c t y

/-- What a grid point writes back of the experts' weights is its block of them. -/
theorem flushed11_eq (c : Dev nD) (t : Fin cfg0.N) :
    (dats m 0 c).flushed 11 t = ((cfg0.win 11).blk t).view.read (Elt Ideal) (weightsOf m c) := by
  by_cases h0 : t.val % 128 = 0
  · rw [Value.flushed11_A m c t h0, outA11_eq]
    exact funext fun y => weight_blk m c t y
  · rw [Value.flushed11_B m c t h0, outB11_eq]
    exact funext fun y => weight_blk m c t y

/-- The sum's array after the run. -/
theorem final8 (c : Dev nD) : (dats m 0 c).arrAt 8 cfg0.N = sumOf m c :=
  (dats m 0 c).arrAt_eq_of_cover 8 (sumOf m c) (fun t _ => flushed8_eq m c t) fun i =>
    (Value.covered_iff8 i).2 (by
      have h0 : (i 0).val < 8 := (i 0).isLt; have h1 : (i 1).val < 8192 := (i 1).isLt; have h2 : (i 2).val < 1024 := (i 2).isLt; omega)

/-- The normalised rows' array after the run. -/
theorem final9 (c : Dev nD) : (dats m 0 c).arrAt 9 cfg0.N = normOf m c :=
  (dats m 0 c).arrAt_eq_of_cover 9 (normOf m c) (fun t _ => flushed9_eq m c t) fun i =>
    (Value.covered_iff9 i).2 (by
      have h0 : (i 0).val < 524288 := (i 0).isLt; have h1 : (i 1).val < 128 := (i 1).isLt; omega)

/-- The experts' weights' array after the run. -/
theorem final11 (c : Dev nD) : (dats m 0 c).arrAt 11 cfg0.N = weightsOf m c :=
  (dats m 0 c).arrAt_eq_of_cover 11 (weightsOf m c) (fun t _ => flushed11_eq m c t) fun i =>
    (Value.covered_iff11 i).2 (by
      have h0 : (i 0).val < 128 := (i 0).isLt; have h1 : (i 1).val < 2 := (i 1).isLt; have h2 : (i 2).val < 512 := (i 2).isLt; omega)

end Value

/-- The fifth reference's program ends with every counter at zero, its arguments kept. -/
theorem frame_ref : Cert.quiescent_Reference5Ideal := fun m ρ _ =>
  (θ_run Cert.Reference5Ideal.defs _ _).mono
    (fun r h => ⟨fun c => (h c).2.2.2, sem_eq_zero_of_no_sems (by decide) r.2⟩) (Cert.Reference5Ideal.Value.run m ρ)

/-- The fifth kernel's sum, normalised rows and experts' weights are the fifth reference's. -/
theorem algebraic : Cert.algebraic_Kernel5Ideal_Reference5Ideal := by
  intro m ρ m' ρ' _ hagree
  refine ⟨fun c => sumOf m c, fun c => normOf m c, fun c => weightsOf m c,
    (θ_run defs _ _).mono (fun _ h c => ⟨(h c).1.trans (final8 m c), (h c).2.1.trans (final9 m c), (h c).2.2.2.1.trans (final11 m c), (h c).2.2.2.2.2⟩)
      (Value.run_blocks m ρ), ?_⟩
  refine (θ_run Cert.Reference5Ideal.defs _ _).mono (fun _ h c => ?_) (Cert.Reference5Ideal.Value.run m' ρ')
  obtain ⟨h0, h1, h2, hrest⟩ := h c
  obtain ⟨e0, e1, e2, e3, e4, e5, e6, e7⟩ := hagree c
  refine ⟨h0.trans ?_, h1.trans ?_, h2.trans ?_, hrest⟩
  · beta_reduce
    unfold sumOf
    rw [← e0, ← e1, ← e2, ← e3, ← e4]
    rfl
  · beta_reduce
    unfold normOf sumOf
    rw [← e0, ← e1, ← e2, ← e3, ← e4, ← e5]
    rfl
  · beta_reduce
    unfold weightsOf logitOf sumOf
    rw [← e0, ← e1, ← e2, ← e3, ← e4, ← e5, ← e6, ← e7]
    rfl

end Cert.PostClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_scores
public import proofs.«01_k».proof.Proof.Gen.Pre_finite_inputs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.MlaClaim
public import proofs.«01_k».proof.Proof.DiffClaim
public import proofs.«01_k».proof.Proof.PreClaim
public import proofs.«01_k».proof.Proof.AdaClaim
public import proofs.«01_k».proof.Proof.PostClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_scores.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  Cert.MlaClaim.frame_ref, Cert.MlaClaim.frame_ref_pre,
  fun m ρ _ => Cert.Kernel2.Gen.frame m ρ, fun m ρ _ => Cert.Kernel2Ideal.Gen.frame m ρ, fun m ρ _ => Cert.Kernel2Ideal.Gen.frame m ρ,
  Cert.DiffClaim.frame_ref, Cert.DiffClaim.frame_ref_pre,
  fun m ρ _ => Cert.Kernel3.Gen.frame m ρ, fun m ρ _ => Cert.Kernel3Ideal.Gen.frame m ρ, Cert.PreClaim.frame_ref,
  fun m ρ _ => Cert.Kernel4.Gen.frame m ρ, fun m ρ _ => Cert.Kernel4Ideal.Gen.frame m ρ, Cert.AdaClaim.frame_ref,
  fun m ρ _ => Cert.Kernel5.Gen.frame m ρ, fun m ρ _ => Cert.Kernel5Ideal.Gen.frame m ρ, Cert.PostClaim.frame_ref,
  trivial, Cert.MlaClaim.algebraic, trivial, Cert.DiffClaim.algebraic, trivial, Cert.PreClaim.algebraic, trivial, Cert.AdaClaim.algebraic,
  trivial, Cert.PostClaim.algebraic⟩

end Cert.Proof

end
